-- ==== Defs.lean ====
def Pre_Topk (m : (ℓ : Loc Cert.Topk.nD Cert.Topk.τ Cert.Topk.sig) → Buf (Elt Bits) ℓ) : Prop :=
  True

def Pre_TopkIdeal (m : (ℓ : Loc Cert.TopkIdeal.nD Cert.TopkIdeal.τ Cert.TopkIdeal.sig) → Buf (Elt Ideal) ℓ) : Prop :=
  True

def Pre_TopkIdeal_apart [hPre_apart : Cert.Pre_apart.Facts] (m : (ℓ : Loc Cert.TopkIdeal.nD Cert.TopkIdeal.τ Cert.TopkIdeal.sig) → Buf (Elt Ideal) ℓ) : Prop :=
  ∀ c : Dev Cert.TopkIdeal.nD,
    (Cert.Pre_apart.fn (F := Ideal) (m ((c.tc : Thread Cert.TopkIdeal.nD Cert.TopkIdeal.τ).loc Cert.TopkIdeal.main_arg0)) (m ((c.tc : Thread Cert.TopkIdeal.nD Cert.TopkIdeal.τ).loc Cert.TopkIdeal.main_arg1))) = (fun _ => 1#1)

def Pre_TopkRefIdeal (m : (ℓ : Loc Cert.TopkRefIdeal.nD Cert.TopkRefIdeal.τ Cert.TopkRefIdeal.sig) → Buf (Elt Ideal) ℓ) : Prop :=
  True

def Pre_TopkRefIdeal_apart [hPre_apart : Cert.Pre_apart.Facts] (m : (ℓ : Loc Cert.TopkRefIdeal.nD Cert.TopkRefIdeal.τ Cert.TopkRefIdeal.sig) → Buf (Elt Ideal) ℓ) : Prop :=
  ∀ c : Dev Cert.TopkRefIdeal.nD,
    (Cert.Pre_apart.fn (F := Ideal) (m ((c.tc : Thread Cert.TopkRefIdeal.nD Cert.TopkRefIdeal.τ).loc Cert.TopkRefIdeal.main_arg0)) (m ((c.tc : Thread Cert.TopkRefIdeal.nD Cert.TopkRefIdeal.τ).loc Cert.TopkRefIdeal.main_arg1))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_finite_gate [hPre_finite_gate : Cert.Pre_finite_gate.Facts] (m : (ℓ : Loc Cert.HeadIdeal.nD Cert.HeadIdeal.τ Cert.HeadIdeal.sig) → Buf (Elt Ideal) ℓ) : Prop :=
  ∀ c : Dev Cert.HeadIdeal.nD,
    (Cert.Pre_finite_gate.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8)) (m ((c.tc : Thread Cert.HeadIdeal.nD Cert.HeadIdeal.τ).loc Cert.HeadIdeal.main_arg9)) (m ((c.tc : Thread Cert.HeadIdeal.nD Cert.HeadIdeal.τ).loc Cert.HeadIdeal.main_arg10)) (m ((c.tc : Thread Cert.HeadIdeal.nD Cert.HeadIdeal.τ).loc Cert.HeadIdeal.main_arg11)) (m ((c.tc : Thread Cert.HeadIdeal.nD Cert.HeadIdeal.τ).loc Cert.HeadIdeal.main_arg12)) (m ((c.tc : Thread Cert.HeadIdeal.nD Cert.HeadIdeal.τ).loc Cert.HeadIdeal.main_arg13)) (m ((c.tc : Thread Cert.HeadIdeal.nD Cert.HeadIdeal.τ).loc Cert.HeadIdeal.main_arg14))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_finite_gate [hPre_finite_gate : Cert.Pre_finite_gate.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_finite_gate.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8)) (m ((c.tc : Thread Cert.HeadRefIdeal.nD Cert.HeadRefIdeal.τ).loc Cert.HeadRefIdeal.main_arg9)) (m ((c.tc : Thread Cert.HeadRefIdeal.nD Cert.HeadRefIdeal.τ).loc Cert.HeadRefIdeal.main_arg10)) (m ((c.tc : Thread Cert.HeadRefIdeal.nD Cert.HeadRefIdeal.τ).loc Cert.HeadRefIdeal.main_arg11)) (m ((c.tc : Thread Cert.HeadRefIdeal.nD Cert.HeadRefIdeal.τ).loc Cert.HeadRefIdeal.main_arg12)) (m ((c.tc : Thread Cert.HeadRefIdeal.nD Cert.HeadRefIdeal.τ).loc Cert.HeadRefIdeal.main_arg13)) (m ((c.tc : Thread Cert.HeadRefIdeal.nD Cert.HeadRefIdeal.τ).loc Cert.HeadRefIdeal.main_arg14))) = (fun _ => 1#1)

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_Local [hPre_in_bank : Cert.Pre_in_bank.Facts] (m : (ℓ : Loc Cert.Local.nD Cert.Local.τ Cert.Local.sig) → Buf (Elt Bits) ℓ) : Prop :=
  ∀ c : Dev Cert.Local.nD,
    (Cert.Pre_in_bank.fn (F := Bits) (m ((c.tc : Thread Cert.Local.nD Cert.Local.τ).loc Cert.Local.main_arg0)) (m ((c.tc : Thread Cert.Local.nD Cert.Local.τ).loc Cert.Local.main_arg1)) (m ((c.tc : Thread Cert.Local.nD Cert.Local.τ).loc Cert.Local.main_arg2)) (m ((c.tc : Thread Cert.Local.nD Cert.Local.τ).loc Cert.Local.main_arg3)) (m ((c.tc : Thread Cert.Local.nD Cert.Local.τ).loc Cert.Local.main_arg4)) (m ((c.tc : Thread Cert.Local.nD Cert.Local.τ).loc Cert.Local.main_arg5))) = (fun _ => 1#1)

def Pre_LocalIdeal [hPre_in_bank : Cert.Pre_in_bank.Facts] (m : (ℓ : Loc Cert.LocalIdeal.nD Cert.LocalIdeal.τ Cert.LocalIdeal.sig) → Buf (Elt Ideal) ℓ) : Prop :=
  ∀ c : Dev Cert.LocalIdeal.nD,
    (Cert.Pre_in_bank.fn (F := Ideal) (m ((c.tc : Thread Cert.LocalIdeal.nD Cert.LocalIdeal.τ).loc Cert.LocalIdeal.main_arg0)) (m ((c.tc : Thread Cert.LocalIdeal.nD Cert.LocalIdeal.τ).loc Cert.LocalIdeal.main_arg1)) (m ((c.tc : Thread Cert.LocalIdeal.nD Cert.LocalIdeal.τ).loc Cert.LocalIdeal.main_arg2)) (m ((c.tc : Thread Cert.LocalIdeal.nD Cert.LocalIdeal.τ).loc Cert.LocalIdeal.main_arg3)) (m ((c.tc : Thread Cert.LocalIdeal.nD Cert.LocalIdeal.τ).loc Cert.LocalIdeal.main_arg4)) (m ((c.tc : Thread Cert.LocalIdeal.nD Cert.LocalIdeal.τ).loc Cert.LocalIdeal.main_arg5))) = (fun _ => 1#1)

def Pre_LocalRefIdeal (m : (ℓ : Loc Cert.LocalRefIdeal.nD Cert.LocalRefIdeal.τ Cert.LocalRefIdeal.sig) → Buf (Elt Ideal) ℓ) : Prop :=
  True

def Pre_LocalRefIdeal_in_bank [hPre_in_bank : Cert.Pre_in_bank.Facts] (m : (ℓ : Loc Cert.LocalRefIdeal.nD Cert.LocalRefIdeal.τ Cert.LocalRefIdeal.sig) → Buf (Elt Ideal) ℓ) : Prop :=
  ∀ c : Dev Cert.LocalRefIdeal.nD,
    (Cert.Pre_in_bank.fn (F := Ideal) (m ((c.tc : Thread Cert.LocalRefIdeal.nD Cert.LocalRefIdeal.τ).loc Cert.LocalRefIdeal.main_arg0)) (m ((c.tc : Thread Cert.LocalRefIdeal.nD Cert.LocalRefIdeal.τ).loc Cert.LocalRefIdeal.main_arg1)) (m ((c.tc : Thread Cert.LocalRefIdeal.nD Cert.LocalRefIdeal.τ).loc Cert.LocalRefIdeal.main_arg2)) (m ((c.tc : Thread Cert.LocalRefIdeal.nD Cert.LocalRefIdeal.τ).loc Cert.LocalRefIdeal.main_arg3)) (m ((c.tc : Thread Cert.LocalRefIdeal.nD Cert.LocalRefIdeal.τ).loc Cert.LocalRefIdeal.main_arg4)) (m ((c.tc : Thread Cert.LocalRefIdeal.nD Cert.LocalRefIdeal.τ).loc Cert.LocalRefIdeal.main_arg5))) = (fun _ => 1#1)

def quiescent_Topk [hTopk : Cert.Topk.Facts] : Prop :=
  ∀ (m : (ℓ : Loc Cert.Topk.nD Cert.Topk.τ Cert.Topk.sig) → Buf (Elt Bits) ℓ) (g : Dev Cert.Topk.nD → PrngReg), Pre_Topk m →
    θ_run (Cert.Topk.defs (F := Bits)) (onTc (τ := Cert.Topk.τ) (Cert.Topk.main (F := Bits))) ⟨m, fun _ => 0, g⟩ (fun r => (∀ c : Dev Cert.Topk.nD,
      r.2.mem ((c.tc : Thread Cert.Topk.nD Cert.Topk.τ).loc Cert.Topk.main_arg0) = m ((c.tc : Thread Cert.Topk.nD Cert.Topk.τ).loc Cert.Topk.main_arg0)
      ∧ r.2.mem ((c.tc : Thread Cert.Topk.nD Cert.Topk.τ).loc Cert.Topk.main_arg1) = m ((c.tc : Thread Cert.Topk.nD Cert.Topk.τ).loc Cert.Topk.main_arg1))
      ∧ r.2.sem = fun _ => 0)

def quiescent_TopkIdeal [hTopkIdeal : Cert.TopkIdeal.Facts] : Prop :=
  ∀ (m : (ℓ : Loc Cert.TopkIdeal.nD Cert.TopkIdeal.τ Cert.TopkIdeal.sig) → Buf (Elt Ideal) ℓ) (g : Dev Cert.TopkIdeal.nD → PrngReg), Pre_TopkIdeal m →
    θ_run (Cert.TopkIdeal.defs (F := Ideal)) (onTc (τ := Cert.TopkIdeal.τ) (Cert.TopkIdeal.main (F := Ideal))) ⟨m, fun _ => 0, g⟩ (fun r => (∀ c : Dev Cert.TopkIdeal.nD,
      r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
      ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1))
      ∧ r.2.sem = fun _ => 0)

def quiescent_TopkIdeal_pre_apart [hTopkIdeal : Cert.TopkIdeal.Facts] [hPre_apart : Cert.Pre_apart.Facts] : Prop :=
  ∀ (m : (ℓ : Loc Cert.TopkIdeal.nD Cert.TopkIdeal.τ Cert.TopkIdeal.sig) → Buf (Elt Ideal) ℓ) (g : Dev Cert.TopkIdeal.nD → PrngReg), Pre_TopkIdeal_apart m →
    θ_run (Cert.TopkIdeal.defs (F := Ideal)) (onTc (τ := Cert.TopkIdeal.τ) (Cert.TopkIdeal.main (F := Ideal))) ⟨m, fun _ => 0, g⟩ (fun r => (∀ c : Dev Cert.TopkIdeal.nD,
      r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
      ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1))
      ∧ r.2.sem = fun _ => 0)

def quiescent_TopkRefIdeal [hTopkRefIdeal : Cert.TopkRefIdeal.Facts] : Prop :=
  ∀ (m : (ℓ : Loc Cert.TopkRefIdeal.nD Cert.TopkRefIdeal.τ Cert.TopkRefIdeal.sig) → Buf (Elt Ideal) ℓ) (g : Dev Cert.TopkRefIdeal.nD → PrngReg), Pre_TopkRefIdeal m →
    θ_run (Cert.TopkRefIdeal.defs (F := Ideal)) (onTc (τ := Cert.TopkRefIdeal.τ) (Cert.TopkRefIdeal.main (F := Ideal))) ⟨m, fun _ => 0, g⟩ (fun r => (∀ c : Dev Cert.TopkRefIdeal.nD,
      r.2.mem ((c.tc : Thread Cert.TopkRefIdeal.nD Cert.TopkRefIdeal.τ).loc Cert.TopkRefIdeal.main_arg0) = m ((c.tc : Thread Cert.TopkRefIdeal.nD Cert.TopkRefIdeal.τ).loc Cert.TopkRefIdeal.main_arg0)
      ∧ r.2.mem ((c.tc : Thread Cert.TopkRefIdeal.nD Cert.TopkRefIdeal.τ).loc Cert.TopkRefIdeal.main_arg1) = m ((c.tc : Thread Cert.TopkRefIdeal.nD Cert.TopkRefIdeal.τ).loc Cert.TopkRefIdeal.main_arg1))
      ∧ r.2.sem = fun _ => 0)

def quiescent_TopkRefIdeal_pre_apart [hTopkRefIdeal : Cert.TopkRefIdeal.Facts] [hPre_apart : Cert.Pre_apart.Facts] : Prop :=
  ∀ (m : (ℓ : Loc Cert.TopkRefIdeal.nD Cert.TopkRefIdeal.τ Cert.TopkRefIdeal.sig) → Buf (Elt Ideal) ℓ) (g : Dev Cert.TopkRefIdeal.nD → PrngReg), Pre_TopkRefIdeal_apart m →
    θ_run (Cert.TopkRefIdeal.defs (F := Ideal)) (onTc (τ := Cert.TopkRefIdeal.τ) (Cert.TopkRefIdeal.main (F := Ideal))) ⟨m, fun _ => 0, g⟩ (fun r => (∀ c : Dev Cert.TopkRefIdeal.nD,
      r.2.mem ((c.tc : Thread Cert.TopkRefIdeal.nD Cert.TopkRefIdeal.τ).loc Cert.TopkRefIdeal.main_arg0) = m ((c.tc : Thread Cert.TopkRefIdeal.nD Cert.TopkRefIdeal.τ).loc Cert.TopkRefIdeal.main_arg0)
      ∧ r.2.mem ((c.tc : Thread Cert.TopkRefIdeal.nD Cert.TopkRefIdeal.τ).loc Cert.TopkRefIdeal.main_arg1) = m ((c.tc : Thread Cert.TopkRefIdeal.nD Cert.TopkRefIdeal.τ).loc Cert.TopkRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8)
      ∧ r.2.mem ((c.tc : Thread Cert.Head.nD Cert.Head.τ).loc Cert.Head.main_arg9) = m ((c.tc : Thread Cert.Head.nD Cert.Head.τ).loc Cert.Head.main_arg9)
      ∧ r.2.mem ((c.tc : Thread Cert.Head.nD Cert.Head.τ).loc Cert.Head.main_arg10) = m ((c.tc : Thread Cert.Head.nD Cert.Head.τ).loc Cert.Head.main_arg10)
      ∧ r.2.mem ((c.tc : Thread Cert.Head.nD Cert.Head.τ).loc Cert.Head.main_arg11) = m ((c.tc : Thread Cert.Head.nD Cert.Head.τ).loc Cert.Head.main_arg11)
      ∧ r.2.mem ((c.tc : Thread Cert.Head.nD Cert.Head.τ).loc Cert.Head.main_arg12) = m ((c.tc : Thread Cert.Head.nD Cert.Head.τ).loc Cert.Head.main_arg12)
      ∧ r.2.mem ((c.tc : Thread Cert.Head.nD Cert.Head.τ).loc Cert.Head.main_arg13) = m ((c.tc : Thread Cert.Head.nD Cert.Head.τ).loc Cert.Head.main_arg13)
      ∧ r.2.mem ((c.tc : Thread Cert.Head.nD Cert.Head.τ).loc Cert.Head.main_arg14) = m ((c.tc : Thread Cert.Head.nD Cert.Head.τ).loc Cert.Head.main_arg14))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10)
      ∧ r.2.mem ((c.tc : Thread Cert.HeadIdeal.nD Cert.HeadIdeal.τ).loc Cert.HeadIdeal.main_arg11) = m ((c.tc : Thread Cert.HeadIdeal.nD Cert.HeadIdeal.τ).loc Cert.HeadIdeal.main_arg11)
      ∧ r.2.mem ((c.tc : Thread Cert.HeadIdeal.nD Cert.HeadIdeal.τ).loc Cert.HeadIdeal.main_arg12) = m ((c.tc : Thread Cert.HeadIdeal.nD Cert.HeadIdeal.τ).loc Cert.HeadIdeal.main_arg12)
      ∧ r.2.mem ((c.tc : Thread Cert.HeadIdeal.nD Cert.HeadIdeal.τ).loc Cert.HeadIdeal.main_arg13) = m ((c.tc : Thread Cert.HeadIdeal.nD Cert.HeadIdeal.τ).loc Cert.HeadIdeal.main_arg13)
      ∧ r.2.mem ((c.tc : Thread Cert.HeadIdeal.nD Cert.HeadIdeal.τ).loc Cert.HeadIdeal.main_arg14) = m ((c.tc : Thread Cert.HeadIdeal.nD Cert.HeadIdeal.τ).loc Cert.HeadIdeal.main_arg14))
      ∧ r.2.sem = fun _ => 0)

def quiescent_HeadIdeal_pre_finite_gate [hHeadIdeal : Cert.HeadIdeal.Facts] [hPre_finite_gate : Cert.Pre_finite_gate.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_finite_gate m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
      ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
      ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10)
      ∧ r.2.mem ((c.tc : Thread Cert.HeadIdeal.nD Cert.HeadIdeal.τ).loc Cert.HeadIdeal.main_arg11) = m ((c.tc : Thread Cert.HeadIdeal.nD Cert.HeadIdeal.τ).loc Cert.HeadIdeal.main_arg11)
      ∧ r.2.mem ((c.tc : Thread Cert.HeadIdeal.nD Cert.HeadIdeal.τ).loc Cert.HeadIdeal.main_arg12) = m ((c.tc : Thread Cert.HeadIdeal.nD Cert.HeadIdeal.τ).loc Cert.HeadIdeal.main_arg12)
      ∧ r.2.mem ((c.tc : Thread Cert.HeadIdeal.nD Cert.HeadIdeal.τ).loc Cert.HeadIdeal.main_arg13) = m ((c.tc : Thread Cert.HeadIdeal.nD Cert.HeadIdeal.τ).loc Cert.HeadIdeal.main_arg13)
      ∧ r.2.mem ((c.tc : Thread Cert.HeadIdeal.nD Cert.HeadIdeal.τ).loc Cert.HeadIdeal.main_arg14) = m ((c.tc : Thread Cert.HeadIdeal.nD Cert.HeadIdeal.τ).loc Cert.HeadIdeal.main_arg14))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9)
      ∧ r.2.mem ((c.tc : Thread Cert.HeadRefIdeal.nD Cert.HeadRefIdeal.τ).loc Cert.HeadRefIdeal.main_arg10) = m ((c.tc : Thread Cert.HeadRefIdeal.nD Cert.HeadRefIdeal.τ).loc Cert.HeadRefIdeal.main_arg10)
      ∧ r.2.mem ((c.tc : Thread Cert.HeadRefIdeal.nD Cert.HeadRefIdeal.τ).loc Cert.HeadRefIdeal.main_arg11) = m ((c.tc : Thread Cert.HeadRefIdeal.nD Cert.HeadRefIdeal.τ).loc Cert.HeadRefIdeal.main_arg11)
      ∧ r.2.mem ((c.tc : Thread Cert.HeadRefIdeal.nD Cert.HeadRefIdeal.τ).loc Cert.HeadRefIdeal.main_arg12) = m ((c.tc : Thread Cert.HeadRefIdeal.nD Cert.HeadRefIdeal.τ).loc Cert.HeadRefIdeal.main_arg12)
      ∧ r.2.mem ((c.tc : Thread Cert.HeadRefIdeal.nD Cert.HeadRefIdeal.τ).loc Cert.HeadRefIdeal.main_arg13) = m ((c.tc : Thread Cert.HeadRefIdeal.nD Cert.HeadRefIdeal.τ).loc Cert.HeadRefIdeal.main_arg13)
      ∧ r.2.mem ((c.tc : Thread Cert.HeadRefIdeal.nD Cert.HeadRefIdeal.τ).loc Cert.HeadRefIdeal.main_arg14) = m ((c.tc : Thread Cert.HeadRefIdeal.nD Cert.HeadRefIdeal.τ).loc Cert.HeadRefIdeal.main_arg14))
      ∧ r.2.sem = fun _ => 0)

def quiescent_HeadRefIdeal_pre_finite_gate [hHeadRefIdeal : Cert.HeadRefIdeal.Facts] [hPre_finite_gate : Cert.Pre_finite_gate.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_finite_gate m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8)
      ∧ r.2.mem ((c.tc : Thread Cert.HeadRefIdeal.nD Cert.HeadRefIdeal.τ).loc Cert.HeadRefIdeal.main_arg9) = m ((c.tc : Thread Cert.HeadRefIdeal.nD Cert.HeadRefIdeal.τ).loc Cert.HeadRefIdeal.main_arg9)
      ∧ r.2.mem ((c.tc : Thread Cert.HeadRefIdeal.nD Cert.HeadRefIdeal.τ).loc Cert.HeadRefIdeal.main_arg10) = m ((c.tc : Thread Cert.HeadRefIdeal.nD Cert.HeadRefIdeal.τ).loc Cert.HeadRefIdeal.main_arg10)
      ∧ r.2.mem ((c.tc : Thread Cert.HeadRefIdeal.nD Cert.HeadRefIdeal.τ).loc Cert.HeadRefIdeal.main_arg11) = m ((c.tc : Thread Cert.HeadRefIdeal.nD Cert.HeadRefIdeal.τ).loc Cert.HeadRefIdeal.main_arg11)
      ∧ r.2.mem ((c.tc : Thread Cert.HeadRefIdeal.nD Cert.HeadRefIdeal.τ).loc Cert.HeadRefIdeal.main_arg12) = m ((c.tc : Thread Cert.HeadRefIdeal.nD Cert.HeadRefIdeal.τ).loc Cert.HeadRefIdeal.main_arg12)
      ∧ r.2.mem ((c.tc : Thread Cert.HeadRefIdeal.nD Cert.HeadRefIdeal.τ).loc Cert.HeadRefIdeal.main_arg13) = m ((c.tc : Thread Cert.HeadRefIdeal.nD Cert.HeadRefIdeal.τ).loc Cert.HeadRefIdeal.main_arg13)
      ∧ r.2.mem ((c.tc : Thread Cert.HeadRefIdeal.nD Cert.HeadRefIdeal.τ).loc Cert.HeadRefIdeal.main_arg14) = m ((c.tc : Thread Cert.HeadRefIdeal.nD Cert.HeadRefIdeal.τ).loc Cert.HeadRefIdeal.main_arg14))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2))
      ∧ r.2.sem = fun _ => 0)

def quiescent_Local [hLocal : Cert.Local.Facts] [hPre_in_bank : Cert.Pre_in_bank.Facts] : Prop :=
  ∀ (m : (ℓ : Loc Cert.Local.nD Cert.Local.τ Cert.Local.sig) → Buf (Elt Bits) ℓ) (g : Dev Cert.Local.nD → PrngReg), Pre_Local m →
    θ_run (Cert.Local.defs (F := Bits)) (onTc (τ := Cert.Local.τ) (Cert.Local.main (F := Bits))) ⟨m, fun _ => 0, g⟩ (fun r => (∀ c : Dev Cert.Local.nD,
      r.2.mem ((c.tc : Thread Cert.Local.nD Cert.Local.τ).loc Cert.Local.main_arg0) = m ((c.tc : Thread Cert.Local.nD Cert.Local.τ).loc Cert.Local.main_arg0)
      ∧ r.2.mem ((c.tc : Thread Cert.Local.nD Cert.Local.τ).loc Cert.Local.main_arg1) = m ((c.tc : Thread Cert.Local.nD Cert.Local.τ).loc Cert.Local.main_arg1)
      ∧ r.2.mem ((c.tc : Thread Cert.Local.nD Cert.Local.τ).loc Cert.Local.main_arg2) = m ((c.tc : Thread Cert.Local.nD Cert.Local.τ).loc Cert.Local.main_arg2)
      ∧ r.2.mem ((c.tc : Thread Cert.Local.nD Cert.Local.τ).loc Cert.Local.main_arg3) = m ((c.tc : Thread Cert.Local.nD Cert.Local.τ).loc Cert.Local.main_arg3)
      ∧ r.2.mem ((c.tc : Thread Cert.Local.nD Cert.Local.τ).loc Cert.Local.main_arg4) = m ((c.tc : Thread Cert.Local.nD Cert.Local.τ).loc Cert.Local.main_arg4)
      ∧ r.2.mem ((c.tc : Thread Cert.Local.nD Cert.Local.τ).loc Cert.Local.main_arg5) = m ((c.tc : Thread Cert.Local.nD Cert.Local.τ).loc Cert.Local.main_arg5))
      ∧ r.2.sem = fun _ => 0)

def quiescent_LocalIdeal [hLocalIdeal : Cert.LocalIdeal.Facts] [hPre_in_bank : Cert.Pre_in_bank.Facts] : Prop :=
  ∀ (m : (ℓ : Loc Cert.LocalIdeal.nD Cert.LocalIdeal.τ Cert.LocalIdeal.sig) → Buf (Elt Ideal) ℓ) (g : Dev Cert.LocalIdeal.nD → PrngReg), Pre_LocalIdeal m →
    θ_run (Cert.LocalIdeal.defs (F := Ideal)) (onTc (τ := Cert.LocalIdeal.τ) (Cert.LocalIdeal.main (F := Ideal))) ⟨m, fun _ => 0, g⟩ (fun r => (∀ c : Dev Cert.LocalIdeal.nD,
      r.2.mem ((c.tc : Thread Cert.LocalIdeal.nD Cert.LocalIdeal.τ).loc Cert.LocalIdeal.main_arg0) = m ((c.tc : Thread Cert.LocalIdeal.nD Cert.LocalIdeal.τ).loc Cert.LocalIdeal.main_arg0)
      ∧ r.2.mem ((c.tc : Thread Cert.LocalIdeal.nD Cert.LocalIdeal.τ).loc Cert.LocalIdeal.main_arg1) = m ((c.tc : Thread Cert.LocalIdeal.nD Cert.LocalIdeal.τ).loc Cert.LocalIdeal.main_arg1)
      ∧ r.2.mem ((c.tc : Thread Cert.LocalIdeal.nD Cert.LocalIdeal.τ).loc Cert.LocalIdeal.main_arg2) = m ((c.tc : Thread Cert.LocalIdeal.nD Cert.LocalIdeal.τ).loc Cert.LocalIdeal.main_arg2)
      ∧ r.2.mem ((c.tc : Thread Cert.LocalIdeal.nD Cert.LocalIdeal.τ).loc Cert.LocalIdeal.main_arg3) = m ((c.tc : Thread Cert.LocalIdeal.nD Cert.LocalIdeal.τ).loc Cert.LocalIdeal.main_arg3)
      ∧ r.2.mem ((c.tc : Thread Cert.LocalIdeal.nD Cert.LocalIdeal.τ).loc Cert.LocalIdeal.main_arg4) = m ((c.tc : Thread Cert.LocalIdeal.nD Cert.LocalIdeal.τ).loc Cert.LocalIdeal.main_arg4)
      ∧ r.2.mem ((c.tc : Thread Cert.LocalIdeal.nD Cert.LocalIdeal.τ).loc Cert.LocalIdeal.main_arg5) = m ((c.tc : Thread Cert.LocalIdeal.nD Cert.LocalIdeal.τ).loc Cert.LocalIdeal.main_arg5))
      ∧ r.2.sem = fun _ => 0)

def quiescent_LocalRefIdeal [hLocalRefIdeal : Cert.LocalRefIdeal.Facts] : Prop :=
  ∀ (m : (ℓ : Loc Cert.LocalRefIdeal.nD Cert.LocalRefIdeal.τ Cert.LocalRefIdeal.sig) → Buf (Elt Ideal) ℓ) (g : Dev Cert.LocalRefIdeal.nD → PrngReg), Pre_LocalRefIdeal m →
    θ_run (Cert.LocalRefIdeal.defs (F := Ideal)) (onTc (τ := Cert.LocalRefIdeal.τ) (Cert.LocalRefIdeal.main (F := Ideal))) ⟨m, fun _ => 0, g⟩ (fun r => (∀ c : Dev Cert.LocalRefIdeal.nD,
      r.2.mem ((c.tc : Thread Cert.LocalRefIdeal.nD Cert.LocalRefIdeal.τ).loc Cert.LocalRefIdeal.main_arg0) = m ((c.tc : Thread Cert.LocalRefIdeal.nD Cert.LocalRefIdeal.τ).loc Cert.LocalRefIdeal.main_arg0)
      ∧ r.2.mem ((c.tc : Thread Cert.LocalRefIdeal.nD Cert.LocalRefIdeal.τ).loc Cert.LocalRefIdeal.main_arg1) = m ((c.tc : Thread Cert.LocalRefIdeal.nD Cert.LocalRefIdeal.τ).loc Cert.LocalRefIdeal.main_arg1)
      ∧ r.2.mem ((c.tc : Thread Cert.LocalRefIdeal.nD Cert.LocalRefIdeal.τ).loc Cert.LocalRefIdeal.main_arg2) = m ((c.tc : Thread Cert.LocalRefIdeal.nD Cert.LocalRefIdeal.τ).loc Cert.LocalRefIdeal.main_arg2)
      ∧ r.2.mem ((c.tc : Thread Cert.LocalRefIdeal.nD Cert.LocalRefIdeal.τ).loc Cert.LocalRefIdeal.main_arg3) = m ((c.tc : Thread Cert.LocalRefIdeal.nD Cert.LocalRefIdeal.τ).loc Cert.LocalRefIdeal.main_arg3)
      ∧ r.2.mem ((c.tc : Thread Cert.LocalRefIdeal.nD Cert.LocalRefIdeal.τ).loc Cert.LocalRefIdeal.main_arg4) = m ((c.tc : Thread Cert.LocalRefIdeal.nD Cert.LocalRefIdeal.τ).loc Cert.LocalRefIdeal.main_arg4)
      ∧ r.2.mem ((c.tc : Thread Cert.LocalRefIdeal.nD Cert.LocalRefIdeal.τ).loc Cert.LocalRefIdeal.main_arg5) = m ((c.tc : Thread Cert.LocalRefIdeal.nD Cert.LocalRefIdeal.τ).loc Cert.LocalRefIdeal.main_arg5))
      ∧ r.2.sem = fun _ => 0)

def quiescent_LocalRefIdeal_pre_in_bank [hLocalRefIdeal : Cert.LocalRefIdeal.Facts] [hPre_in_bank : Cert.Pre_in_bank.Facts] : Prop :=
  ∀ (m : (ℓ : Loc Cert.LocalRefIdeal.nD Cert.LocalRefIdeal.τ Cert.LocalRefIdeal.sig) → Buf (Elt Ideal) ℓ) (g : Dev Cert.LocalRefIdeal.nD → PrngReg), Pre_LocalRefIdeal_in_bank m →
    θ_run (Cert.LocalRefIdeal.defs (F := Ideal)) (onTc (τ := Cert.LocalRefIdeal.τ) (Cert.LocalRefIdeal.main (F := Ideal))) ⟨m, fun _ => 0, g⟩ (fun r => (∀ c : Dev Cert.LocalRefIdeal.nD,
      r.2.mem ((c.tc : Thread Cert.LocalRefIdeal.nD Cert.LocalRefIdeal.τ).loc Cert.LocalRefIdeal.main_arg0) = m ((c.tc : Thread Cert.LocalRefIdeal.nD Cert.LocalRefIdeal.τ).loc Cert.LocalRefIdeal.main_arg0)
      ∧ r.2.mem ((c.tc : Thread Cert.LocalRefIdeal.nD Cert.LocalRefIdeal.τ).loc Cert.LocalRefIdeal.main_arg1) = m ((c.tc : Thread Cert.LocalRefIdeal.nD Cert.LocalRefIdeal.τ).loc Cert.LocalRefIdeal.main_arg1)
      ∧ r.2.mem ((c.tc : Thread Cert.LocalRefIdeal.nD Cert.LocalRefIdeal.τ).loc Cert.LocalRefIdeal.main_arg2) = m ((c.tc : Thread Cert.LocalRefIdeal.nD Cert.LocalRefIdeal.τ).loc Cert.LocalRefIdeal.main_arg2)
      ∧ r.2.mem ((c.tc : Thread Cert.LocalRefIdeal.nD Cert.LocalRefIdeal.τ).loc Cert.LocalRefIdeal.main_arg3) = m ((c.tc : Thread Cert.LocalRefIdeal.nD Cert.LocalRefIdeal.τ).loc Cert.LocalRefIdeal.main_arg3)
      ∧ r.2.mem ((c.tc : Thread Cert.LocalRefIdeal.nD Cert.LocalRefIdeal.τ).loc Cert.LocalRefIdeal.main_arg4) = m ((c.tc : Thread Cert.LocalRefIdeal.nD Cert.LocalRefIdeal.τ).loc Cert.LocalRefIdeal.main_arg4)
      ∧ r.2.mem ((c.tc : Thread Cert.LocalRefIdeal.nD Cert.LocalRefIdeal.τ).loc Cert.LocalRefIdeal.main_arg5) = m ((c.tc : Thread Cert.LocalRefIdeal.nD Cert.LocalRefIdeal.τ).loc Cert.LocalRefIdeal.main_arg5))
      ∧ r.2.sem = fun _ => 0)

def preserves_Topk_TopkIdeal : Prop :=
  IdealRules.named_const.Statement Cert.TopkIdeal.κ "masked" .f32 0xF149F2CA#32 ⊥

def algebraic_TopkIdeal_TopkRefIdeal_pre_apart [hTopkIdeal : Cert.TopkIdeal.Facts] [hTopkRefIdeal : Cert.TopkRefIdeal.Facts] [hPre_apart : Cert.Pre_apart.Facts] : Prop :=
  ∀ (m : (ℓ : Loc Cert.TopkIdeal.nD Cert.TopkIdeal.τ Cert.TopkIdeal.sig) → Buf (Elt Ideal) ℓ) (g : Dev Cert.TopkIdeal.nD → PrngReg)
    (m' : (ℓ : Loc Cert.TopkRefIdeal.nD Cert.TopkRefIdeal.τ Cert.TopkRefIdeal.sig) → Buf (Elt Ideal) ℓ) (g' : Dev Cert.TopkRefIdeal.nD → PrngReg), Pre_TopkIdeal_apart m →
    (∀ c : Dev Cert.TopkIdeal.nD,
      m' ((c.tc : Thread Cert.TopkRefIdeal.nD Cert.TopkRefIdeal.τ).loc Cert.TopkRefIdeal.main_arg0) = m ((c.tc : Thread Cert.TopkIdeal.nD Cert.TopkIdeal.τ).loc Cert.TopkIdeal.main_arg0)
      ∧ m' ((c.tc : Thread Cert.TopkRefIdeal.nD Cert.TopkRefIdeal.τ).loc Cert.TopkRefIdeal.main_arg1) = m ((c.tc : Thread Cert.TopkIdeal.nD Cert.TopkIdeal.τ).loc Cert.TopkIdeal.main_arg1)) →
    ∃ (v0 : (c : Dev Cert.TopkIdeal.nD) → Buf (Elt Ideal) ((c.tc : Thread Cert.TopkIdeal.nD Cert.TopkIdeal.τ).loc Cert.TopkIdeal.main_v0)),
      θ_run (Cert.TopkIdeal.defs (F := Ideal)) (onTc (τ := Cert.TopkIdeal.τ) (Cert.TopkIdeal.main (F := Ideal))) ⟨m, fun _ => 0, g⟩ (fun r => ∀ c : Dev Cert.TopkIdeal.nD,
          r.2.mem ((c.tc : Thread Cert.TopkIdeal.nD Cert.TopkIdeal.τ).loc Cert.TopkIdeal.main_v0) = v0 c
          ∧ r.2.mem ((c.tc : Thread Cert.TopkIdeal.nD Cert.TopkIdeal.τ).loc Cert.TopkIdeal.main_arg0) = m ((c.tc : Thread Cert.TopkIdeal.nD Cert.TopkIdeal.τ).loc Cert.TopkIdeal.main_arg0)
          ∧ r.2.mem ((c.tc : Thread Cert.TopkIdeal.nD Cert.TopkIdeal.τ).loc Cert.TopkIdeal.main_arg1) = m ((c.tc : Thread Cert.TopkIdeal.nD Cert.TopkIdeal.τ).loc Cert.TopkIdeal.main_arg1))
      ∧ θ_run (Cert.TopkRefIdeal.defs (F := Ideal)) (onTc (τ := Cert.TopkRefIdeal.τ) (Cert.TopkRefIdeal.main (F := Ideal))) ⟨m', fun _ => 0, g'⟩ (fun r => ∀ c : Dev Cert.TopkRefIdeal.nD,
          r.2.mem ((c.tc : Thread Cert.TopkRefIdeal.nD Cert.TopkRefIdeal.τ).loc Cert.TopkRefIdeal.main_indices) = v0 c
          ∧ r.2.mem ((c.tc : Thread Cert.TopkRefIdeal.nD Cert.TopkRefIdeal.τ).loc Cert.TopkRefIdeal.main_arg0) = m' ((c.tc : Thread Cert.TopkRefIdeal.nD Cert.TopkRefIdeal.τ).loc Cert.TopkRefIdeal.main_arg0)
          ∧ r.2.mem ((c.tc : Thread Cert.TopkRefIdeal.nD Cert.TopkRefIdeal.τ).loc Cert.TopkRefIdeal.main_arg1) = m' ((c.tc : Thread Cert.TopkRefIdeal.nD Cert.TopkRefIdeal.τ).loc Cert.TopkRefIdeal.main_arg1))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v38) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def preserves_Head_HeadIdeal : Prop :=
  True

def algebraic_HeadIdeal_HeadRefIdeal_pre_finite_gate [hHeadIdeal : Cert.HeadIdeal.Facts] [hHeadRefIdeal : Cert.HeadRefIdeal.Facts] [hPre_finite_gate : Cert.Pre_finite_gate.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_finite_gate m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)
      ∧ m' ((c.tc : Thread Cert.HeadRefIdeal.nD Cert.HeadRefIdeal.τ).loc Cert.HeadRefIdeal.main_arg9) = m ((c.tc : Thread Cert.HeadIdeal.nD Cert.HeadIdeal.τ).loc Cert.HeadIdeal.main_arg9)
      ∧ m' ((c.tc : Thread Cert.HeadRefIdeal.nD Cert.HeadRefIdeal.τ).loc Cert.HeadRefIdeal.main_arg10) = m ((c.tc : Thread Cert.HeadIdeal.nD Cert.HeadIdeal.τ).loc Cert.HeadIdeal.main_arg10)
      ∧ m' ((c.tc : Thread Cert.HeadRefIdeal.nD Cert.HeadRefIdeal.τ).loc Cert.HeadRefIdeal.main_arg11) = m ((c.tc : Thread Cert.HeadIdeal.nD Cert.HeadIdeal.τ).loc Cert.HeadIdeal.main_arg11)
      ∧ m' ((c.tc : Thread Cert.HeadRefIdeal.nD Cert.HeadRefIdeal.τ).loc Cert.HeadRefIdeal.main_arg12) = m ((c.tc : Thread Cert.HeadIdeal.nD Cert.HeadIdeal.τ).loc Cert.HeadIdeal.main_arg12)
      ∧ m' ((c.tc : Thread Cert.HeadRefIdeal.nD Cert.HeadRefIdeal.τ).loc Cert.HeadRefIdeal.main_arg13) = m ((c.tc : Thread Cert.HeadIdeal.nD Cert.HeadIdeal.τ).loc Cert.HeadIdeal.main_arg13)
      ∧ m' ((c.tc : Thread Cert.HeadRefIdeal.nD Cert.HeadRefIdeal.τ).loc Cert.HeadRefIdeal.main_arg14) = m ((c.tc : Thread Cert.HeadIdeal.nD Cert.HeadIdeal.τ).loc Cert.HeadIdeal.main_arg14)) →
    ∃ (v0 : (c : Dev Cert.HeadIdeal.nD) → Buf (Elt Ideal) ((c.tc : Thread Cert.HeadIdeal.nD Cert.HeadIdeal.τ).loc Cert.HeadIdeal.main_v16)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v16) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8)
          ∧ r.2.mem ((c.tc : Thread Cert.HeadIdeal.nD Cert.HeadIdeal.τ).loc Cert.HeadIdeal.main_arg9) = m ((c.tc : Thread Cert.HeadIdeal.nD Cert.HeadIdeal.τ).loc Cert.HeadIdeal.main_arg9)
          ∧ r.2.mem ((c.tc : Thread Cert.HeadIdeal.nD Cert.HeadIdeal.τ).loc Cert.HeadIdeal.main_arg10) = m ((c.tc : Thread Cert.HeadIdeal.nD Cert.HeadIdeal.τ).loc Cert.HeadIdeal.main_arg10)
          ∧ r.2.mem ((c.tc : Thread Cert.HeadIdeal.nD Cert.HeadIdeal.τ).loc Cert.HeadIdeal.main_arg11) = m ((c.tc : Thread Cert.HeadIdeal.nD Cert.HeadIdeal.τ).loc Cert.HeadIdeal.main_arg11)
          ∧ r.2.mem ((c.tc : Thread Cert.HeadIdeal.nD Cert.HeadIdeal.τ).loc Cert.HeadIdeal.main_arg12) = m ((c.tc : Thread Cert.HeadIdeal.nD Cert.HeadIdeal.τ).loc Cert.HeadIdeal.main_arg12)
          ∧ r.2.mem ((c.tc : Thread Cert.HeadIdeal.nD Cert.HeadIdeal.τ).loc Cert.HeadIdeal.main_arg13) = m ((c.tc : Thread Cert.HeadIdeal.nD Cert.HeadIdeal.τ).loc Cert.HeadIdeal.main_arg13)
          ∧ r.2.mem ((c.tc : Thread Cert.HeadIdeal.nD Cert.HeadIdeal.τ).loc Cert.HeadIdeal.main_arg14) = m ((c.tc : Thread Cert.HeadIdeal.nD Cert.HeadIdeal.τ).loc Cert.HeadIdeal.main_arg14))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v72) = v0 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8)
          ∧ r.2.mem ((c.tc : Thread Cert.HeadRefIdeal.nD Cert.HeadRefIdeal.τ).loc Cert.HeadRefIdeal.main_arg9) = m' ((c.tc : Thread Cert.HeadRefIdeal.nD Cert.HeadRefIdeal.τ).loc Cert.HeadRefIdeal.main_arg9)
          ∧ r.2.mem ((c.tc : Thread Cert.HeadRefIdeal.nD Cert.HeadRefIdeal.τ).loc Cert.HeadRefIdeal.main_arg10) = m' ((c.tc : Thread Cert.HeadRefIdeal.nD Cert.HeadRefIdeal.τ).loc Cert.HeadRefIdeal.main_arg10)
          ∧ r.2.mem ((c.tc : Thread Cert.HeadRefIdeal.nD Cert.HeadRefIdeal.τ).loc Cert.HeadRefIdeal.main_arg11) = m' ((c.tc : Thread Cert.HeadRefIdeal.nD Cert.HeadRefIdeal.τ).loc Cert.HeadRefIdeal.main_arg11)
          ∧ r.2.mem ((c.tc : Thread Cert.HeadRefIdeal.nD Cert.HeadRefIdeal.τ).loc Cert.HeadRefIdeal.main_arg12) = m' ((c.tc : Thread Cert.HeadRefIdeal.nD Cert.HeadRefIdeal.τ).loc Cert.HeadRefIdeal.main_arg12)
          ∧ r.2.mem ((c.tc : Thread Cert.HeadRefIdeal.nD Cert.HeadRefIdeal.τ).loc Cert.HeadRefIdeal.main_arg13) = m' ((c.tc : Thread Cert.HeadRefIdeal.nD Cert.HeadRefIdeal.τ).loc Cert.HeadRefIdeal.main_arg13)
          ∧ r.2.mem ((c.tc : Thread Cert.HeadRefIdeal.nD Cert.HeadRefIdeal.τ).loc Cert.HeadRefIdeal.main_arg14) = m' ((c.tc : Thread Cert.HeadRefIdeal.nD Cert.HeadRefIdeal.τ).loc Cert.HeadRefIdeal.main_arg14))

def preserves_Embed_EmbedIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)) →
    ∃ (v0 : (c : Dev Cert.EmbedIdeal.nD) → Buf (Elt Ideal) ((c.tc : Thread Cert.EmbedIdeal.nD Cert.EmbedIdeal.τ).loc Cert.EmbedIdeal.main_v37)) (v1 : (c : Dev Cert.EmbedIdeal.nD) → Buf (Elt Ideal) ((c.tc : Thread Cert.EmbedIdeal.nD Cert.EmbedIdeal.τ).loc Cert.EmbedIdeal.main_v38)) (v2 : (c : Dev Cert.EmbedIdeal.nD) → Buf (Elt Ideal) ((c.tc : Thread Cert.EmbedIdeal.nD Cert.EmbedIdeal.τ).loc Cert.EmbedIdeal.main_v9)) (v3 : (c : Dev Cert.EmbedIdeal.nD) → Buf (Elt Ideal) ((c.tc : Thread Cert.EmbedIdeal.nD Cert.EmbedIdeal.τ).loc Cert.EmbedIdeal.main_v3)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v37) = v0 c
          ∧ r.2.mem ((c.tc : Thread Cert.EmbedIdeal.nD Cert.EmbedIdeal.τ).loc Cert.EmbedIdeal.main_v38) = v1 c
          ∧ r.2.mem ((c.tc : Thread Cert.EmbedIdeal.nD Cert.EmbedIdeal.τ).loc Cert.EmbedIdeal.main_v9) = v2 c
          ∧ r.2.mem ((c.tc : Thread Cert.EmbedIdeal.nD Cert.EmbedIdeal.τ).loc Cert.EmbedIdeal.main_v3) = v3 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v39) = v0 c
          ∧ r.2.mem ((c.tc : Thread Cert.EmbedRefIdeal.nD Cert.EmbedRefIdeal.τ).loc Cert.EmbedRefIdeal.main_v42) = v1 c
          ∧ r.2.mem ((c.tc : Thread Cert.EmbedRefIdeal.nD Cert.EmbedRefIdeal.τ).loc Cert.EmbedRefIdeal.main_v11) = v2 c
          ∧ r.2.mem ((c.tc : Thread Cert.EmbedRefIdeal.nD Cert.EmbedRefIdeal.τ).loc Cert.EmbedRefIdeal.main_v3) = v3 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2))

def preserves_Local_LocalIdeal : Prop :=
  True

def algebraic_LocalIdeal_LocalRefIdeal [hLocalIdeal : Cert.LocalIdeal.Facts] [hLocalRefIdeal : Cert.LocalRefIdeal.Facts] [hPre_in_bank : Cert.Pre_in_bank.Facts] : Prop :=
  ∀ (m : (ℓ : Loc Cert.LocalIdeal.nD Cert.LocalIdeal.τ Cert.LocalIdeal.sig) → Buf (Elt Ideal) ℓ) (g : Dev Cert.LocalIdeal.nD → PrngReg)
    (m' : (ℓ : Loc Cert.LocalRefIdeal.nD Cert.LocalRefIdeal.τ Cert.LocalRefIdeal.sig) → Buf (Elt Ideal) ℓ) (g' : Dev Cert.LocalRefIdeal.nD → PrngReg), Pre_LocalIdeal m →
    (∀ c : Dev Cert.LocalIdeal.nD,
      m' ((c.tc : Thread Cert.LocalRefIdeal.nD Cert.LocalRefIdeal.τ).loc Cert.LocalRefIdeal.main_arg0) = m ((c.tc : Thread Cert.LocalIdeal.nD Cert.LocalIdeal.τ).loc Cert.LocalIdeal.main_arg0)
      ∧ m' ((c.tc : Thread Cert.LocalRefIdeal.nD Cert.LocalRefIdeal.τ).loc Cert.LocalRefIdeal.main_arg1) = m ((c.tc : Thread Cert.LocalIdeal.nD Cert.LocalIdeal.τ).loc Cert.LocalIdeal.main_arg1)
      ∧ m' ((c.tc : Thread Cert.LocalRefIdeal.nD Cert.LocalRefIdeal.τ).loc Cert.LocalRefIdeal.main_arg2) = m ((c.tc : Thread Cert.LocalIdeal.nD Cert.LocalIdeal.τ).loc Cert.LocalIdeal.main_arg2)
      ∧ m' ((c.tc : Thread Cert.LocalRefIdeal.nD Cert.LocalRefIdeal.τ).loc Cert.LocalRefIdeal.main_arg3) = m ((c.tc : Thread Cert.LocalIdeal.nD Cert.LocalIdeal.τ).loc Cert.LocalIdeal.main_arg3)
      ∧ m' ((c.tc : Thread Cert.LocalRefIdeal.nD Cert.LocalRefIdeal.τ).loc Cert.LocalRefIdeal.main_arg4) = m ((c.tc : Thread Cert.LocalIdeal.nD Cert.LocalIdeal.τ).loc Cert.LocalIdeal.main_arg4)
      ∧ m' ((c.tc : Thread Cert.LocalRefIdeal.nD Cert.LocalRefIdeal.τ).loc Cert.LocalRefIdeal.main_arg5) = m ((c.tc : Thread Cert.LocalIdeal.nD Cert.LocalIdeal.τ).loc Cert.LocalIdeal.main_arg5)) →
    ∃ (v0 : (c : Dev Cert.LocalIdeal.nD) → Buf (Elt Ideal) ((c.tc : Thread Cert.LocalIdeal.nD Cert.LocalIdeal.τ).loc Cert.LocalIdeal.main_v3)),
      θ_run (Cert.LocalIdeal.defs (F := Ideal)) (onTc (τ := Cert.LocalIdeal.τ) (Cert.LocalIdeal.main (F := Ideal))) ⟨m, fun _ => 0, g⟩ (fun r => ∀ c : Dev Cert.LocalIdeal.nD,
          r.2.mem ((c.tc : Thread Cert.LocalIdeal.nD Cert.LocalIdeal.τ).loc Cert.LocalIdeal.main_v3) = v0 c
          ∧ r.2.mem ((c.tc : Thread Cert.LocalIdeal.nD Cert.LocalIdeal.τ).loc Cert.LocalIdeal.main_arg0) = m ((c.tc : Thread Cert.LocalIdeal.nD Cert.LocalIdeal.τ).loc Cert.LocalIdeal.main_arg0)
          ∧ r.2.mem ((c.tc : Thread Cert.LocalIdeal.nD Cert.LocalIdeal.τ).loc Cert.LocalIdeal.main_arg1) = m ((c.tc : Thread Cert.LocalIdeal.nD Cert.LocalIdeal.τ).loc Cert.LocalIdeal.main_arg1)
          ∧ r.2.mem ((c.tc : Thread Cert.LocalIdeal.nD Cert.LocalIdeal.τ).loc Cert.LocalIdeal.main_arg2) = m ((c.tc : Thread Cert.LocalIdeal.nD Cert.LocalIdeal.τ).loc Cert.LocalIdeal.main_arg2)
          ∧ r.2.mem ((c.tc : Thread Cert.LocalIdeal.nD Cert.LocalIdeal.τ).loc Cert.LocalIdeal.main_arg3) = m ((c.tc : Thread Cert.LocalIdeal.nD Cert.LocalIdeal.τ).loc Cert.LocalIdeal.main_arg3)
          ∧ r.2.mem ((c.tc : Thread Cert.LocalIdeal.nD Cert.LocalIdeal.τ).loc Cert.LocalIdeal.main_arg4) = m ((c.tc : Thread Cert.LocalIdeal.nD Cert.LocalIdeal.τ).loc Cert.LocalIdeal.main_arg4)
          ∧ r.2.mem ((c.tc : Thread Cert.LocalIdeal.nD Cert.LocalIdeal.τ).loc Cert.LocalIdeal.main_arg5) = m ((c.tc : Thread Cert.LocalIdeal.nD Cert.LocalIdeal.τ).loc Cert.LocalIdeal.main_arg5))
      ∧ θ_run (Cert.LocalRefIdeal.defs (F := Ideal)) (onTc (τ := Cert.LocalRefIdeal.τ) (Cert.LocalRefIdeal.main (F := Ideal))) ⟨m', fun _ => 0, g'⟩ (fun r => ∀ c : Dev Cert.LocalRefIdeal.nD,
          r.2.mem ((c.tc : Thread Cert.LocalRefIdeal.nD Cert.LocalRefIdeal.τ).loc Cert.LocalRefIdeal.main_v26) = v0 c
          ∧ r.2.mem ((c.tc : Thread Cert.LocalRefIdeal.nD Cert.LocalRefIdeal.τ).loc Cert.LocalRefIdeal.main_arg0) = m' ((c.tc : Thread Cert.LocalRefIdeal.nD Cert.LocalRefIdeal.τ).loc Cert.LocalRefIdeal.main_arg0)
          ∧ r.2.mem ((c.tc : Thread Cert.LocalRefIdeal.nD Cert.LocalRefIdeal.τ).loc Cert.LocalRefIdeal.main_arg1) = m' ((c.tc : Thread Cert.LocalRefIdeal.nD Cert.LocalRefIdeal.τ).loc Cert.LocalRefIdeal.main_arg1)
          ∧ r.2.mem ((c.tc : Thread Cert.LocalRefIdeal.nD Cert.LocalRefIdeal.τ).loc Cert.LocalRefIdeal.main_arg2) = m' ((c.tc : Thread Cert.LocalRefIdeal.nD Cert.LocalRefIdeal.τ).loc Cert.LocalRefIdeal.main_arg2)
          ∧ r.2.mem ((c.tc : Thread Cert.LocalRefIdeal.nD Cert.LocalRefIdeal.τ).loc Cert.LocalRefIdeal.main_arg3) = m' ((c.tc : Thread Cert.LocalRefIdeal.nD Cert.LocalRefIdeal.τ).loc Cert.LocalRefIdeal.main_arg3)
          ∧ r.2.mem ((c.tc : Thread Cert.LocalRefIdeal.nD Cert.LocalRefIdeal.τ).loc Cert.LocalRefIdeal.main_arg4) = m' ((c.tc : Thread Cert.LocalRefIdeal.nD Cert.LocalRefIdeal.τ).loc Cert.LocalRefIdeal.main_arg4)
          ∧ r.2.mem ((c.tc : Thread Cert.LocalRefIdeal.nD Cert.LocalRefIdeal.τ).loc Cert.LocalRefIdeal.main_arg5) = m' ((c.tc : Thread Cert.LocalRefIdeal.nD Cert.LocalRefIdeal.τ).loc Cert.LocalRefIdeal.main_arg5))

def Claim : Prop :=
  ∃ (hTopk : Cert.Topk.Facts) (hTopkIdeal : Cert.TopkIdeal.Facts) (hTopkRefIdeal : Cert.TopkRefIdeal.Facts) (hAttn : Cert.Attn.Facts) (hAttnIdeal : Cert.AttnIdeal.Facts) (hAttnRefIdeal : Cert.AttnRefIdeal.Facts) (hHead : Cert.Head.Facts) (hHeadIdeal : Cert.HeadIdeal.Facts) (hHeadRefIdeal : Cert.HeadRefIdeal.Facts) (hEmbed : Cert.Embed.Facts) (hEmbedIdeal : Cert.EmbedIdeal.Facts) (hEmbedRefIdeal : Cert.EmbedRefIdeal.Facts) (hLocal : Cert.Local.Facts) (hLocalIdeal : Cert.LocalIdeal.Facts) (hLocalRefIdeal : Cert.LocalRefIdeal.Facts) (hPre_apart : Cert.Pre_apart.Facts) (hPre_finite_gate : Cert.Pre_finite_gate.Facts) (hPre_in_bank : Cert.Pre_in_bank.Facts),
    quiescent_Topk (hTopk := hTopk)
    ∧ quiescent_TopkIdeal (hTopkIdeal := hTopkIdeal)
    ∧ quiescent_TopkIdeal_pre_apart (hTopkIdeal := hTopkIdeal) (hPre_apart := hPre_apart)
    ∧ quiescent_TopkRefIdeal (hTopkRefIdeal := hTopkRefIdeal)
    ∧ quiescent_TopkRefIdeal_pre_apart (hTopkRefIdeal := hTopkRefIdeal) (hPre_apart := hPre_apart)
    ∧ quiescent_Attn (hAttn := hAttn)
    ∧ quiescent_AttnIdeal (hAttnIdeal := hAttnIdeal)
    ∧ quiescent_AttnRefIdeal (hAttnRefIdeal := hAttnRefIdeal)
    ∧ quiescent_Head (hHead := hHead)
    ∧ quiescent_HeadIdeal (hHeadIdeal := hHeadIdeal)
    ∧ quiescent_HeadIdeal_pre_finite_gate (hHeadIdeal := hHeadIdeal) (hPre_finite_gate := hPre_finite_gate)
    ∧ quiescent_HeadRefIdeal (hHeadRefIdeal := hHeadRefIdeal)
    ∧ quiescent_HeadRefIdeal_pre_finite_gate (hHeadRefIdeal := hHeadRefIdeal) (hPre_finite_gate := hPre_finite_gate)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_Local (hLocal := hLocal) (hPre_in_bank := hPre_in_bank)
    ∧ quiescent_LocalIdeal (hLocalIdeal := hLocalIdeal) (hPre_in_bank := hPre_in_bank)
    ∧ quiescent_LocalRefIdeal (hLocalRefIdeal := hLocalRefIdeal)
    ∧ quiescent_LocalRefIdeal_pre_in_bank (hLocalRefIdeal := hLocalRefIdeal) (hPre_in_bank := hPre_in_bank)
    ∧ preserves_Topk_TopkIdeal
    ∧ algebraic_TopkIdeal_TopkRefIdeal_pre_apart (hTopkIdeal := hTopkIdeal) (hTopkRefIdeal := hTopkRefIdeal) (hPre_apart := hPre_apart)
    ∧ preserves_Attn_AttnIdeal
    ∧ algebraic_AttnIdeal_AttnRefIdeal (hAttnIdeal := hAttnIdeal) (hAttnRefIdeal := hAttnRefIdeal)
    ∧ preserves_Head_HeadIdeal
    ∧ algebraic_HeadIdeal_HeadRefIdeal_pre_finite_gate (hHeadIdeal := hHeadIdeal) (hHeadRefIdeal := hHeadRefIdeal) (hPre_finite_gate := hPre_finite_gate)
    ∧ preserves_Embed_EmbedIdeal
    ∧ algebraic_EmbedIdeal_EmbedRefIdeal (hEmbedIdeal := hEmbedIdeal) (hEmbedRefIdeal := hEmbedRefIdeal)
    ∧ preserves_Local_LocalIdeal
    ∧ algebraic_LocalIdeal_LocalRefIdeal (hLocalIdeal := hLocalIdeal) (hLocalRefIdeal := hLocalRefIdeal) (hPre_in_bank := hPre_in_bank)
-- ==== Pre_apart.lean ====
abbrev S224x256 : Shape := ⟨2, ![224, 256]⟩
abbrev S100000x256 : Shape := ⟨2, ![100000, 256]⟩
abbrev S256x100000 : Shape := ⟨2, ![256, 100000]⟩
abbrev S224x100000 : Shape := ⟨2, ![224, 100000]⟩
abbrev S224x6 : Shape := ⟨2, ![224, 6]⟩
abbrev S224x5 : Shape := ⟨2, ![224, 5]⟩

class Facts : Prop where
  transposes_S100000x256_S256x100000_1_0 : S100000x256.Transposes [1, 0] S256x100000
  sliceFits_S224x100000_S224x6 : S224x100000.Slices (fun _ => 0) S224x6
  slices_S224x6_S224x5_0_0 : S224x6.Slices ![0, 0] S224x5
  slices_S224x6_S224x5_0_1 : S224x6.Slices ![0, 1] S224x5
  dot_S224x256_S256x100000_S224x100000_1_0_0_1_n_n_wf : DotDims.WF S224x256 S256x100000 S224x100000 [1] [0] [0] [1] [] []

variable [Facts]

def dot_S224x256_S256x100000_S224x100000_1_0_0_1_n_n : DotDims S224x256 S256x100000 S224x100000 where
  lhsContracting := [1]
  rhsContracting := [0]
  lhsNonContracting := [0]
  rhsNonContracting := [1]
  lhsBatch := []
  rhsBatch := []
  wf := dot_S224x256_S256x100000_S224x100000_1_0_0_1_n_n_wf
def fn {F : FTy → Type} [FloatOps F] (main_arg0 : FVec F S224x256 .f32) (main_arg1 : FVec F S100000x256 .f32) : IVec S224x5 1 :=
  let main_v0 : FVec F S256x100000 .f32 := (transpose S256x100000 [1, 0] · transposes_S100000x256_S256x100000_1_0) main_arg1
  let main_v1 : FVec F S224x100000 .f32 := (fun l r => Host.dotGeneral dot_S224x256_S256x100000_S224x100000_1_0_0_1_n_n none l r) main_arg0 main_v0
  let main_values : FVec F S224x6 .f32 := (fun x => (Host.topK S224x6 1 (FloatOps.cmpfTotal .gt) x sliceFits_S224x100000_S224x6).1) main_v1
  let main_indices : IVec S224x6 32 := (fun x => (Host.topK S224x6 1 (FloatOps.cmpfTotal .gt) x sliceFits_S224x100000_S224x6).2) main_v1
  let main_v2 : FVec F S224x5 .f32 := (extractStridedSlice S224x5 ![0, 0] · slices_S224x6_S224x5_0_0) main_values
  let main_v3 : FVec F S224x5 .f32 := (extractStridedSlice S224x5 ![0, 1] · slices_S224x6_S224x5_0_1) main_values
  let main_v4 : IVec S224x5 1 := cmpf .ogt main_v2 main_v3
  main_v4
-- ==== Pre_finite_gate.lean ====
abbrev S224x64x256 : Shape := ⟨3, ![224, 64, 256]⟩
abbrev S224x256 : Shape := ⟨2, ![224, 256]⟩
abbrev S32x1x7 : Shape := ⟨3, ![32, 1, 7]⟩
abbrev S512x256 : Shape := ⟨2, ![512, 256]⟩
abbrev S256 : Shape := ⟨1, ![256]⟩
abbrev S256x2 : Shape := ⟨2, ![256, 2]⟩
abbrev S2 : Shape := ⟨1, ![2]⟩
abbrev S16384x96 : Shape := ⟨2, ![16384, 96]⟩
abbrev S96 : Shape := ⟨1, ![96]⟩
abbrev S96x192 : Shape := ⟨2, ![96, 192]⟩
abbrev S192 : Shape := ⟨1, ![192]⟩
abbrev S192x96 : Shape := ⟨2, ![192, 96]⟩
abbrev S224x1x256 : Shape := ⟨3, ![224, 1, 256]⟩
abbrev S224x64x512 : Shape := ⟨3, ![224, 64, 512]⟩
abbrev S1x1x256 : Shape := ⟨3, ![1, 1, 256]⟩
abbrev S_ : Shape := ⟨0, ![]⟩
abbrev S224x64x2 : Shape := ⟨3, ![224, 64, 2]⟩
abbrev S1x1x2 : Shape := ⟨3, ![1, 1, 2]⟩

class Facts : Prop where
  bcast_S224x256_S224x1x256_0_2 : S224x256.BroadcastsInDim S224x1x256 (![0, 2] : Fin 2 → Fin S224x1x256.rank)
  bcast_S224x1x256_S224x64x256_0_1_2 : S224x1x256.BroadcastsInDim S224x64x256 (![0, 1, 2] : Fin 3 → Fin S224x64x256.rank)
  concatenates_S224x64x256_S224x64x256_S224x64x512_d2 : Shape.Concatenates [S224x64x256, S224x64x256] S224x64x512 2
  bcast_S256_S1x1x256_2 : S256.BroadcastsInDim S1x1x256 (![2] : Fin 1 → Fin S1x1x256.rank)
  bcast_S1x1x256_S224x64x256_0_1_2 : S1x1x256.BroadcastsInDim S224x64x256 (![0, 1, 2] : Fin 3 → Fin S224x64x256.rank)
  bcast_S_S224x64x256 : S_.BroadcastsInDim S224x64x256 (![] : Fin 0 → Fin S224x64x256.rank)
  bcast_S2_S1x1x2_2 : S2.BroadcastsInDim S1x1x2 (![2] : Fin 1 → Fin S1x1x2.rank)
  bcast_S1x1x2_S224x64x2_0_1_2 : S1x1x2.BroadcastsInDim S224x64x2 (![0, 1, 2] : Fin 3 → Fin S224x64x2.rank)
  bcast_S_S224x64x2 : S_.BroadcastsInDim S224x64x2 (![] : Fin 0 → Fin S224x64x2.rank)
  dot_S224x64x512_S512x256_S224x64x256_2_0_01_1_n_n_wf : DotDims.WF S224x64x512 S512x256 S224x64x256 [2] [0] [0, 1] [1] [] []
  dot_S224x64x256_S256x2_S224x64x2_2_0_01_1_n_n_wf : DotDims.WF S224x64x256 S256x2 S224x64x2 [2] [0] [0, 1] [1] [] []

variable [Facts]

def dot_S224x64x512_S512x256_S224x64x256_2_0_01_1_n_n : DotDims S224x64x512 S512x256 S224x64x256 where
  lhsContracting := [2]
  rhsContracting := [0]
  lhsNonContracting := [0, 1]
  rhsNonContracting := [1]
  lhsBatch := []
  rhsBatch := []
  wf := dot_S224x64x512_S512x256_S224x64x256_2_0_01_1_n_n_wf
def dot_S224x64x256_S256x2_S224x64x2_2_0_01_1_n_n : DotDims S224x64x256 S256x2 S224x64x2 where
  lhsContracting := [2]
  rhsContracting := [0]
  lhsNonContracting := [0, 1]
  rhsNonContracting := [1]
  lhsBatch := []
  rhsBatch := []
  wf := dot_S224x64x256_S256x2_S224x64x2_2_0_01_1_n_n_wf
def fn_part1 {F : FTy → Type} [FloatOps F] (main_v19 : FVec F S224x64x2 .f32) (main_v20 : FVec F S224x64x2 .f32) : IVec S224x64x2 1 :=
  let main_v21 : IVec S224x64x2 1 := cmpf .olt main_v19 main_v20
  main_v21

def fn {F : FTy → Type} [FloatOps F] (main_arg0 : FVec F S224x64x256 .f32) (main_arg1 : FVec F S224x256 .f32) (main_arg2 : FVec F S224x64x256 .f32) (main_arg3 : FVec F S32x1x7 .f32) (main_arg4 : FVec F S32x1x7 .f32) (main_arg5 : FVec F S512x256 .f32) (main_arg6 : FVec F S256 .f32) (main_arg7 : FVec F S256x2 .f32) (main_arg8 : FVec F S2 .f32) (main_arg9 : FVec F S16384x96 .f32) (main_arg10 : FVec F S96 .f32) (main_arg11 : FVec F S96x192 .f32) (main_arg12 : FVec F S192 .f32) (main_arg13 : FVec F S192x96 .f32) (main_arg14 : FVec F S96 .f32) : IVec S224x64x2 1 :=
  let main_v0 : FVec F S224x1x256 .f32 := broadcastInDim S224x1x256 ![0, 2] bcast_S224x256_S224x1x256_0_2 main_arg1
  let main_v1 : FVec F S224x64x256 .f32 := broadcastInDim S224x64x256 ![0, 1, 2] bcast_S224x1x256_S224x64x256_0_1_2 main_v0
  let main_v2 : FVec F S224x64x256 .f32 := addf main_v1 main_arg0
  let main_v3 : FVec F S224x64x512 .f32 := (fun a b => concatenate S224x64x512 2 [⟨S224x64x256, a⟩, ⟨S224x64x256, b⟩] concatenates_S224x64x256_S224x64x256_S224x64x512_d2) main_v2 main_arg2
  let main_v4 : FVec F S224x64x256 .f32 := (fun l r => Host.dotGeneral dot_S224x64x512_S512x256_S224x64x256_2_0_01_1_n_n none l r) main_v3 main_arg5
  let main_v5 : FVec F S1x1x256 .f32 := broadcastInDim S1x1x256 ![2] bcast_S256_S1x1x256_2 main_arg6
  let main_v6 : FVec F S224x64x256 .f32 := broadcastInDim S224x64x256 ![0, 1, 2] bcast_S1x1x256_S224x64x256_0_1_2 main_v5
  let main_v7 : FVec F S224x64x256 .f32 := addf main_v4 main_v6
  let main_cst : FVec F S_ .f32 := constant S_ .f32 0x3F000000#32
  let main_v8 : FVec F S224x64x256 .f32 := broadcastInDim S224x64x256 ![] bcast_S_S224x64x256 main_cst
  let main_v9 : FVec F S224x64x256 .f32 := mulf main_v8 main_v7
  let main_v10 : FVec F S224x64x256 .f32 := Host.negf main_v7
  let main_cst_0 : FVec F S_ .f32 := constant S_ .f32 0x3F3504F3#32
  let main_v11 : FVec F S224x64x256 .f32 := broadcastInDim S224x64x256 ![] bcast_S_S224x64x256 main_cst_0
  let main_v12 : FVec F S224x64x256 .f32 := mulf main_v10 main_v11
  let main_v13 : FVec F S224x64x256 .f32 := Host.erfc main_v12
  let main_v14 : FVec F S224x64x256 .f32 := mulf main_v9 main_v13
  let main_v15 : FVec F S224x64x2 .f32 := (fun l r => Host.dotGeneral dot_S224x64x256_S256x2_S224x64x2_2_0_01_1_n_n none l r) main_v14 main_arg7
  let main_v16 : FVec F S1x1x2 .f32 := broadcastInDim S1x1x2 ![2] bcast_S2_S1x1x2_2 main_arg8
  let main_v17 : FVec F S224x64x2 .f32 := broadcastInDim S224x64x2 ![0, 1, 2] bcast_S1x1x2_S224x64x2_0_1_2 main_v16
  let main_v18 : FVec F S224x64x2 .f32 := addf main_v15 main_v17
  let main_v19 : FVec F S224x64x2 .f32 := Host.absf main_v18
  let main_cst_1 : FVec F S_ .f32 := constant S_ .f32 0x7F800000#32
  let main_v20 : FVec F S224x64x2 .f32 := broadcastInDim S224x64x2 ![] bcast_S_S224x64x2 main_cst_1
  fn_part1 (F := F) main_v19 main_v20
-- ==== Pre_in_bank.lean ====
abbrev S1120 : Shape := ⟨1, ![1120]⟩
abbrev S100000x256 : Shape := ⟨2, ![100000, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S1120 : S_.BroadcastsInDim S1120 (![] : Fin 0 → Fin S1120.rank)

variable [Facts]

def fn {F : FTy → Type} [FloatOps F] (main_arg0 : IVec S1120 32) (main_arg1 : FVec F S100000x256 .f32) (main_arg2 : FVec F S256x512 .f32) (main_arg3 : FVec F S512 .f32) (main_arg4 : FVec F S512x256 .f32) (main_arg5 : FVec F S256 .f32) : IVec S1120 1 :=
  let main_c : IVec S_ 32 := constantI S_ 32 0#32
  let main_v0 : IVec S1120 32 := broadcastInDim S1120 ![] bcast_S_S1120 main_c
  let main_v1 : IVec S1120 1 := cmpi .sge main_arg0 main_v0
  let main_c_0 : IVec S_ 32 := constantI S_ 32 100000#32
  let main_v2 : IVec S1120 32 := broadcastInDim S1120 ![] bcast_S_S1120 main_c_0
  let main_v3 : IVec S1120 1 := cmpi .slt main_arg0 main_v2
  let main_v4 : IVec S1120 1 := andi main_v1 main_v3
  main_v4
-- ==== Topk.lean ====
abbrev S224x256 : Shape := ⟨2, ![224, 256]⟩
abbrev S100000x256 : Shape := ⟨2, ![100000, 256]⟩
abbrev S224x5 : Shape := ⟨2, ![224, 5]⟩
abbrev S4000x256 : Shape := ⟨2, ![4000, 256]⟩
abbrev S224x4000 : Shape := ⟨2, ![224, 4000]⟩
abbrev S224x4005 : Shape := ⟨2, ![224, 4005]⟩
abbrev S224 : Shape := ⟨1, ![224]⟩
abbrev S224x1 : Shape := ⟨2, ![224, 1]⟩

abbrev nBuf : Space → Nat
  | .hbm => 3
  | .vmem => 6
  | .smem => 0
  | _ => 0

abbrev bufTy : (tb : Table) → Fin (tcTables nBuf tb) → BufTy
  | .hbm, ⟨0, _⟩ => ⟨S224x256, .f32⟩
  | .hbm, ⟨1, _⟩ => ⟨S100000x256, .f32⟩
  | .hbm, ⟨2, _⟩ => ⟨S224x5, .i32⟩
  | .local _ .vmem, ⟨0, _⟩ => ⟨S224x256, .f32⟩
  | .local _ .vmem, ⟨1, _⟩ => ⟨S4000x256, .f32⟩
  | .local _ .vmem, ⟨2, _⟩ => ⟨S4000x256, .f32⟩
  | .local _ .vmem, ⟨3, _⟩ => ⟨S224x5, .i32⟩
  | .local _ .vmem, ⟨4, _⟩ => ⟨S224x5, .f32⟩
  | .local _ .vmem, ⟨5, _⟩ => ⟨S224x5, .i32⟩
  | _, _ => ⟨S224x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v103 : BitVec 1 := Scalar.cmpi .eq arg0 c24_i32
  let v104 : BitVec 32 := Scalar.extui v103
  let c0_i32_40 : BitVec 32 := 0#32
  let v105 : BitVec 1 := Scalar.cmpi .ne v104 c0_i32_40
  v105

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S224x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S224x5 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== TopkIdeal.lean ====
variable {F : FTy → Type} [FloatOps F] [Named F]
def κ : String → Option EReal := fun
  | "masked" => some ⊥
  | _ => none
-- ==== TopkRefIdeal.lean ====
abbrev S224x256 : Shape := ⟨2, ![224, 256]⟩
abbrev S100000x256 : Shape := ⟨2, ![100000, 256]⟩
abbrev S256x100000 : Shape := ⟨2, ![256, 100000]⟩
abbrev S224x100000 : Shape := ⟨2, ![224, 100000]⟩
abbrev S224x5 : Shape := ⟨2, ![224, 5]⟩

abbrev nBuf : Space → Nat
  | .hbm => 6
  | .vmem => 0
  | .smem => 0
  | _ => 0

abbrev bufTy : (tb : Table) → Fin (tcTables nBuf tb) → BufTy
  | .hbm, ⟨0, _⟩ => ⟨S224x256, .f32⟩
  | .hbm, ⟨1, _⟩ => ⟨S100000x256, .f32⟩
  | .hbm, ⟨2, _⟩ => ⟨S256x100000, .f32⟩
  | .hbm, ⟨3, _⟩ => ⟨S224x100000, .f32⟩
  | .hbm, ⟨4, _⟩ => ⟨S224x5, .f32⟩
  | .hbm, ⟨5, _⟩ => ⟨S224x5, .i32⟩
  | _, _ => ⟨S224x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩

abbrev nD : Nat := 1
abbrev τ : Topo := Topo.v7x

variable {F : FTy → Type} [FloatOps F]
-- ==== Attn.lean ====
abbrev S224x64x256 : Shape := ⟨3, ![224, 64, 256]⟩
abbrev S256x256 : Shape := ⟨2, ![256, 256]⟩
abbrev S256 : Shape := ⟨1, ![256]⟩
abbrev S1x256 : Shape := ⟨2, ![1, 256]⟩
abbrev S16x64x256 : Shape := ⟨3, ![16, 64, 256]⟩
abbrev S1024x256 : Shape := ⟨2, ![1024, 256]⟩
abbrev S1024x64 : Shape := ⟨2, ![1024, 64]⟩
abbrev S16x64x64 : Shape := ⟨3, ![16, 64, 64]⟩
abbrev S16x64 : Shape := ⟨2, ![16, 64]⟩
abbrev S16x64x1 : Shape := ⟨3, ![16, 64, 1]⟩

abbrev nBuf : Space → Nat
  | .hbm => 14
  | .vmem => 12
  | .smem => 0
  | _ => 0

abbrev bufTy : (tb : Table) → Fin (tcTables nBuf tb) → BufTy
  | .hbm, ⟨0, _⟩ => ⟨S224x64x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S224x64x256, .f32⟩
  | .local _ .vmem, ⟨0, _⟩ => ⟨S16x64x256, .f32⟩
  | .local _ .vmem, ⟨1, _⟩ => ⟨S16x64x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S16x64x256, .f32⟩
  | .local _ .vmem, ⟨11, _⟩ => ⟨S16x64x256, .f32⟩
  | _, _ => ⟨S224x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![14], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnRefIdeal.lean ====
abbrev S224x64x256 : Shape := ⟨3, ![224, 64, 256]⟩
abbrev S256x256 : Shape := ⟨2, ![256, 256]⟩
abbrev S256 : Shape := ⟨1, ![256]⟩
abbrev S1x1x256 : Shape := ⟨3, ![1, 1, 256]⟩
abbrev S224x64x4x64 : Shape := ⟨4, ![224, 64, 4, 64]⟩
abbrev S224x4x64x64 : Shape := ⟨4, ![224, 4, 64, 64]⟩
abbrev S_ : Shape := ⟨0, ![]⟩
abbrev S224x4x64 : Shape := ⟨3, ![224, 4, 64]⟩
abbrev S224x4x64x1 : Shape := ⟨4, ![224, 4, 64, 1]⟩

abbrev nBuf : Space → Nat
  | .hbm => 52
  | .vmem => 0
  | .smem => 0
  | _ => 0

abbrev bufTy : (tb : Table) → Fin (tcTables nBuf tb) → BufTy
  | .hbm, ⟨0, _⟩ => ⟨S224x64x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S224x64x256, .f32⟩
  | .hbm, ⟨10, _⟩ => ⟨S1x1x256, .f32⟩
  | .hbm, ⟨11, _⟩ => ⟨S224x64x256, .f32⟩
  | .hbm, ⟨12, _⟩ => ⟨S224x64x256, .f32⟩
  | .hbm, ⟨13, _⟩ => ⟨S224x64x4x64, .f32⟩
  | .hbm, ⟨14, _⟩ => ⟨S224x4x64x64, .f32⟩
  | .hbm, ⟨15, _⟩ => ⟨S224x64x256, .f32⟩
  | .hbm, ⟨16, _⟩ => ⟨S1x1x256, .f32⟩
  | .hbm, ⟨17, _⟩ => ⟨S224x64x256, .f32⟩
  | .hbm, ⟨18, _⟩ => ⟨S224x64x256, .f32⟩
  | .hbm, ⟨19, _⟩ => ⟨S224x64x4x64, .f32⟩
  | .hbm, ⟨20, _⟩ => ⟨S224x4x64x64, .f32⟩
  | .hbm, ⟨21, _⟩ => ⟨S224x64x256, .f32⟩
  | .hbm, ⟨22, _⟩ => ⟨S1x1x256, .f32⟩
  | .hbm, ⟨23, _⟩ => ⟨S224x64x256, .f32⟩
  | .hbm, ⟨24, _⟩ => ⟨S224x64x256, .f32⟩
  | .hbm, ⟨25, _⟩ => ⟨S224x64x4x64, .f32⟩
  | .hbm, ⟨26, _⟩ => ⟨S224x4x64x64, .f32⟩
  | .hbm, ⟨27, _⟩ => ⟨S224x4x64x64, .f32⟩
  | .hbm, ⟨28, _⟩ => ⟨S_, .f32⟩
  | .hbm, ⟨29, _⟩ => ⟨S224x4x64x64, .f32⟩
  | .hbm, ⟨30, _⟩ => ⟨S224x4x64x64, .f32⟩
  | .hbm, ⟨31, _⟩ => ⟨S_, .f32⟩
  | .hbm, ⟨32, _⟩ => ⟨S224x4x64, .f32⟩
  | .hbm, ⟨33, _⟩ => ⟨S_, .f32⟩
  | .hbm, ⟨34, _⟩ => ⟨S224x4x64, .f32⟩
  | .hbm, ⟨35, _⟩ => ⟨S224x4x64, .f32⟩
  | .hbm, ⟨36, _⟩ => ⟨S224x4x64x1, .f32⟩
  | .hbm, ⟨37, _⟩ => ⟨S224x4x64x64, .f32⟩
  | .hbm, ⟨38, _⟩ => ⟨S224x4x64x64, .f32⟩
  | .hbm, ⟨39, _⟩ => ⟨S224x4x64x64, .f32⟩
  | .hbm, ⟨40, _⟩ => ⟨S_, .f32⟩
  | .hbm, ⟨41, _⟩ => ⟨S224x4x64, .f32⟩
  | .hbm, ⟨42, _⟩ => ⟨S224x4x64x1, .f32⟩
  | .hbm, ⟨43, _⟩ => ⟨S224x4x64x64, .f32⟩
  | .hbm, ⟨44, _⟩ => ⟨S224x4x64x64, .f32⟩
  | .hbm, ⟨45, _⟩ => ⟨S224x4x64x64, .f32⟩
  | .hbm, ⟨46, _⟩ => ⟨S224x64x4x64, .f32⟩
  | .hbm, ⟨47, _⟩ => ⟨S224x64x256, .f32⟩
  | .hbm, ⟨48, _⟩ => ⟨S224x64x256, .f32⟩
  | .hbm, ⟨49, _⟩ => ⟨S1x1x256, .f32⟩
  | .hbm, ⟨50, _⟩ => ⟨S224x64x256, .f32⟩
  | .hbm, ⟨51, _⟩ => ⟨S224x64x256, .f32⟩
  | _, _ => ⟨S224x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Head.lean ====
abbrev S224x64x256 : Shape := ⟨3, ![224, 64, 256]⟩
abbrev S224x256 : Shape := ⟨2, ![224, 256]⟩
abbrev S32x1x7 : Shape := ⟨3, ![32, 1, 7]⟩
abbrev S512x256 : Shape := ⟨2, ![512, 256]⟩
abbrev S256 : Shape := ⟨1, ![256]⟩
abbrev S256x2 : Shape := ⟨2, ![256, 2]⟩
abbrev S2 : Shape := ⟨1, ![2]⟩
abbrev S16384x96 : Shape := ⟨2, ![16384, 96]⟩
abbrev S96 : Shape := ⟨1, ![96]⟩
abbrev S96x192 : Shape := ⟨2, ![96, 192]⟩
abbrev S192 : Shape := ⟨1, ![192]⟩
abbrev S192x96 : Shape := ⟨2, ![192, 96]⟩
abbrev S64x256x96 : Shape := ⟨3, ![64, 256, 96]⟩
abbrev S64x224x256 : Shape := ⟨3, ![64, 224, 256]⟩
abbrev S256x256 : Shape := ⟨2, ![256, 256]⟩
abbrev S1x256 : Shape := ⟨2, ![1, 256]⟩
abbrev S1x2 : Shape := ⟨2, ![1, 2]⟩
abbrev S1x96 : Shape := ⟨2, ![1, 96]⟩
abbrev S1x192 : Shape := ⟨2, ![1, 192]⟩
abbrev S224x96 : Shape := ⟨2, ![224, 96]⟩
abbrev S4x224x256 : Shape := ⟨3, ![4, 224, 256]⟩
abbrev S4x256x96 : Shape := ⟨3, ![4, 256, 96]⟩
abbrev S1x224x256 : Shape := ⟨3, ![1, 224, 256]⟩
abbrev S896x256 : Shape := ⟨2, ![896, 256]⟩
abbrev S896x2 : Shape := ⟨2, ![896, 2]⟩
abbrev S896x1 : Shape := ⟨2, ![896, 1]⟩
abbrev S1x256x96 : Shape := ⟨3, ![1, 256, 96]⟩
abbrev S256x96 : Shape := ⟨2, ![256, 96]⟩
abbrev S224x192 : Shape := ⟨2, ![224, 192]⟩
abbrev S32x7x96 : Shape := ⟨3, ![32, 7, 96]⟩
abbrev S32x96x7 : Shape := ⟨3, ![32, 96, 7]⟩

abbrev nBuf : Space → Nat
  | .hbm => 32
  | .vmem => 19
  | .smem => 0
  | _ => 0

abbrev bufTy : (tb : Table) → Fin (tcTables nBuf tb) → BufTy
  | .hbm, ⟨0, _⟩ => ⟨S224x64x256, .f32⟩
  | .hbm, ⟨1, _⟩ => ⟨S224x256, .f32⟩
  | .hbm, ⟨2, _⟩ => ⟨S224x64x256, .f32⟩
  | .hbm, ⟨3, _⟩ => ⟨S32x1x7, .f32⟩
  | .hbm, ⟨4, _⟩ => ⟨S32x1x7, .f32⟩
  | .hbm, ⟨5, _⟩ => ⟨S512x256, .f32⟩
  | .hbm, ⟨6, _⟩ => ⟨S256, .f32⟩
  | .hbm, ⟨7, _⟩ => ⟨S256x2, .f32⟩
  | .hbm, ⟨8, _⟩ => ⟨S2, .f32⟩
  | .hbm, ⟨9, _⟩ => ⟨S16384x96, .f32⟩
  | .hbm, ⟨10, _⟩ => ⟨S96, .f32⟩
  | .hbm, ⟨11, _⟩ => ⟨S96x192, .f32⟩
  | .hbm, ⟨12, _⟩ => ⟨S192, .f32⟩
  | .hbm, ⟨13, _⟩ => ⟨S192x96, .f32⟩
  | .hbm, ⟨14, _⟩ => ⟨S96, .f32⟩
  | .hbm, ⟨15, _⟩ => ⟨S64x256x96, .f32⟩
  | .hbm, ⟨16, _⟩ => ⟨S64x224x256, .f32⟩
  | .hbm, ⟨17, _⟩ => ⟨S64x224x256, .f32⟩
  | .hbm, ⟨18, _⟩ => ⟨S256x256, .f32⟩
  | .hbm, ⟨19, _⟩ => ⟨S256x256, .f32⟩
  | .hbm, ⟨20, _⟩ => ⟨S1x256, .f32⟩
  | .hbm, ⟨21, _⟩ => ⟨S1x2, .f32⟩
  | .hbm, ⟨22, _⟩ => ⟨S1x96, .f32⟩
  | .hbm, ⟨23, _⟩ => ⟨S1x192, .f32⟩
  | .hbm, ⟨24, _⟩ => ⟨S1x96, .f32⟩
  | .hbm, ⟨25, _⟩ => ⟨S224x96, .f32⟩
  | .hbm, ⟨26, _⟩ => ⟨S32x7x96, .f32⟩
  | .hbm, ⟨27, _⟩ => ⟨S32x96x7, .f32⟩
  | .hbm, ⟨28, _⟩ => ⟨S32x96x7, .f32⟩
  | .hbm, ⟨29, _⟩ => ⟨S32x96x7, .f32⟩
  | .hbm, ⟨30, _⟩ => ⟨S32x96x7, .f32⟩
  | .hbm, ⟨31, _⟩ => ⟨S32x96x7, .f32⟩
  | .local _ .vmem, ⟨0, _⟩ => ⟨S4x224x256, .f32⟩
  | .local _ .vmem, ⟨1, _⟩ => ⟨S4x224x256, .f32⟩
  | .local _ .vmem, ⟨2, _⟩ => ⟨S224x256, .f32⟩
  | .local _ .vmem, ⟨3, _⟩ => ⟨S4x224x256, .f32⟩
  | .local _ .vmem, ⟨4, _⟩ => ⟨S4x224x256, .f32⟩
  | .local _ .vmem, ⟨5, _⟩ => ⟨S256x256, .f32⟩
  | .local _ .vmem, ⟨6, _⟩ => ⟨S256x256, .f32⟩
  | .local _ .vmem, ⟨7, _⟩ => ⟨S1x256, .f32⟩
  | .local _ .vmem, ⟨8, _⟩ => ⟨S256x2, .f32⟩
  | .local _ .vmem, ⟨9, _⟩ => ⟨S1x2, .f32⟩
  | .local _ .vmem, ⟨10, _⟩ => ⟨S4x256x96, .f32⟩
  | .local _ .vmem, ⟨11, _⟩ => ⟨S4x256x96, .f32⟩
  | .local _ .vmem, ⟨12, _⟩ => ⟨S1x96, .f32⟩
  | .local _ .vmem, ⟨13, _⟩ => ⟨S96x192, .f32⟩
  | .local _ .vmem, ⟨14, _⟩ => ⟨S1x192, .f32⟩
  | .local _ .vmem, ⟨15, _⟩ => ⟨S192x96, .f32⟩
  | .local _ .vmem, ⟨16, _⟩ => ⟨S1x96, .f32⟩
  | .local _ .vmem, ⟨17, _⟩ => ⟨S224x96, .f32⟩
  | .local _ .vmem, ⟨18, _⟩ => ⟨S224x96, .f32⟩
  | _, _ => ⟨S224x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v76 : BitVec 1 := Scalar.cmpi .eq arg0 c15_i32
  let v77 : BitVec 32 := Scalar.extui v76
  let c0_i32_39 : BitVec 32 := 0#32
  let v78 : BitVec 1 := Scalar.cmpi .ne v77 c0_i32_39
  v78

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x224x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S224x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x224x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x256x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S96x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S192x96 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x96 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S224x96 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== HeadRefIdeal.lean ====
abbrev S224x64x256 : Shape := ⟨3, ![224, 64, 256]⟩
abbrev S224x256 : Shape := ⟨2, ![224, 256]⟩
abbrev S32x1x7 : Shape := ⟨3, ![32, 1, 7]⟩
abbrev S512x256 : Shape := ⟨2, ![512, 256]⟩
abbrev S256 : Shape := ⟨1, ![256]⟩
abbrev S256x2 : Shape := ⟨2, ![256, 2]⟩
abbrev S2 : Shape := ⟨1, ![2]⟩
abbrev S16384x96 : Shape := ⟨2, ![16384, 96]⟩
abbrev S96 : Shape := ⟨1, ![96]⟩
abbrev S96x192 : Shape := ⟨2, ![96, 192]⟩
abbrev S192 : Shape := ⟨1, ![192]⟩
abbrev S192x96 : Shape := ⟨2, ![192, 96]⟩
abbrev S224x1x256 : Shape := ⟨3, ![224, 1, 256]⟩
abbrev S224x64x512 : Shape := ⟨3, ![224, 64, 512]⟩
abbrev S1x1x256 : Shape := ⟨3, ![1, 1, 256]⟩
abbrev S_ : Shape := ⟨0, ![]⟩
abbrev S224x64x2 : Shape := ⟨3, ![224, 64, 2]⟩
abbrev S1x1x2 : Shape := ⟨3, ![1, 1, 2]⟩
abbrev S224x64 : Shape := ⟨2, ![224, 64]⟩
abbrev S224x64x1 : Shape := ⟨3, ![224, 64, 1]⟩
abbrev S224x16384 : Shape := ⟨2, ![224, 16384]⟩
abbrev S224x96 : Shape := ⟨2, ![224, 96]⟩
abbrev S1x96 : Shape := ⟨2, ![1, 96]⟩
abbrev S32x7x96 : Shape := ⟨3, ![32, 7, 96]⟩
abbrev S32x7x192 : Shape := ⟨3, ![32, 7, 192]⟩
abbrev S1x1x192 : Shape := ⟨3, ![1, 1, 192]⟩
abbrev S1x1x96 : Shape := ⟨3, ![1, 1, 96]⟩
abbrev S32x96x7 : Shape := ⟨3, ![32, 96, 7]⟩
abbrev S32x1x96x7 : Shape := ⟨4, ![32, 1, 96, 7]⟩

abbrev nBuf : Space → Nat
  | .hbm => 97
  | .vmem => 0
  | .smem => 0
  | _ => 0

abbrev bufTy : (tb : Table) → Fin (tcTables nBuf tb) → BufTy
  | .hbm, ⟨0, _⟩ => ⟨S224x64x256, .f32⟩
  | .hbm, ⟨1, _⟩ => ⟨S224x256, .f32⟩
  | .hbm, ⟨2, _⟩ => ⟨S224x64x256, .f32⟩
  | .hbm, ⟨3, _⟩ => ⟨S32x1x7, .f32⟩
  | .hbm, ⟨4, _⟩ => ⟨S32x1x7, .f32⟩
  | .hbm, ⟨5, _⟩ => ⟨S512x256, .f32⟩
  | .hbm, ⟨6, _⟩ => ⟨S256, .f32⟩
  | .hbm, ⟨7, _⟩ => ⟨S256x2, .f32⟩
  | .hbm, ⟨8, _⟩ => ⟨S2, .f32⟩
  | .hbm, ⟨9, _⟩ => ⟨S16384x96, .f32⟩
  | .hbm, ⟨10, _⟩ => ⟨S96, .f32⟩
  | .hbm, ⟨11, _⟩ => ⟨S96x192, .f32⟩
  | .hbm, ⟨12, _⟩ => ⟨S192, .f32⟩
  | .hbm, ⟨13, _⟩ => ⟨S192x96, .f32⟩
  | .hbm, ⟨14, _⟩ => ⟨S96, .f32⟩
  | .hbm, ⟨15, _⟩ => ⟨S224x1x256, .f32⟩
  | .hbm, ⟨16, _⟩ => ⟨S224x64x256, .f32⟩
  | .hbm, ⟨17, _⟩ => ⟨S224x64x256, .f32⟩
  | .hbm, ⟨18, _⟩ => ⟨S224x64x512, .f32⟩
  | .hbm, ⟨19, _⟩ => ⟨S224x64x256, .f32⟩
  | .hbm, ⟨20, _⟩ => ⟨S1x1x256, .f32⟩
  | .hbm, ⟨21, _⟩ => ⟨S224x64x256, .f32⟩
  | .hbm, ⟨22, _⟩ => ⟨S224x64x256, .f32⟩
  | .hbm, ⟨23, _⟩ => ⟨S_, .f32⟩
  | .hbm, ⟨24, _⟩ => ⟨S224x64x256, .f32⟩
  | .hbm, ⟨25, _⟩ => ⟨S224x64x256, .f32⟩
  | .hbm, ⟨26, _⟩ => ⟨S224x64x256, .f32⟩
  | .hbm, ⟨27, _⟩ => ⟨S_, .f32⟩
  | .hbm, ⟨28, _⟩ => ⟨S224x64x256, .f32⟩
  | .hbm, ⟨29, _⟩ => ⟨S224x64x256, .f32⟩
  | .hbm, ⟨30, _⟩ => ⟨S224x64x256, .f32⟩
  | .hbm, ⟨31, _⟩ => ⟨S224x64x256, .f32⟩
  | .hbm, ⟨32, _⟩ => ⟨S224x64x2, .f32⟩
  | .hbm, ⟨33, _⟩ => ⟨S1x1x2, .f32⟩
  | .hbm, ⟨34, _⟩ => ⟨S224x64x2, .f32⟩
  | .hbm, ⟨35, _⟩ => ⟨S224x64x2, .f32⟩
  | .hbm, ⟨36, _⟩ => ⟨S_, .f32⟩
  | .hbm, ⟨37, _⟩ => ⟨S224x64, .f32⟩
  | .hbm, ⟨38, _⟩ => ⟨S_, .f32⟩
  | .hbm, ⟨39, _⟩ => ⟨S224x64, .f32⟩
  | .hbm, ⟨40, _⟩ => ⟨S224x64, .f32⟩
  | .hbm, ⟨41, _⟩ => ⟨S224x64x1, .f32⟩
  | .hbm, ⟨42, _⟩ => ⟨S224x64x2, .f32⟩
  | .hbm, ⟨43, _⟩ => ⟨S224x64x2, .f32⟩
  | .hbm, ⟨44, _⟩ => ⟨S224x64x2, .f32⟩
  | .hbm, ⟨45, _⟩ => ⟨S_, .f32⟩
  | .hbm, ⟨46, _⟩ => ⟨S224x64, .f32⟩
  | .hbm, ⟨47, _⟩ => ⟨S224x64x1, .f32⟩
  | .hbm, ⟨48, _⟩ => ⟨S224x64x2, .f32⟩
  | .hbm, ⟨49, _⟩ => ⟨S224x64x2, .f32⟩
  | .hbm, ⟨50, _⟩ => ⟨S224x64x1, .f32⟩
  | .hbm, ⟨51, _⟩ => ⟨S224x64x256, .f32⟩
  | .hbm, ⟨52, _⟩ => ⟨S224x64x256, .f32⟩
  | .hbm, ⟨53, _⟩ => ⟨S224x64x1, .f32⟩
  | .hbm, ⟨54, _⟩ => ⟨S224x64x256, .f32⟩
  | .hbm, ⟨55, _⟩ => ⟨S224x64x256, .f32⟩
  | .hbm, ⟨56, _⟩ => ⟨S224x64x256, .f32⟩
  | .hbm, ⟨57, _⟩ => ⟨S224x16384, .f32⟩
  | .hbm, ⟨58, _⟩ => ⟨S224x96, .f32⟩
  | .hbm, ⟨59, _⟩ => ⟨S1x96, .f32⟩
  | .hbm, ⟨60, _⟩ => ⟨S224x96, .f32⟩
  | .hbm, ⟨61, _⟩ => ⟨S224x96, .f32⟩
  | .hbm, ⟨62, _⟩ => ⟨S32x7x96, .f32⟩
  | .hbm, ⟨63, _⟩ => ⟨S32x7x192, .f32⟩
  | .hbm, ⟨64, _⟩ => ⟨S1x1x192, .f32⟩
  | .hbm, ⟨65, _⟩ => ⟨S32x7x192, .f32⟩
  | .hbm, ⟨66, _⟩ => ⟨S32x7x192, .f32⟩
  | .hbm, ⟨67, _⟩ => ⟨S_, .f32⟩
  | .hbm, ⟨68, _⟩ => ⟨S32x7x192, .f32⟩
  | .hbm, ⟨69, _⟩ => ⟨S32x7x192, .f32⟩
  | .hbm, ⟨70, _⟩ => ⟨S32x7x192, .f32⟩
  | .hbm, ⟨71, _⟩ => ⟨S_, .f32⟩
  | .hbm, ⟨72, _⟩ => ⟨S32x7x192, .f32⟩
  | .hbm, ⟨73, _⟩ => ⟨S32x7x192, .f32⟩
  | .hbm, ⟨74, _⟩ => ⟨S32x7x192, .f32⟩
  | .hbm, ⟨75, _⟩ => ⟨S32x7x192, .f32⟩
  | .hbm, ⟨76, _⟩ => ⟨S32x7x96, .f32⟩
  | .hbm, ⟨77, _⟩ => ⟨S1x1x96, .f32⟩
  | .hbm, ⟨78, _⟩ => ⟨S32x7x96, .f32⟩
  | .hbm, ⟨79, _⟩ => ⟨S32x7x96, .f32⟩
  | .hbm, ⟨80, _⟩ => ⟨S_, .f32⟩
  | .hbm, ⟨81, _⟩ => ⟨S32x7x96, .f32⟩
  | .hbm, ⟨82, _⟩ => ⟨S32x7x96, .f32⟩
  | .hbm, ⟨83, _⟩ => ⟨S32x7x96, .f32⟩
  | .hbm, ⟨84, _⟩ => ⟨S_, .f32⟩
  | .hbm, ⟨85, _⟩ => ⟨S32x7x96, .f32⟩
  | .hbm, ⟨86, _⟩ => ⟨S32x7x96, .f32⟩
  | .hbm, ⟨87, _⟩ => ⟨S32x7x96, .f32⟩
  | .hbm, ⟨88, _⟩ => ⟨S32x7x96, .f32⟩
  | .hbm, ⟨89, _⟩ => ⟨S32x7x96, .f32⟩
  | .hbm, ⟨90, _⟩ => ⟨S32x96x7, .f32⟩
  | .hbm, ⟨91, _⟩ => ⟨S32x1x96x7, .f32⟩
  | .hbm, ⟨92, _⟩ => ⟨S32x96x7, .f32⟩
  | .hbm, ⟨93, _⟩ => ⟨S32x96x7, .f32⟩
  | .hbm, ⟨94, _⟩ => ⟨S32x1x96x7, .f32⟩
  | .hbm, ⟨95, _⟩ => ⟨S32x96x7, .f32⟩
  | .hbm, ⟨96, _⟩ => ⟨S32x96x7, .f32⟩
  | _, _ => ⟨S224x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]
-- ==== Embed.lean ====
abbrev S32x512x7 : Shape := ⟨3, ![32, 512, 7]⟩
abbrev S16x256 : Shape := ⟨2, ![16, 256]⟩
abbrev S256 : Shape := ⟨1, ![256]⟩
abbrev S_ : Shape := ⟨0, ![]⟩
abbrev S32x7 : Shape := ⟨2, ![32, 7]⟩
abbrev S32x1x7 : Shape := ⟨3, ![32, 1, 7]⟩
abbrev S32x7x512 : Shape := ⟨3, ![32, 7, 512]⟩
abbrev S32x7x1 : Shape := ⟨3, ![32, 7, 1]⟩
abbrev S32x7x1x8 : Shape := ⟨4, ![32, 7, 1, 8]⟩
abbrev S32x7x8 : Shape := ⟨3, ![32, 7, 8]⟩
abbrev S32x7x520 : Shape := ⟨3, ![32, 7, 520]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S64x16x1 : Shape := ⟨3, ![64, 16, 1]⟩
abbrev S32x7x64x16 : Shape := ⟨4, ![32, 7, 64, 16]⟩
abbrev S224x64x16 : Shape := ⟨3, ![224, 64, 16]⟩
abbrev S14336x16 : Shape := ⟨2, ![14336, 16]⟩
abbrev S1x256 : Shape := ⟨2, ![1, 256]⟩
abbrev S14336x256 : Shape := ⟨2, ![14336, 256]⟩
abbrev S16x14x256 : Shape := ⟨3, ![16, 14, 256]⟩
abbrev S896x16 : Shape := ⟨2, ![896, 16]⟩
abbrev S896x256 : Shape := ⟨2, ![896, 256]⟩
abbrev S1x14x256 : Shape := ⟨3, ![1, 14, 256]⟩
abbrev S14x64x256 : Shape := ⟨3, ![14, 64, 256]⟩
abbrev S14x256 : Shape := ⟨2, ![14, 256]⟩
abbrev S224x64x256 : Shape := ⟨3, ![224, 64, 256]⟩
abbrev S224x256 : Shape := ⟨2, ![224, 256]⟩

abbrev nBuf : Space → Nat
  | .hbm => 72
  | .vmem => 8
  | .smem => 0
  | _ => 0

abbrev bufTy : (tb : Table) → Fin (tcTables nBuf tb) → BufTy
  | .hbm, ⟨0, _⟩ => ⟨S32x512x7, .f32⟩
  | .hbm, ⟨1, _⟩ => ⟨S16x256, .f32⟩
  | .hbm, ⟨2, _⟩ => ⟨S256, .f32⟩
  | .hbm, ⟨3, _⟩ => ⟨S_, .f32⟩
  | .hbm, ⟨4, _⟩ => ⟨S32x7, .f32⟩
  | .hbm, ⟨5, _⟩ => ⟨S32x1x7, .f32⟩
  | .hbm, ⟨6, _⟩ => ⟨S_, .f32⟩
  | .hbm, ⟨7, _⟩ => ⟨S32x1x7, .f32⟩
  | .hbm, ⟨8, _⟩ => ⟨S32x1x7, .f32⟩
  | .hbm, ⟨9, _⟩ => ⟨S32x512x7, .f32⟩
  | .hbm, ⟨10, _⟩ => ⟨S32x512x7, .f32⟩
  | .hbm, ⟨11, _⟩ => ⟨S_, .i32⟩
  | .hbm, ⟨12, _⟩ => ⟨S_, .f32⟩
  | .hbm, ⟨13, _⟩ => ⟨S32x7, .f32⟩
  | .hbm, ⟨14, _⟩ => ⟨S32x1x7, .f32⟩
  | .hbm, ⟨15, _⟩ => ⟨S_, .f32⟩
  | .hbm, ⟨16, _⟩ => ⟨S32x1x7, .f32⟩
  | .hbm, ⟨17, _⟩ => ⟨S32x1x7, .f32⟩
  | .hbm, ⟨18, _⟩ => ⟨S32x512x7, .f32⟩
  | .hbm, ⟨19, _⟩ => ⟨S32x512x7, .f32⟩
  | .hbm, ⟨20, _⟩ => ⟨S32x512x7, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32x7, .f32⟩
  | .hbm, ⟨26, _⟩ => ⟨S32x1x7, .f32⟩
  | .hbm, ⟨27, _⟩ => ⟨S32x1x7, .f32⟩
  | .hbm, ⟨28, _⟩ => ⟨S32x1x7, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S32x1x7, .f32⟩
  | .hbm, ⟨34, _⟩ => ⟨S32x1x7, .f32⟩
  | .hbm, ⟨35, _⟩ => ⟨S_, .f32⟩
  | .hbm, ⟨36, _⟩ => ⟨S32x1x7, .f32⟩
  | .hbm, ⟨37, _⟩ => ⟨S32x1x7, .f32⟩
  | .hbm, ⟨38, _⟩ => ⟨S32x1x7, .f32⟩
  | .hbm, ⟨39, _⟩ => ⟨S32x512x7, .f32⟩
  | .hbm, ⟨40, _⟩ => ⟨S32x512x7, .f32⟩
  | .hbm, ⟨41, _⟩ => ⟨S32x7x512, .f32⟩
  | .hbm, ⟨42, _⟩ => ⟨S32x7x1, .f32⟩
  | .hbm, ⟨43, _⟩ => ⟨S32x7x1x8, .f32⟩
  | .hbm, ⟨44, _⟩ => ⟨S32x7x8, .f32⟩
  | .hbm, ⟨45, _⟩ => ⟨S32x7x520, .f32⟩
  | .hbm, ⟨46, _⟩ => ⟨S64, .i32⟩
  | .hbm, ⟨47, _⟩ => ⟨S64x1, .i32⟩
  | .hbm, ⟨48, _⟩ => ⟨S_, .i32⟩
  | .hbm, ⟨49, _⟩ => ⟨S64x1, .i32⟩
  | .hbm, ⟨50, _⟩ => ⟨S64x1, .i32⟩
  | .hbm, ⟨51, _⟩ => ⟨S16, .i32⟩
  | .hbm, ⟨52, _⟩ => ⟨S1x16, .i32⟩
  | .hbm, ⟨53, _⟩ => ⟨S64x16, .i32⟩
  | .hbm, ⟨54, _⟩ => ⟨S64x16, .i32⟩
  | .hbm, ⟨55, _⟩ => ⟨S64x16, .i32⟩
  | .hbm, ⟨56, _⟩ => ⟨S_, .i32⟩
  | .hbm, ⟨57, _⟩ => ⟨S64x16, .i32⟩
  | .hbm, ⟨58, _⟩ => ⟨S64x16, .i1⟩
  | .hbm, ⟨59, _⟩ => ⟨S_, .i32⟩
  | .hbm, ⟨60, _⟩ => ⟨S64x16, .i32⟩
  | .hbm, ⟨61, _⟩ => ⟨S64x16, .i32⟩
  | .hbm, ⟨62, _⟩ => ⟨S64x16, .i32⟩
  | .hbm, ⟨63, _⟩ => ⟨S64x16x1, .i32⟩
  | .hbm, ⟨64, _⟩ => ⟨S32x7x64x16, .f32⟩
  | .hbm, ⟨65, _⟩ => ⟨S224x64x16, .f32⟩
  | .hbm, ⟨66, _⟩ => ⟨S14336x16, .f32⟩
  | .hbm, ⟨67, _⟩ => ⟨S1x256, .f32⟩
  | .hbm, ⟨68, _⟩ => ⟨S14336x256, .f32⟩
  | .hbm, ⟨69, _⟩ => ⟨S16x14x256, .f32⟩
  | .hbm, ⟨70, _⟩ => ⟨S224x64x256, .f32⟩
  | .hbm, ⟨71, _⟩ => ⟨S224x256, .f32⟩
  | .local _ .vmem, ⟨0, _⟩ => ⟨S896x16, .f32⟩
  | .local _ .vmem, ⟨1, _⟩ => ⟨S896x16, .f32⟩
  | .local _ .vmem, ⟨2, _⟩ => ⟨S16x256, .f32⟩
  | .local _ .vmem, ⟨3, _⟩ => ⟨S1x256, .f32⟩
  | .local _ .vmem, ⟨4, _⟩ => ⟨S896x256, .f32⟩
  | .local _ .vmem, ⟨5, _⟩ => ⟨S896x256, .f32⟩
  | .local _ .vmem, ⟨6, _⟩ => ⟨S1x14x256, .f32⟩
  | .local _ .vmem, ⟨7, _⟩ => ⟨S1x14x256, .f32⟩
  | _, _ => ⟨S32x512x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_3 : Ref sig .tc := ⟨.hbm, 56, rfl⟩
abbrev main_v26 : Ref sig .tc := ⟨.hbm, 57, rfl⟩
abbrev main_v27 : Ref sig .tc := ⟨.hbm, 58, rfl⟩
abbrev main_c_4 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36_0 : Ref sig .tc := ⟨.hbm, 68, rfl⟩
abbrev main_v36_1 : Ref sig .tc := ⟨.hbm, 69, rfl⟩
abbrev main_v37 : Ref sig .tc := ⟨.hbm, 70, rfl⟩
abbrev main_v38 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S896x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S896x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x14x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EmbedRefIdeal.lean ====
abbrev S32x512x7 : Shape := ⟨3, ![32, 512, 7]⟩
abbrev S16x256 : Shape := ⟨2, ![16, 256]⟩
abbrev S256 : Shape := ⟨1, ![256]⟩
abbrev S_ : Shape := ⟨0, ![]⟩
abbrev S32x7 : Shape := ⟨2, ![32, 7]⟩
abbrev S32x1x7 : Shape := ⟨3, ![32, 1, 7]⟩
abbrev S32x7x512 : Shape := ⟨3, ![32, 7, 512]⟩
abbrev S32x7x1 : Shape := ⟨3, ![32, 7, 1]⟩
abbrev S32x7x1x8 : Shape := ⟨4, ![32, 7, 1, 8]⟩
abbrev S32x7x8 : Shape := ⟨3, ![32, 7, 8]⟩
abbrev S32x7x520 : Shape := ⟨3, ![32, 7, 520]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S64x16x1 : Shape := ⟨3, ![64, 16, 1]⟩
abbrev S32x7x64x16 : Shape := ⟨4, ![32, 7, 64, 16]⟩
abbrev S224x64x16 : Shape := ⟨3, ![224, 64, 16]⟩
abbrev S224x64x256 : Shape := ⟨3, ![224, 64, 256]⟩
abbrev S1x1x256 : Shape := ⟨3, ![1, 1, 256]⟩
abbrev S224x256 : Shape := ⟨2, ![224, 256]⟩

abbrev nBuf : Space → Nat
  | .hbm => 78
  | .vmem => 0
  | .smem => 0
  | _ => 0

abbrev bufTy : (tb : Table) → Fin (tcTables nBuf tb) → BufTy
  | .hbm, ⟨0, _⟩ => ⟨S32x512x7, .f32⟩
  | .hbm, ⟨1, _⟩ => ⟨S16x256, .f32⟩
  | .hbm, ⟨2, _⟩ => ⟨S256, .f32⟩
  | .hbm, ⟨3, _⟩ => ⟨S_, .f32⟩
  | .hbm, ⟨4, _⟩ => ⟨S32x7, .f32⟩
  | .hbm, ⟨5, _⟩ => ⟨S32x1x7, .f32⟩
  | .hbm, ⟨6, _⟩ => ⟨S_, .f32⟩
  | .hbm, ⟨7, _⟩ => ⟨S32x1x7, .f32⟩
  | .hbm, ⟨8, _⟩ => ⟨S32x1x7, .f32⟩
  | .hbm, ⟨9, _⟩ => ⟨S32x512x7, .f32⟩
  | .hbm, ⟨10, _⟩ => ⟨S32x512x7, .f32⟩
  | .hbm, ⟨11, _⟩ => ⟨S_, .i32⟩
  | .hbm, ⟨12, _⟩ => ⟨S_, .f32⟩
  | .hbm, ⟨13, _⟩ => ⟨S32x7, .f32⟩
  | .hbm, ⟨14, _⟩ => ⟨S32x1x7, .f32⟩
  | .hbm, ⟨15, _⟩ => ⟨S_, .f32⟩
  | .hbm, ⟨16, _⟩ => ⟨S32x1x7, .f32⟩
  | .hbm, ⟨17, _⟩ => ⟨S32x1x7, .f32⟩
  | .hbm, ⟨18, _⟩ => ⟨S32x512x7, .f32⟩
  | .hbm, ⟨19, _⟩ => ⟨S32x512x7, .f32⟩
  | .hbm, ⟨20, _⟩ => ⟨S32x512x7, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32x7, .f32⟩
  | .hbm, ⟨26, _⟩ => ⟨S32x1x7, .f32⟩
  | .hbm, ⟨27, _⟩ => ⟨S32x1x7, .f32⟩
  | .hbm, ⟨28, _⟩ => ⟨S32x1x7, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S32x1x7, .f32⟩
  | .hbm, ⟨34, _⟩ => ⟨S32x1x7, .f32⟩
  | .hbm, ⟨35, _⟩ => ⟨S_, .f32⟩
  | .hbm, ⟨36, _⟩ => ⟨S32x1x7, .f32⟩
  | .hbm, ⟨37, _⟩ => ⟨S32x1x7, .f32⟩
  | .hbm, ⟨38, _⟩ => ⟨S32x1x7, .f32⟩
  | .hbm, ⟨39, _⟩ => ⟨S_, .f32⟩
  | .hbm, ⟨40, _⟩ => ⟨S32x1x7, .f32⟩
  | .hbm, ⟨41, _⟩ => ⟨S32x1x7, .f32⟩
  | .hbm, ⟨42, _⟩ => ⟨S32x512x7, .f32⟩
  | .hbm, ⟨43, _⟩ => ⟨S32x512x7, .f32⟩
  | .hbm, ⟨44, _⟩ => ⟨S32x7x512, .f32⟩
  | .hbm, ⟨45, _⟩ => ⟨S32x7x1, .f32⟩
  | .hbm, ⟨46, _⟩ => ⟨S32x7x1x8, .f32⟩
  | .hbm, ⟨47, _⟩ => ⟨S32x7x8, .f32⟩
  | .hbm, ⟨48, _⟩ => ⟨S32x7x520, .f32⟩
  | .hbm, ⟨49, _⟩ => ⟨S64, .i32⟩
  | .hbm, ⟨50, _⟩ => ⟨S64x1, .i32⟩
  | .hbm, ⟨51, _⟩ => ⟨S_, .i32⟩
  | .hbm, ⟨52, _⟩ => ⟨S64x1, .i32⟩
  | .hbm, ⟨53, _⟩ => ⟨S64x1, .i32⟩
  | .hbm, ⟨54, _⟩ => ⟨S16, .i32⟩
  | .hbm, ⟨55, _⟩ => ⟨S1x16, .i32⟩
  | .hbm, ⟨56, _⟩ => ⟨S64x16, .i32⟩
  | .hbm, ⟨57, _⟩ => ⟨S64x16, .i32⟩
  | .hbm, ⟨58, _⟩ => ⟨S64x16, .i32⟩
  | .hbm, ⟨59, _⟩ => ⟨S_, .i32⟩
  | .hbm, ⟨60, _⟩ => ⟨S64x16, .i32⟩
  | .hbm, ⟨61, _⟩ => ⟨S64x16, .i1⟩
  | .hbm, ⟨62, _⟩ => ⟨S_, .i32⟩
  | .hbm, ⟨63, _⟩ => ⟨S64x16, .i32⟩
  | .hbm, ⟨64, _⟩ => ⟨S64x16, .i32⟩
  | .hbm, ⟨65, _⟩ => ⟨S64x16, .i32⟩
  | .hbm, ⟨66, _⟩ => ⟨S64x16x1, .i32⟩
  | .hbm, ⟨67, _⟩ => ⟨S32x7x64x16, .f32⟩
  | .hbm, ⟨68, _⟩ => ⟨S224x64x16, .f32⟩
  | .hbm, ⟨69, _⟩ => ⟨S224x64x256, .f32⟩
  | .hbm, ⟨70, _⟩ => ⟨S1x1x256, .f32⟩
  | .hbm, ⟨71, _⟩ => ⟨S224x64x256, .f32⟩
  | .hbm, ⟨72, _⟩ => ⟨S224x64x256, .f32⟩
  | .hbm, ⟨73, _⟩ => ⟨S_, .f32⟩
  | .hbm, ⟨74, _⟩ => ⟨S224x256, .f32⟩
  | .hbm, ⟨75, _⟩ => ⟨S_, .f32⟩
  | .hbm, ⟨76, _⟩ => ⟨S224x256, .f32⟩
  | .hbm, ⟨77, _⟩ => ⟨S224x256, .f32⟩
  | _, _ => ⟨S32x512x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_3 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_4 : Ref sig .tc := ⟨.hbm, 59, rfl⟩
abbrev main_v28 : Ref sig .tc := ⟨.hbm, 60, rfl⟩
abbrev main_v29 : Ref sig .tc := ⟨.hbm, 61, rfl⟩
abbrev main_c_5 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_6 : Ref sig .tc := ⟨.hbm, 73, rfl⟩
abbrev main_v40 : Ref sig .tc := ⟨.hbm, 74, rfl⟩
abbrev main_cst_7 : Ref sig .tc := ⟨.hbm, 75, rfl⟩
abbrev main_v41 : Ref sig .tc := ⟨.hbm, 76, rfl⟩
abbrev main_v42 : Ref sig .tc := ⟨.hbm, 77, rfl⟩

abbrev nD : Nat := 1
abbrev τ : Topo := Topo.v7x

variable {F : FTy → Type} [FloatOps F]
-- ==== Local.lean ====
abbrev S1120 : Shape := ⟨1, ![1120]⟩
abbrev S100000x256 : Shape := ⟨2, ![100000, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S100000x1x256 : Shape := ⟨3, ![100000, 1, 256]⟩
abbrev S1x512 : Shape := ⟨2, ![1, 512]⟩
abbrev S1x256 : Shape := ⟨2, ![1, 256]⟩
abbrev S14x16x256 : Shape := ⟨3, ![14, 16, 256]⟩
abbrev S1x1x256 : Shape := ⟨3, ![1, 1, 256]⟩
abbrev S1 : Shape := ⟨1, ![1]⟩
abbrev S1x16x256 : Shape := ⟨3, ![1, 16, 256]⟩
abbrev S80x256 : Shape := ⟨2, ![80, 256]⟩
abbrev S80x512 : Shape := ⟨2, ![80, 512]⟩
abbrev S16x5x256 : Shape := ⟨3, ![16, 5, 256]⟩
abbrev S16x256 : Shape := ⟨2, ![16, 256]⟩

abbrev nBuf : Space → Nat
  | .hbm => 9
  | .vmem => 166
  | .smem => 1
  | _ => 0

abbrev vmemTy0_0 (i : Nat) : BufTy := match i % 128 with
  | 0 => ⟨S1x1x256, .f32⟩
  | 1 => ⟨S1x1x256, .f32⟩
  | 2 => ⟨S1x1x256, .f32⟩
  | 3 => ⟨S1x1x256, .f32⟩
  | 4 => ⟨S1x1x256, .f32⟩
  | 5 => ⟨S1x1x256, .f32⟩
  | 6 => ⟨S1x1x256, .f32⟩
  | 7 => ⟨S1x1x256, .f32⟩
  | 8 => ⟨S1x1x256, .f32⟩
  | 9 => ⟨S1x1x256, .f32⟩
  | 10 => ⟨S1x1x256, .f32⟩
  | 11 => ⟨S1x1x256, .f32⟩
  | 12 => ⟨S1x1x256, .f32⟩
  | 13 => ⟨S1x1x256, .f32⟩
  | 14 => ⟨S1x1x256, .f32⟩
  | 15 => ⟨S1x1x256, .f32⟩
  | 16 => ⟨S1x1x256, .f32⟩
  | 17 => ⟨S1x1x256, .f32⟩
  | 18 => ⟨S1x1x256, .f32⟩
  | 19 => ⟨S1x1x256, .f32⟩
  | 20 => ⟨S1x1x256, .f32⟩
  | 21 => ⟨S1x1x256, .f32⟩
  | 22 => ⟨S1x1x256, .f32⟩
  | 23 => ⟨S1x1x256, .f32⟩
  | 24 => ⟨S1x1x256, .f32⟩
  | 25 => ⟨S1x1x256, .f32⟩
  | 26 => ⟨S1x1x256, .f32⟩
  | 27 => ⟨S1x1x256, .f32⟩
  | 28 => ⟨S1x1x256, .f32⟩
  | 29 => ⟨S1x1x256, .f32⟩
  | 30 => ⟨S1x1x256, .f32⟩
  | 31 => ⟨S1x1x256, .f32⟩
  | 32 => ⟨S1x1x256, .f32⟩
  | 33 => ⟨S1x1x256, .f32⟩
  | 34 => ⟨S1x1x256, .f32⟩
  | 35 => ⟨S1x1x256, .f32⟩
  | 36 => ⟨S1x1x256, .f32⟩
  | 37 => ⟨S1x1x256, .f32⟩
  | 38 => ⟨S1x1x256, .f32⟩
  | 39 => ⟨S1x1x256, .f32⟩
  | 40 => ⟨S1x1x256, .f32⟩
  | 41 => ⟨S1x1x256, .f32⟩
  | 42 => ⟨S1x1x256, .f32⟩
  | 43 => ⟨S1x1x256, .f32⟩
  | 44 => ⟨S1x1x256, .f32⟩
  | 45 => ⟨S1x1x256, .f32⟩
  | 46 => ⟨S1x1x256, .f32⟩
  | 47 => ⟨S1x1x256, .f32⟩
  | 48 => ⟨S1x1x256, .f32⟩
  | 49 => ⟨S1x1x256, .f32⟩
  | 50 => ⟨S1x1x256, .f32⟩
  | 51 => ⟨S1x1x256, .f32⟩
  | 52 => ⟨S1x1x256, .f32⟩
  | 53 => ⟨S1x1x256, .f32⟩
  | 54 => ⟨S1x1x256, .f32⟩
  | 55 => ⟨S1x1x256, .f32⟩
  | 56 => ⟨S1x1x256, .f32⟩
  | 57 => ⟨S1x1x256, .f32⟩
  | 58 => ⟨S1x1x256, .f32⟩
  | 59 => ⟨S1x1x256, .f32⟩
  | 60 => ⟨S1x1x256, .f32⟩
  | 61 => ⟨S1x1x256, .f32⟩
  | 62 => ⟨S1x1x256, .f32⟩
  | 63 => ⟨S1x1x256, .f32⟩
  | 64 => ⟨S1x1x256, .f32⟩
  | 65 => ⟨S1x1x256, .f32⟩
  | 66 => ⟨S1x1x256, .f32⟩
  | 67 => ⟨S1x1x256, .f32⟩
  | 68 => ⟨S1x1x256, .f32⟩
  | 69 => ⟨S1x1x256, .f32⟩
  | 70 => ⟨S1x1x256, .f32⟩
  | 71 => ⟨S1x1x256, .f32⟩
  | 72 => ⟨S1x1x256, .f32⟩
  | 73 => ⟨S1x1x256, .f32⟩
  | 74 => ⟨S1x1x256, .f32⟩
  | 75 => ⟨S1x1x256, .f32⟩
  | 76 => ⟨S1x1x256, .f32⟩
  | 77 => ⟨S1x1x256, .f32⟩
  | 78 => ⟨S1x1x256, .f32⟩
  | 79 => ⟨S1x1x256, .f32⟩
  | 80 => ⟨S1x1x256, .f32⟩
  | 81 => ⟨S1x1x256, .f32⟩
  | 82 => ⟨S1x1x256, .f32⟩
  | 83 => ⟨S1x1x256, .f32⟩
  | 84 => ⟨S1x1x256, .f32⟩
  | 85 => ⟨S1x1x256, .f32⟩
  | 86 => ⟨S1x1x256, .f32⟩
  | 87 => ⟨S1x1x256, .f32⟩
  | 88 => ⟨S1x1x256, .f32⟩
  | 89 => ⟨S1x1x256, .f32⟩
  | 90 => ⟨S1x1x256, .f32⟩
  | 91 => ⟨S1x1x256, .f32⟩
  | 92 => ⟨S1x1x256, .f32⟩
  | 93 => ⟨S1x1x256, .f32⟩
  | 94 => ⟨S1x1x256, .f32⟩
  | 95 => ⟨S1x1x256, .f32⟩
  | 96 => ⟨S1x1x256, .f32⟩
  | 97 => ⟨S1x1x256, .f32⟩
  | 98 => ⟨S1x1x256, .f32⟩
  | 99 => ⟨S1x1x256, .f32⟩
  | 100 => ⟨S1x1x256, .f32⟩
  | 101 => ⟨S1x1x256, .f32⟩
  | 102 => ⟨S1x1x256, .f32⟩
  | 103 => ⟨S1x1x256, .f32⟩
  | 104 => ⟨S1x1x256, .f32⟩
  | 105 => ⟨S1x1x256, .f32⟩
  | 106 => ⟨S1x1x256, .f32⟩
  | 107 => ⟨S1x1x256, .f32⟩
  | 108 => ⟨S1x1x256, .f32⟩
  | 109 => ⟨S1x1x256, .f32⟩
  | 110 => ⟨S1x1x256, .f32⟩
  | 111 => ⟨S1x1x256, .f32⟩
  | 112 => ⟨S1x1x256, .f32⟩
  | 113 => ⟨S1x1x256, .f32⟩
  | 114 => ⟨S1x1x256, .f32⟩
  | 115 => ⟨S1x1x256, .f32⟩
  | 116 => ⟨S1x1x256, .f32⟩
  | 117 => ⟨S1x1x256, .f32⟩
  | 118 => ⟨S1x1x256, .f32⟩
  | 119 => ⟨S1x1x256, .f32⟩
  | 120 => ⟨S1x1x256, .f32⟩
  | 121 => ⟨S1x1x256, .f32⟩
  | 122 => ⟨S1x1x256, .f32⟩
  | 123 => ⟨S1x1x256, .f32⟩
  | 124 => ⟨S1x1x256, .f32⟩
  | 125 => ⟨S1x1x256, .f32⟩
  | 126 => ⟨S1x1x256, .f32⟩
  | 127 => ⟨S1x1x256, .f32⟩
  | _ => ⟨S100000x256, .f32⟩

abbrev vmemTy0_1 (i : Nat) : BufTy := match i % 128 with
  | 0 => ⟨S1x1x256, .f32⟩
  | 1 => ⟨S1x1x256, .f32⟩
  | 2 => ⟨S1x1x256, .f32⟩
  | 3 => ⟨S1x1x256, .f32⟩
  | 4 => ⟨S1x1x256, .f32⟩
  | 5 => ⟨S1x1x256, .f32⟩
  | 6 => ⟨S1x1x256, .f32⟩
  | 7 => ⟨S1x1x256, .f32⟩
  | 8 => ⟨S1x1x256, .f32⟩
  | 9 => ⟨S1x1x256, .f32⟩
  | 10 => ⟨S1x1x256, .f32⟩
  | 11 => ⟨S1x1x256, .f32⟩
  | 12 => ⟨S1x1x256, .f32⟩
  | 13 => ⟨S1x1x256, .f32⟩
  | 14 => ⟨S1x1x256, .f32⟩
  | 15 => ⟨S1x1x256, .f32⟩
  | 16 => ⟨S1x1x256, .f32⟩
  | 17 => ⟨S1x1x256, .f32⟩
  | 18 => ⟨S1x1x256, .f32⟩
  | 19 => ⟨S1x1x256, .f32⟩
  | 20 => ⟨S1x1x256, .f32⟩
  | 21 => ⟨S1x1x256, .f32⟩
  | 22 => ⟨S1x1x256, .f32⟩
  | 23 => ⟨S1x1x256, .f32⟩
  | 24 => ⟨S1x1x256, .f32⟩
  | 25 => ⟨S1x1x256, .f32⟩
  | 26 => ⟨S1x1x256, .f32⟩
  | 27 => ⟨S1x1x256, .f32⟩
  | 28 => ⟨S1x1x256, .f32⟩
  | 29 => ⟨S1x1x256, .f32⟩
  | 30 => ⟨S1x1x256, .f32⟩
  | 31 => ⟨S1x1x256, .f32⟩
  | 32 => ⟨S256x512, .f32⟩
  | 33 => ⟨S1x512, .f32⟩
  | 34 => ⟨S512x256, .f32⟩
  | 35 => ⟨S1x256, .f32⟩
  | 36 => ⟨S1x16x256, .f32⟩
  | 37 => ⟨S1x16x256, .f32⟩
  | _ => ⟨S100000x256, .f32⟩

abbrev vmemTy (i : Nat) : BufTy := match i / 128 with
  | 0 => vmemTy0_0 i
  | 1 => vmemTy0_1 i
  | _ => ⟨S100000x256, .f32⟩

abbrev bufTy : (tb : Table) → Fin (tcTables nBuf tb) → BufTy
  | .hbm, ⟨0, _⟩ => ⟨S100000x256, .f32⟩
  | .hbm, ⟨1, _⟩ => ⟨S256x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S100000x1x256, .f32⟩
  | .hbm, ⟨6, _⟩ => ⟨S1x512, .f32⟩
  | .hbm, ⟨7, _⟩ => ⟨S1x256, .f32⟩
  | .hbm, ⟨8, _⟩ => ⟨S14x16x256, .f32⟩
  | .local _ .vmem, ⟨i, _⟩ => vmemTy i
  | .local _ .smem, ⟨0, _⟩ => ⟨S1120, .i32⟩
  | _, _ => ⟨S100000x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 166 → Bool
  | ⟨i, _⟩ => dmaSemScopedAt i

abbrev sig : RefSig :=
  ofTc nBuf bufTy 0 166 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg52_1 : Ref sig .tc := ⟨.vmem, 105, rfl⟩
abbrev cc0_stg53_0 : Ref sig .tc := ⟨.vmem, 106, rfl⟩
abbrev cc0_stg53_1 : Ref sig .tc := ⟨.vmem, 107, rfl⟩
abbrev cc0_stg54_0 : Ref sig .tc := ⟨.vmem, 108, rfl⟩
abbrev cc0_stg54_1 : Ref sig .tc := ⟨.vmem, 109, rfl⟩
abbrev cc0_stg55_0 : Ref sig .tc := ⟨.vmem, 110, rfl⟩
abbrev cc0_stg55_1 : Ref sig .tc := ⟨.vmem, 111, rfl⟩
abbrev cc0_stg56_0 : Ref sig .tc := ⟨.vmem, 112, rfl⟩
abbrev cc0_stg56_1 : Ref sig .tc := ⟨.vmem, 113, rfl⟩
abbrev cc0_stg57_0 : Ref sig .tc := ⟨.vmem, 114, rfl⟩
abbrev cc0_stg57_1 : Ref sig .tc := ⟨.vmem, 115, rfl⟩
abbrev cc0_stg58_0 : Ref sig .tc := ⟨.vmem, 116, rfl⟩
abbrev cc0_stg58_1 : Ref sig .tc := ⟨.vmem, 117, rfl⟩
abbrev cc0_stg59_0 : Ref sig .tc := ⟨.vmem, 118, rfl⟩
abbrev cc0_stg59_1 : Ref sig .tc := ⟨.vmem, 119, rfl⟩
abbrev cc0_stg60_0 : Ref sig .tc := ⟨.vmem, 120, rfl⟩
abbrev cc0_stg60_1 : Ref sig .tc := ⟨.vmem, 121, rfl⟩
abbrev cc0_stg61_0 : Ref sig .tc := ⟨.vmem, 122, rfl⟩
abbrev cc0_stg61_1 : Ref sig .tc := ⟨.vmem, 123, rfl⟩
abbrev cc0_stg62_0 : Ref sig .tc := ⟨.vmem, 124, rfl⟩
abbrev cc0_stg62_1 : Ref sig .tc := ⟨.vmem, 125, rfl⟩
abbrev cc0_stg63_0 : Ref sig .tc := ⟨.vmem, 126, rfl⟩
abbrev cc0_stg63_1 : Ref sig .tc := ⟨.vmem, 127, rfl⟩
abbrev cc0_stg64_0 : Ref sig .tc := ⟨.vmem, 128, rfl⟩
abbrev cc0_stg64_1 : Ref sig .tc := ⟨.vmem, 129, rfl⟩
abbrev cc0_stg65_0 : Ref sig .tc := ⟨.vmem, 130, rfl⟩
abbrev cc0_stg65_1 : Ref sig .tc := ⟨.vmem, 131, rfl⟩
abbrev cc0_stg66_0 : Ref sig .tc := ⟨.vmem, 132, rfl⟩
abbrev cc0_stg66_1 : Ref sig .tc := ⟨.vmem, 133, rfl⟩
abbrev cc0_stg67_0 : Ref sig .tc := ⟨.vmem, 134, rfl⟩
abbrev cc0_stg67_1 : Ref sig .tc := ⟨.vmem, 135, rfl⟩
abbrev cc0_stg68_0 : Ref sig .tc := ⟨.vmem, 136, rfl⟩
abbrev cc0_stg68_1 : Ref sig .tc := ⟨.vmem, 137, rfl⟩
abbrev cc0_stg69_0 : Ref sig .tc := ⟨.vmem, 138, rfl⟩
abbrev cc0_stg69_1 : Ref sig .tc := ⟨.vmem, 139, rfl⟩
abbrev cc0_stg70_0 : Ref sig .tc := ⟨.vmem, 140, rfl⟩
abbrev cc0_stg70_1 : Ref sig .tc := ⟨.vmem, 141, rfl⟩
abbrev cc0_stg71_0 : Ref sig .tc := ⟨.vmem, 142, rfl⟩
abbrev cc0_stg71_1 : Ref sig .tc := ⟨.vmem, 143, rfl⟩
abbrev cc0_stg72_0 : Ref sig .tc := ⟨.vmem, 144, rfl⟩
abbrev cc0_stg72_1 : Ref sig .tc := ⟨.vmem, 145, rfl⟩
abbrev cc0_stg73_0 : Ref sig .tc := ⟨.vmem, 146, rfl⟩
abbrev cc0_stg73_1 : Ref sig .tc := ⟨.vmem, 147, rfl⟩
abbrev cc0_stg74_0 : Ref sig .tc := ⟨.vmem, 148, rfl⟩
abbrev cc0_stg74_1 : Ref sig .tc := ⟨.vmem, 149, rfl⟩
abbrev cc0_stg75_0 : Ref sig .tc := ⟨.vmem, 150, rfl⟩
abbrev cc0_stg75_1 : Ref sig .tc := ⟨.vmem, 151, rfl⟩
abbrev cc0_stg76_0 : Ref sig .tc := ⟨.vmem, 152, rfl⟩
abbrev cc0_stg76_1 : Ref sig .tc := ⟨.vmem, 153, rfl⟩
abbrev cc0_stg77_0 : Ref sig .tc := ⟨.vmem, 154, rfl⟩
abbrev cc0_stg77_1 : Ref sig .tc := ⟨.vmem, 155, rfl⟩
abbrev cc0_stg78_0 : Ref sig .tc := ⟨.vmem, 156, rfl⟩
abbrev cc0_stg78_1 : Ref sig .tc := ⟨.vmem, 157, rfl⟩
abbrev cc0_stg79_0 : Ref sig .tc := ⟨.vmem, 158, rfl⟩
abbrev cc0_stg79_1 : Ref sig .tc := ⟨.vmem, 159, rfl⟩
abbrev cc0_stg80_0 : Ref sig .tc := ⟨.vmem, 160, rfl⟩
abbrev cc0_stg81_0 : Ref sig .tc := ⟨.vmem, 161, rfl⟩
abbrev cc0_stg82_0 : Ref sig .tc := ⟨.vmem, 162, rfl⟩
abbrev cc0_stg83_0 : Ref sig .tc := ⟨.vmem, 163, rfl⟩
abbrev cc0_stg84_0 : Ref sig .tc := ⟨.vmem, 164, rfl⟩
abbrev cc0_stg84_1 : Ref sig .tc := ⟨.vmem, 165, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem52_1 : DmaSem sig := 105
abbrev cc0_sem53_0 : DmaSem sig := 106
abbrev cc0_sem53_1 : DmaSem sig := 107
abbrev cc0_sem54_0 : DmaSem sig := 108
abbrev cc0_sem54_1 : DmaSem sig := 109
abbrev cc0_sem55_0 : DmaSem sig := 110
abbrev cc0_sem55_1 : DmaSem sig := 111
abbrev cc0_sem56_0 : DmaSem sig := 112
abbrev cc0_sem56_1 : DmaSem sig := 113
abbrev cc0_sem57_0 : DmaSem sig := 114
abbrev cc0_sem57_1 : DmaSem sig := 115
abbrev cc0_sem58_0 : DmaSem sig := 116
abbrev cc0_sem58_1 : DmaSem sig := 117
abbrev cc0_sem59_0 : DmaSem sig := 118
abbrev cc0_sem59_1 : DmaSem sig := 119
abbrev cc0_sem60_0 : DmaSem sig := 120
abbrev cc0_sem60_1 : DmaSem sig := 121
abbrev cc0_sem61_0 : DmaSem sig := 122
abbrev cc0_sem61_1 : DmaSem sig := 123
abbrev cc0_sem62_0 : DmaSem sig := 124
abbrev cc0_sem62_1 : DmaSem sig := 125
abbrev cc0_sem63_0 : DmaSem sig := 126
abbrev cc0_sem63_1 : DmaSem sig := 127
abbrev cc0_sem64_0 : DmaSem sig := 128
abbrev cc0_sem64_1 : DmaSem sig := 129
abbrev cc0_sem65_0 : DmaSem sig := 130
abbrev cc0_sem65_1 : DmaSem sig := 131
abbrev cc0_sem66_0 : DmaSem sig := 132
abbrev cc0_sem66_1 : DmaSem sig := 133
abbrev cc0_sem67_0 : DmaSem sig := 134
abbrev cc0_sem67_1 : DmaSem sig := 135
abbrev cc0_sem68_0 : DmaSem sig := 136
abbrev cc0_sem68_1 : DmaSem sig := 137
abbrev cc0_sem69_0 : DmaSem sig := 138
abbrev cc0_sem69_1 : DmaSem sig := 139
abbrev cc0_sem70_0 : DmaSem sig := 140
abbrev cc0_sem70_1 : DmaSem sig := 141
abbrev cc0_sem71_0 : DmaSem sig := 142
abbrev cc0_sem71_1 : DmaSem sig := 143
abbrev cc0_sem72_0 : DmaSem sig := 144
abbrev cc0_sem72_1 : DmaSem sig := 145
abbrev cc0_sem73_0 : DmaSem sig := 146
abbrev cc0_sem73_1 : DmaSem sig := 147
abbrev cc0_sem74_0 : DmaSem sig := 148
abbrev cc0_sem74_1 : DmaSem sig := 149
abbrev cc0_sem75_0 : DmaSem sig := 150
abbrev cc0_sem75_1 : DmaSem sig := 151
abbrev cc0_sem76_0 : DmaSem sig := 152
abbrev cc0_sem76_1 : DmaSem sig := 153
abbrev cc0_sem77_0 : DmaSem sig := 154
abbrev cc0_sem77_1 : DmaSem sig := 155
abbrev cc0_sem78_0 : DmaSem sig := 156
abbrev cc0_sem78_1 : DmaSem sig := 157
abbrev cc0_sem79_0 : DmaSem sig := 158
abbrev cc0_sem79_1 : DmaSem sig := 159
abbrev cc0_sem80_0 : DmaSem sig := 160
abbrev cc0_sem81_0 : DmaSem sig := 161
abbrev cc0_sem82_0 : DmaSem sig := 162
abbrev cc0_sem83_0 : DmaSem sig := 163
abbrev cc0_sem84_0 : DmaSem sig := 164
abbrev cc0_sem84_1 : DmaSem sig := 165

abbrev nD : Nat := 1
abbrev τ : Topo := Topo.v7x

variable {F : FTy → Type} [FloatOps F]

abbrev grid0 : Pipeline.Grid := ⟨1, ![14], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c80_i32 : BitVec 32 := 80#32
  let v0 : BitVec 32 := Scalar.muli arg0 c80_i32
  let v1 : BitVec 32 := Scalar.addi v0 c0_i32
  let v2 : Index := Scalar.indexCast v1
  ![v2.toNat]
def cc0_transform_0 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c0_i32 : BitVec 32 := 0#32
  let v1 : BitVec 32 := Scalar.addi v0 c0_i32
  let v2 : Index := Scalar.indexCast v1
  let v3 : BitVec 32 := pf.at 0 (Rect.unit (s := S1120) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c1_i32 : BitVec 32 := 1#32
  let v1 : BitVec 32 := Scalar.addi v0 c1_i32
  let v2 : Index := Scalar.indexCast v1
  let v3 : BitVec 32 := pf.at 0 (Rect.unit (s := S1120) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c2_i32 : BitVec 32 := 2#32
  let v1 : BitVec 32 := Scalar.addi v0 c2_i32
  let v2 : Index := Scalar.indexCast v1
  let v3 : BitVec 32 := pf.at 0 (Rect.unit (s := S1120) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c3_i32 : BitVec 32 := 3#32
  let v1 : BitVec 32 := Scalar.addi v0 c3_i32
  let v2 : Index := Scalar.indexCast v1
  let v3 : BitVec 32 := pf.at 0 (Rect.unit (s := S1120) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c4_i32 : BitVec 32 := 4#32
  let v1 : BitVec 32 := Scalar.addi v0 c4_i32
  let v2 : Index := Scalar.indexCast v1
  let v3 : BitVec 32 := pf.at 0 (Rect.unit (s := S1120) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c5_i32 : BitVec 32 := 5#32
  let v1 : BitVec 32 := Scalar.addi v0 c5_i32
  let v2 : Index := Scalar.indexCast v1
  let v3 : BitVec 32 := pf.at 0 (Rect.unit (s := S1120) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c6_i32 : BitVec 32 := 6#32
  let v1 : BitVec 32 := Scalar.addi v0 c6_i32
  let v2 : Index := Scalar.indexCast v1
  let v3 : BitVec 32 := pf.at 0 (Rect.unit (s := S1120) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c7_i32 : BitVec 32 := 7#32
  let v1 : BitVec 32 := Scalar.addi v0 c7_i32
  let v2 : Index := Scalar.indexCast v1
  let v3 : BitVec 32 := pf.at 0 (Rect.unit (s := S1120) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c8_i32 : BitVec 32 := 8#32
  let v1 : BitVec 32 := Scalar.addi v0 c8_i32
  let v2 : Index := Scalar.indexCast v1
  let v3 : BitVec 32 := pf.at 0 (Rect.unit (s := S1120) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c9_i32 : BitVec 32 := 9#32
  let v1 : BitVec 32 := Scalar.addi v0 c9_i32
  let v2 : Index := Scalar.indexCast v1
  let v3 : BitVec 32 := pf.at 0 (Rect.unit (s := S1120) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c10_i32 : BitVec 32 := 10#32
  let v1 : BitVec 32 := Scalar.addi v0 c10_i32
  let v2 : Index := Scalar.indexCast v1
  let v3 : BitVec 32 := pf.at 0 (Rect.unit (s := S1120) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_11 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c11_i32 : BitVec 32 := 11#32
  let v1 : BitVec 32 := Scalar.addi v0 c11_i32
  let v2 : Index := Scalar.indexCast v1
  let v3 : BitVec 32 := pf.at 0 (Rect.unit (s := S1120) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_12 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c12_i32 : BitVec 32 := 12#32
  let v1 : BitVec 32 := Scalar.addi v0 c12_i32
  let v2 : Index := Scalar.indexCast v1
  let v3 : BitVec 32 := pf.at 0 (Rect.unit (s := S1120) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_13 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c13_i32 : BitVec 32 := 13#32
  let v1 : BitVec 32 := Scalar.addi v0 c13_i32
  let v2 : Index := Scalar.indexCast v1
  let v3 : BitVec 32 := pf.at 0 (Rect.unit (s := S1120) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_14 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c14_i32 : BitVec 32 := 14#32
  let v1 : BitVec 32 := Scalar.addi v0 c14_i32
  let v2 : Index := Scalar.indexCast v1
  let v3 : BitVec 32 := pf.at 0 (Rect.unit (s := S1120) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_15 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c15_i32 : BitVec 32 := 15#32
  let v1 : BitVec 32 := Scalar.addi v0 c15_i32
  let v2 : Index := Scalar.indexCast v1
  let v3 : BitVec 32 := pf.at 0 (Rect.unit (s := S1120) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_16 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c16_i32 : BitVec 32 := 16#32
  let v1 : BitVec 32 := Scalar.addi v0 c16_i32
  let v2 : Index := Scalar.indexCast v1
  let v3 : BitVec 32 := pf.at 0 (Rect.unit (s := S1120) ![v2.toNat] S1.size (k0_off1_inb i 16)) numel1_S1
  let c0_i32 : BitVec 32 := 0#32
  let c0_i32_0 : BitVec 32 := 0#32
  let c0_i32_1 : BitVec 32 := 0#32
  ![v3.toNat, c0_i32.toNat, c0_i32_0.toNat]

def cc0_transform_17 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c17_i32 : BitVec 32 := 17#32
  let v1 : BitVec 32 := Scalar.addi v0 c17_i32
  let v2 : Index := Scalar.indexCast v1
  let v3 : BitVec 32 := pf.at 0 (Rect.unit (s := S1120) ![v2.toNat] S1.size (k0_off1_inb i 17)) numel1_S1
  let c0_i32 : BitVec 32 := 0#32
  let c0_i32_0 : BitVec 32 := 0#32
  let c0_i32_1 : BitVec 32 := 0#32
  ![v3.toNat, c0_i32.toNat, c0_i32_0.toNat]

def cc0_transform_18 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c18_i32 : BitVec 32 := 18#32
  let v1 : BitVec 32 := Scalar.addi v0 c18_i32
  let v2 : Index := Scalar.indexCast v1
  let v3 : BitVec 32 := pf.at 0 (Rect.unit (s := S1120) ![v2.toNat] S1.size (k0_off1_inb i 18)) numel1_S1
  let c0_i32 : BitVec 32 := 0#32
  let c0_i32_0 : BitVec 32 := 0#32
  let c0_i32_1 : BitVec 32 := 0#32
  ![v3.toNat, c0_i32.toNat, c0_i32_0.toNat]

def cc0_transform_19 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c19_i32 : BitVec 32 := 19#32
  let v1 : BitVec 32 := Scalar.addi v0 c19_i32
  let v2 : Index := Scalar.indexCast v1
  let v3 : BitVec 32 := pf.at 0 (Rect.unit (s := S1120) ![v2.toNat] S1.size (k0_off1_inb i 19)) numel1_S1
  let c0_i32 : BitVec 32 := 0#32
  let c0_i32_0 : BitVec 32 := 0#32
  let c0_i32_1 : BitVec 32 := 0#32
  ![v3.toNat, c0_i32.toNat, c0_i32_0.toNat]

def cc0_transform_20 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c20_i32 : BitVec 32 := 20#32
  let v1 : BitVec 32 := Scalar.addi v0 c20_i32
  let v2 : Index := Scalar.indexCast v1
  let v3 : BitVec 32 := pf.at 0 (Rect.unit (s := S1120) ![v2.toNat] S1.size (k0_off1_inb i 20)) numel1_S1
  let c0_i32 : BitVec 32 := 0#32
  let c0_i32_0 : BitVec 32 := 0#32
  let c0_i32_1 : BitVec 32 := 0#32
  ![v3.toNat, c0_i32.toNat, c0_i32_0.toNat]

def cc0_transform_21 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c21_i32 : BitVec 32 := 21#32
  let v1 : BitVec 32 := Scalar.addi v0 c21_i32
  let v2 : Index := Scalar.indexCast v1
  let v3 : BitVec 32 := pf.at 0 (Rect.unit (s := S1120) ![v2.toNat] S1.size (k0_off1_inb i 21)) numel1_S1
  let c0_i32 : BitVec 32 := 0#32
  let c0_i32_0 : BitVec 32 := 0#32
  let c0_i32_1 : BitVec 32 := 0#32
  ![v3.toNat, c0_i32.toNat, c0_i32_0.toNat]

def cc0_transform_22 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c22_i32 : BitVec 32 := 22#32
  let v1 : BitVec 32 := Scalar.addi v0 c22_i32
  let v2 : Index := Scalar.indexCast v1
  let v3 : BitVec 32 := pf.at 0 (Rect.unit (s := S1120) ![v2.toNat] S1.size (k0_off1_inb i 22)) numel1_S1
  let c0_i32 : BitVec 32 := 0#32
  let c0_i32_0 : BitVec 32 := 0#32
  let c0_i32_1 : BitVec 32 := 0#32
  ![v3.toNat, c0_i32.toNat, c0_i32_0.toNat]

def cc0_transform_23 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c23_i32 : BitVec 32 := 23#32
  let v1 : BitVec 32 := Scalar.addi v0 c23_i32
  let v2 : Index := Scalar.indexCast v1
  let v3 : BitVec 32 := pf.at 0 (Rect.unit (s := S1120) ![v2.toNat] S1.size (k0_off1_inb i 23)) numel1_S1
  let c0_i32 : BitVec 32 := 0#32
  let c0_i32_0 : BitVec 32 := 0#32
  let c0_i32_1 : BitVec 32 := 0#32
  ![v3.toNat, c0_i32.toNat, c0_i32_0.toNat]

def cc0_transform_24 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c24_i32 : BitVec 32 := 24#32
  let v1 : BitVec 32 := Scalar.addi v0 c24_i32
  let v2 : Index := Scalar.indexCast v1
  let v3 : BitVec 32 := pf.at 0 (Rect.unit (s := S1120) ![v2.toNat] S1.size (k0_off1_inb i 24)) numel1_S1
  let c0_i32 : BitVec 32 := 0#32
  let c0_i32_0 : BitVec 32 := 0#32
  let c0_i32_1 : BitVec 32 := 0#32
  ![v3.toNat, c0_i32.toNat, c0_i32_0.toNat]

def cc0_transform_25 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c25_i32 : BitVec 32 := 25#32
  let v1 : BitVec 32 := Scalar.addi v0 c25_i32
  let v2 : Index := Scalar.indexCast v1
  let v3 : BitVec 32 := pf.at 0 (Rect.unit (s := S1120) ![v2.toNat] S1.size (k0_off1_inb i 25)) numel1_S1
  let c0_i32 : BitVec 32 := 0#32
  let c0_i32_0 : BitVec 32 := 0#32
  let c0_i32_1 : BitVec 32 := 0#32
  ![v3.toNat, c0_i32.toNat, c0_i32_0.toNat]

def cc0_transform_26 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c26_i32 : BitVec 32 := 26#32
  let v1 : BitVec 32 := Scalar.addi v0 c26_i32
  let v2 : Index := Scalar.indexCast v1
  let v3 : BitVec 32 := pf.at 0 (Rect.unit (s := S1120) ![v2.toNat] S1.size (k0_off1_inb i 26)) numel1_S1
  let c0_i32 : BitVec 32 := 0#32
  let c0_i32_0 : BitVec 32 := 0#32
  let c0_i32_1 : BitVec 32 := 0#32
  ![v3.toNat, c0_i32.toNat, c0_i32_0.toNat]

def cc0_transform_27 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c27_i32 : BitVec 32 := 27#32
  let v1 : BitVec 32 := Scalar.addi v0 c27_i32
  let v2 : Index := Scalar.indexCast v1
  let v3 : BitVec 32 := pf.at 0 (Rect.unit (s := S1120) ![v2.toNat] S1.size (k0_off1_inb i 27)) numel1_S1
  let c0_i32 : BitVec 32 := 0#32
  let c0_i32_0 : BitVec 32 := 0#32
  let c0_i32_1 : BitVec 32 := 0#32
  ![v3.toNat, c0_i32.toNat, c0_i32_0.toNat]

def cc0_transform_28 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c28_i32 : BitVec 32 := 28#32
  let v1 : BitVec 32 := Scalar.addi v0 c28_i32
  let v2 : Index := Scalar.indexCast v1
  let v3 : BitVec 32 := pf.at 0 (Rect.unit (s := S1120) ![v2.toNat] S1.size (k0_off1_inb i 28)) numel1_S1
  let c0_i32 : BitVec 32 := 0#32
  let c0_i32_0 : BitVec 32 := 0#32
  let c0_i32_1 : BitVec 32 := 0#32
  ![v3.toNat, c0_i32.toNat, c0_i32_0.toNat]

def cc0_transform_29 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c29_i32 : BitVec 32 := 29#32
  let v1 : BitVec 32 := Scalar.addi v0 c29_i32
  let v2 : Index := Scalar.indexCast v1
  let v3 : BitVec 32 := pf.at 0 (Rect.unit (s := S1120) ![v2.toNat] S1.size (k0_off1_inb i 29)) numel1_S1
  let c0_i32 : BitVec 32 := 0#32
  let c0_i32_0 : BitVec 32 := 0#32
  let c0_i32_1 : BitVec 32 := 0#32
  ![v3.toNat, c0_i32.toNat, c0_i32_0.toNat]

def cc0_transform_30 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c30_i32 : BitVec 32 := 30#32
  let v1 : BitVec 32 := Scalar.addi v0 c30_i32
  let v2 : Index := Scalar.indexCast v1
  let v3 : BitVec 32 := pf.at 0 (Rect.unit (s := S1120) ![v2.toNat] S1.size (k0_off1_inb i 30)) numel1_S1
  let c0_i32 : BitVec 32 := 0#32
  let c0_i32_0 : BitVec 32 := 0#32
  let c0_i32_1 : BitVec 32 := 0#32
  ![v3.toNat, c0_i32.toNat, c0_i32_0.toNat]

def cc0_transform_31 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c31_i32 : BitVec 32 := 31#32
  let v1 : BitVec 32 := Scalar.addi v0 c31_i32
  let v2 : Index := Scalar.indexCast v1
  let v3 : BitVec 32 := pf.at 0 (Rect.unit (s := S1120) ![v2.toNat] S1.size (k0_off1_inb i 31)) numel1_S1
  let c0_i32 : BitVec 32 := 0#32
  let c0_i32_0 : BitVec 32 := 0#32
  let c0_i32_1 : BitVec 32 := 0#32
  ![v3.toNat, c0_i32.toNat, c0_i32_0.toNat]

def cc0_transform_32 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c32_i32 : BitVec 32 := 32#32
  let v1 : BitVec 32 := Scalar.addi v0 c32_i32
  let v2 : Index := Scalar.indexCast v1
  let v3 : BitVec 32 := pf.at 0 (Rect.unit (s := S1120) ![v2.toNat] S1.size (k0_off1_inb i 32)) numel1_S1
  let c0_i32 : BitVec 32 := 0#32
  let c0_i32_0 : BitVec 32 := 0#32
  let c0_i32_1 : BitVec 32 := 0#32
  ![v3.toNat, c0_i32.toNat, c0_i32_0.toNat]

def cc0_transform_33 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c33_i32 : BitVec 32 := 33#32
  let v1 : BitVec 32 := Scalar.addi v0 c33_i32
  let v2 : Index := Scalar.indexCast v1
  let v3 : BitVec 32 := pf.at 0 (Rect.unit (s := S1120) ![v2.toNat] S1.size (k0_off1_inb i 33)) numel1_S1
  let c0_i32 : BitVec 32 := 0#32
  let c0_i32_0 : BitVec 32 := 0#32
  let c0_i32_1 : BitVec 32 := 0#32
  ![v3.toNat, c0_i32.toNat, c0_i32_0.toNat]

def cc0_transform_34 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c34_i32 : BitVec 32 := 34#32
  let v1 : BitVec 32 := Scalar.addi v0 c34_i32
  let v2 : Index := Scalar.indexCast v1
  let v3 : BitVec 32 := pf.at 0 (Rect.unit (s := S1120) ![v2.toNat] S1.size (k0_off1_inb i 34)) numel1_S1
  let c0_i32 : BitVec 32 := 0#32
  let c0_i32_0 : BitVec 32 := 0#32
  let c0_i32_1 : BitVec 32 := 0#32
  ![v3.toNat, c0_i32.toNat, c0_i32_0.toNat]

def cc0_transform_35 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c35_i32 : BitVec 32 := 35#32
  let v1 : BitVec 32 := Scalar.addi v0 c35_i32
  let v2 : Index := Scalar.indexCast v1
  let v3 : BitVec 32 := pf.at 0 (Rect.unit (s := S1120) ![v2.toNat] S1.size (k0_off1_inb i 35)) numel1_S1
  let c0_i32 : BitVec 32 := 0#32
  let c0_i32_0 : BitVec 32 := 0#32
  let c0_i32_1 : BitVec 32 := 0#32
  ![v3.toNat, c0_i32.toNat, c0_i32_0.toNat]

def cc0_transform_36 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c36_i32 : BitVec 32 := 36#32
  let v1 : BitVec 32 := Scalar.addi v0 c36_i32
  let v2 : Index := Scalar.indexCast v1
  let v3 : BitVec 32 := pf.at 0 (Rect.unit (s := S1120) ![v2.toNat] S1.size (k0_off1_inb i 36)) numel1_S1
  let c0_i32 : BitVec 32 := 0#32
  let c0_i32_0 : BitVec 32 := 0#32
  let c0_i32_1 : BitVec 32 := 0#32
  ![v3.toNat, c0_i32.toNat, c0_i32_0.toNat]

def cc0_transform_37 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c37_i32 : BitVec 32 := 37#32
  let v1 : BitVec 32 := Scalar.addi v0 c37_i32
  let v2 : Index := Scalar.indexCast v1
  let v3 : BitVec 32 := pf.at 0 (Rect.unit (s := S1120) ![v2.toNat] S1.size (k0_off1_inb i 37)) numel1_S1
  let c0_i32 : BitVec 32 := 0#32
  let c0_i32_0 : BitVec 32 := 0#32
  let c0_i32_1 : BitVec 32 := 0#32
  ![v3.toNat, c0_i32.toNat, c0_i32_0.toNat]

def cc0_transform_38 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c38_i32 : BitVec 32 := 38#32
  let v1 : BitVec 32 := Scalar.addi v0 c38_i32
  let v2 : Index := Scalar.indexCast v1
  let v3 : BitVec 32 := pf.at 0 (Rect.unit (s := S1120) ![v2.toNat] S1.size (k0_off1_inb i 38)) numel1_S1
  let c0_i32 : BitVec 32 := 0#32
  let c0_i32_0 : BitVec 32 := 0#32
  let c0_i32_1 : BitVec 32 := 0#32
  ![v3.toNat, c0_i32.toNat, c0_i32_0.toNat]

def cc0_transform_39 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c39_i32 : BitVec 32 := 39#32
  let v1 : BitVec 32 := Scalar.addi v0 c39_i32
  let v2 : Index := Scalar.indexCast v1
  let v3 : BitVec 32 := pf.at 0 (Rect.unit (s := S1120) ![v2.toNat] S1.size (k0_off1_inb i 39)) numel1_S1
  let c0_i32 : BitVec 32 := 0#32
  let c0_i32_0 : BitVec 32 := 0#32
  let c0_i32_1 : BitVec 32 := 0#32
  ![v3.toNat, c0_i32.toNat, c0_i32_0.toNat]

def cc0_transform_40 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c40_i32 : BitVec 32 := 40#32
  let v1 : BitVec 32 := Scalar.addi v0 c40_i32
  let v2 : Index := Scalar.indexCast v1
  let v3 : BitVec 32 := pf.at 0 (Rect.unit (s := S1120) ![v2.toNat] S1.size (k0_off1_inb i 40)) numel1_S1
  let c0_i32 : BitVec 32 := 0#32
  let c0_i32_0 : BitVec 32 := 0#32
  let c0_i32_1 : BitVec 32 := 0#32
  ![v3.toNat, c0_i32.toNat, c0_i32_0.toNat]

def cc0_transform_41 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c41_i32 : BitVec 32 := 41#32
  let v1 : BitVec 32 := Scalar.addi v0 c41_i32
  let v2 : Index := Scalar.indexCast v1
  let v3 : BitVec 32 := pf.at 0 (Rect.unit (s := S1120) ![v2.toNat] S1.size (k0_off1_inb i 41)) numel1_S1
  let c0_i32 : BitVec 32 := 0#32
  let c0_i32_0 : BitVec 32 := 0#32
  let c0_i32_1 : BitVec 32 := 0#32
  ![v3.toNat, c0_i32.toNat, c0_i32_0.toNat]

def cc0_transform_42 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c42_i32 : BitVec 32 := 42#32
  let v1 : BitVec 32 := Scalar.addi v0 c42_i32
  let v2 : Index := Scalar.indexCast v1
  let v3 : BitVec 32 := pf.at 0 (Rect.unit (s := S1120) ![v2.toNat] S1.size (k0_off1_inb i 42)) numel1_S1
  let c0_i32 : BitVec 32 := 0#32
  let c0_i32_0 : BitVec 32 := 0#32
  let c0_i32_1 : BitVec 32 := 0#32
  ![v3.toNat, c0_i32.toNat, c0_i32_0.toNat]

def cc0_transform_43 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c43_i32 : BitVec 32 := 43#32
  let v1 : BitVec 32 := Scalar.addi v0 c43_i32
  let v2 : Index := Scalar.indexCast v1
  let v3 : BitVec 32 := pf.at 0 (Rect.unit (s := S1120) ![v2.toNat] S1.size (k0_off1_inb i 43)) numel1_S1
  let c0_i32 : BitVec 32 := 0#32
  let c0_i32_0 : BitVec 32 := 0#32
  let c0_i32_1 : BitVec 32 := 0#32
  ![v3.toNat, c0_i32.toNat, c0_i32_0.toNat]

def cc0_transform_44 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c44_i32 : BitVec 32 := 44#32
  let v1 : BitVec 32 := Scalar.addi v0 c44_i32
  let v2 : Index := Scalar.indexCast v1
  let v3 : BitVec 32 := pf.at 0 (Rect.unit (s := S1120) ![v2.toNat] S1.size (k0_off1_inb i 44)) numel1_S1
  let c0_i32 : BitVec 32 := 0#32
  let c0_i32_0 : BitVec 32 := 0#32
  let c0_i32_1 : BitVec 32 := 0#32
  ![v3.toNat, c0_i32.toNat, c0_i32_0.toNat]

def cc0_transform_45 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c45_i32 : BitVec 32 := 45#32
  let v1 : BitVec 32 := Scalar.addi v0 c45_i32
  let v2 : Index := Scalar.indexCast v1
  let v3 : BitVec 32 := pf.at 0 (Rect.unit (s := S1120) ![v2.toNat] S1.size (k0_off1_inb i 45)) numel1_S1
  let c0_i32 : BitVec 32 := 0#32
  let c0_i32_0 : BitVec 32 := 0#32
  let c0_i32_1 : BitVec 32 := 0#32
  ![v3.toNat, c0_i32.toNat, c0_i32_0.toNat]

def cc0_transform_46 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c46_i32 : BitVec 32 := 46#32
  let v1 : BitVec 32 := Scalar.addi v0 c46_i32
  let v2 : Index := Scalar.indexCast v1
  let v3 : BitVec 32 := pf.at 0 (Rect.unit (s := S1120) ![v2.toNat] S1.size (k0_off1_inb i 46)) numel1_S1
  let c0_i32 : BitVec 32 := 0#32
  let c0_i32_0 : BitVec 32 := 0#32
  let c0_i32_1 : BitVec 32 := 0#32
  ![v3.toNat, c0_i32.toNat, c0_i32_0.toNat]

def cc0_transform_47 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c47_i32 : BitVec 32 := 47#32
  let v1 : BitVec 32 := Scalar.addi v0 c47_i32
  let v2 : Index := Scalar.indexCast v1
  let v3 : BitVec 32 := pf.at 0 (Rect.unit (s := S1120) ![v2.toNat] S1.size (k0_off1_inb i 47)) numel1_S1
  let c0_i32 : BitVec 32 := 0#32
  let c0_i32_0 : BitVec 32 := 0#32
  let c0_i32_1 : BitVec 32 := 0#32
  ![v3.toNat, c0_i32.toNat, c0_i32_0.toNat]

def cc0_transform_48 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c48_i32 : BitVec 32 := 48#32
  let v1 : BitVec 32 := Scalar.addi v0 c48_i32
  let v2 : Index := Scalar.indexCast v1
  let v3 : BitVec 32 := pf.at 0 (Rect.unit (s := S1120) ![v2.toNat] S1.size (k0_off1_inb i 48)) numel1_S1
  let c0_i32 : BitVec 32 := 0#32
  let c0_i32_0 : BitVec 32 := 0#32
  let c0_i32_1 : BitVec 32 := 0#32
  ![v3.toNat, c0_i32.toNat, c0_i32_0.toNat]

def cc0_transform_49 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c49_i32 : BitVec 32 := 49#32
  let v1 : BitVec 32 := Scalar.addi v0 c49_i32
  let v2 : Index := Scalar.indexCast v1
  let v3 : BitVec 32 := pf.at 0 (Rect.unit (s := S1120) ![v2.toNat] S1.size (k0_off1_inb i 49)) numel1_S1
  let c0_i32 : BitVec 32 := 0#32
  let c0_i32_0 : BitVec 32 := 0#32
  let c0_i32_1 : BitVec 32 := 0#32
  ![v3.toNat, c0_i32.toNat, c0_i32_0.toNat]

def cc0_transform_50 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c50_i32 : BitVec 32 := 50#32
  let v1 : BitVec 32 := Scalar.addi v0 c50_i32
  let v2 : Index := Scalar.indexCast v1
  let v3 : BitVec 32 := pf.at 0 (Rect.unit (s := S1120) ![v2.toNat] S1.size (k0_off1_inb i 50)) numel1_S1
  let c0_i32 : BitVec 32 := 0#32
  let c0_i32_0 : BitVec 32 := 0#32
  let c0_i32_1 : BitVec 32 := 0#32
  ![v3.toNat, c0_i32.toNat, c0_i32_0.toNat]

def cc0_transform_51 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c51_i32 : BitVec 32 := 51#32
  let v1 : BitVec 32 := Scalar.addi v0 c51_i32
  let v2 : Index := Scalar.indexCast v1
  let v3 : BitVec 32 := pf.at 0 (Rect.unit (s := S1120) ![v2.toNat] S1.size (k0_off1_inb i 51)) numel1_S1
  let c0_i32 : BitVec 32 := 0#32
  let c0_i32_0 : BitVec 32 := 0#32
  let c0_i32_1 : BitVec 32 := 0#32
  ![v3.toNat, c0_i32.toNat, c0_i32_0.toNat]

def cc0_transform_52 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c52_i32 : BitVec 32 := 52#32
  let v1 : BitVec 32 := Scalar.addi v0 c52_i32
  let v2 : Index := Scalar.indexCast v1
  let v3 : BitVec 32 := pf.at 0 (Rect.unit (s := S1120) ![v2.toNat] S1.size (k0_off1_inb i 52)) numel1_S1
  let c0_i32 : BitVec 32 := 0#32
  let c0_i32_0 : BitVec 32 := 0#32
  let c0_i32_1 : BitVec 32 := 0#32
  ![v3.toNat, c0_i32.toNat, c0_i32_0.toNat]

def cc0_transform_53 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c53_i32 : BitVec 32 := 53#32
  let v1 : BitVec 32 := Scalar.addi v0 c53_i32
  let v2 : Index := Scalar.indexCast v1
  let v3 : BitVec 32 := pf.at 0 (Rect.unit (s := S1120) ![v2.toNat] S1.size (k0_off1_inb i 53)) numel1_S1
  let c0_i32 : BitVec 32 := 0#32
  let c0_i32_0 : BitVec 32 := 0#32
  let c0_i32_1 : BitVec 32 := 0#32
  ![v3.toNat, c0_i32.toNat, c0_i32_0.toNat]

def cc0_transform_54 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c54_i32 : BitVec 32 := 54#32
  let v1 : BitVec 32 := Scalar.addi v0 c54_i32
  let v2 : Index := Scalar.indexCast v1
  let v3 : BitVec 32 := pf.at 0 (Rect.unit (s := S1120) ![v2.toNat] S1.size (k0_off1_inb i 54)) numel1_S1
  let c0_i32 : BitVec 32 := 0#32
  let c0_i32_0 : BitVec 32 := 0#32
  let c0_i32_1 : BitVec 32 := 0#32
  ![v3.toNat, c0_i32.toNat, c0_i32_0.toNat]

def cc0_transform_55 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c55_i32 : BitVec 32 := 55#32
  let v1 : BitVec 32 := Scalar.addi v0 c55_i32
  let v2 : Index := Scalar.indexCast v1
  let v3 : BitVec 32 := pf.at 0 (Rect.unit (s := S1120) ![v2.toNat] S1.size (k0_off1_inb i 55)) numel1_S1
  let c0_i32 : BitVec 32 := 0#32
  let c0_i32_0 : BitVec 32 := 0#32
  let c0_i32_1 : BitVec 32 := 0#32
  ![v3.toNat, c0_i32.toNat, c0_i32_0.toNat]

def cc0_transform_56 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c56_i32 : BitVec 32 := 56#32
  let v1 : BitVec 32 := Scalar.addi v0 c56_i32
  let v2 : Index := Scalar.indexCast v1
  let v3 : BitVec 32 := pf.at 0 (Rect.unit (s := S1120) ![v2.toNat] S1.size (k0_off1_inb i 56)) numel1_S1
  let c0_i32 : BitVec 32 := 0#32
  let c0_i32_0 : BitVec 32 := 0#32
  let c0_i32_1 : BitVec 32 := 0#32
  ![v3.toNat, c0_i32.toNat, c0_i32_0.toNat]

def cc0_transform_57 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c57_i32 : BitVec 32 := 57#32
  let v1 : BitVec 32 := Scalar.addi v0 c57_i32
  let v2 : Index := Scalar.indexCast v1
  let v3 : BitVec 32 := pf.at 0 (Rect.unit (s := S1120) ![v2.toNat] S1.size (k0_off1_inb i 57)) numel1_S1
  let c0_i32 : BitVec 32 := 0#32
  let c0_i32_0 : BitVec 32 := 0#32
  let c0_i32_1 : BitVec 32 := 0#32
  ![v3.toNat, c0_i32.toNat, c0_i32_0.toNat]

def cc0_transform_58 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c58_i32 : BitVec 32 := 58#32
  let v1 : BitVec 32 := Scalar.addi v0 c58_i32
  let v2 : Index := Scalar.indexCast v1
  let v3 : BitVec 32 := pf.at 0 (Rect.unit (s := S1120) ![v2.toNat] S1.size (k0_off1_inb i 58)) numel1_S1
  let c0_i32 : BitVec 32 := 0#32
  let c0_i32_0 : BitVec 32 := 0#32
  let c0_i32_1 : BitVec 32 := 0#32
  ![v3.toNat, c0_i32.toNat, c0_i32_0.toNat]

def cc0_transform_59 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c59_i32 : BitVec 32 := 59#32
  let v1 : BitVec 32 := Scalar.addi v0 c59_i32
  let v2 : Index := Scalar.indexCast v1
  let v3 : BitVec 32 := pf.at 0 (Rect.unit (s := S1120) ![v2.toNat] S1.size (k0_off1_inb i 59)) numel1_S1
  let c0_i32 : BitVec 32 := 0#32
  let c0_i32_0 : BitVec 32 := 0#32
  let c0_i32_1 : BitVec 32 := 0#32
  ![v3.toNat, c0_i32.toNat, c0_i32_0.toNat]

def cc0_transform_60 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c60_i32 : BitVec 32 := 60#32
  let v1 : BitVec 32 := Scalar.addi v0 c60_i32
  let v2 : Index := Scalar.indexCast v1
  let v3 : BitVec 32 := pf.at 0 (Rect.unit (s := S1120) ![v2.toNat] S1.size (k0_off1_inb i 60)) numel1_S1
  let c0_i32 : BitVec 32 := 0#32
  let c0_i32_0 : BitVec 32 := 0#32
  let c0_i32_1 : BitVec 32 := 0#32
  ![v3.toNat, c0_i32.toNat, c0_i32_0.toNat]

def cc0_transform_61 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c61_i32 : BitVec 32 := 61#32
  let v1 : BitVec 32 := Scalar.addi v0 c61_i32
  let v2 : Index := Scalar.indexCast v1
  let v3 : BitVec 32 := pf.at 0 (Rect.unit (s := S1120) ![v2.toNat] S1.size (k0_off1_inb i 61)) numel1_S1
  let c0_i32 : BitVec 32 := 0#32
  let c0_i32_0 : BitVec 32 := 0#32
  let c0_i32_1 : BitVec 32 := 0#32
  ![v3.toNat, c0_i32.toNat, c0_i32_0.toNat]

def cc0_transform_62 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c62_i32 : BitVec 32 := 62#32
  let v1 : BitVec 32 := Scalar.addi v0 c62_i32
  let v2 : Index := Scalar.indexCast v1
  let v3 : BitVec 32 := pf.at 0 (Rect.unit (s := S1120) ![v2.toNat] S1.size (k0_off1_inb i 62)) numel1_S1
  let c0_i32 : BitVec 32 := 0#32
  let c0_i32_0 : BitVec 32 := 0#32
  let c0_i32_1 : BitVec 32 := 0#32
  ![v3.toNat, c0_i32.toNat, c0_i32_0.toNat]

def cc0_transform_63 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c63_i32 : BitVec 32 := 63#32
  let v1 : BitVec 32 := Scalar.addi v0 c63_i32
  let v2 : Index := Scalar.indexCast v1
  let v3 : BitVec 32 := pf.at 0 (Rect.unit (s := S1120) ![v2.toNat] S1.size (k0_off1_inb i 63)) numel1_S1
  let c0_i32 : BitVec 32 := 0#32
  let c0_i32_0 : BitVec 32 := 0#32
  let c0_i32_1 : BitVec 32 := 0#32
  ![v3.toNat, c0_i32.toNat, c0_i32_0.toNat]

def cc0_transform_64 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c64_i32 : BitVec 32 := 64#32
  let v1 : BitVec 32 := Scalar.addi v0 c64_i32
  let v2 : Index := Scalar.indexCast v1
  let v3 : BitVec 32 := pf.at 0 (Rect.unit (s := S1120) ![v2.toNat] S1.size (k0_off1_inb i 64)) numel1_S1
  let c0_i32 : BitVec 32 := 0#32
  let c0_i32_0 : BitVec 32 := 0#32
  let c0_i32_1 : BitVec 32 := 0#32
  ![v3.toNat, c0_i32.toNat, c0_i32_0.toNat]

def cc0_transform_65 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c65_i32 : BitVec 32 := 65#32
  let v1 : BitVec 32 := Scalar.addi v0 c65_i32
  let v2 : Index := Scalar.indexCast v1
  let v3 : BitVec 32 := pf.at 0 (Rect.unit (s := S1120) ![v2.toNat] S1.size (k0_off1_inb i 65)) numel1_S1
  let c0_i32 : BitVec 32 := 0#32
  let c0_i32_0 : BitVec 32 := 0#32
  let c0_i32_1 : BitVec 32 := 0#32
  ![v3.toNat, c0_i32.toNat, c0_i32_0.toNat]

def cc0_transform_66 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c66_i32 : BitVec 32 := 66#32
  let v1 : BitVec 32 := Scalar.addi v0 c66_i32
  let v2 : Index := Scalar.indexCast v1
  let v3 : BitVec 32 := pf.at 0 (Rect.unit (s := S1120) ![v2.toNat] S1.size (k0_off1_inb i 66)) numel1_S1
  let c0_i32 : BitVec 32 := 0#32
  let c0_i32_0 : BitVec 32 := 0#32
  let c0_i32_1 : BitVec 32 := 0#32
  ![v3.toNat, c0_i32.toNat, c0_i32_0.toNat]

def cc0_transform_67 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c67_i32 : BitVec 32 := 67#32
  let v1 : BitVec 32 := Scalar.addi v0 c67_i32
  let v2 : Index := Scalar.indexCast v1
  let v3 : BitVec 32 := pf.at 0 (Rect.unit (s := S1120) ![v2.toNat] S1.size (k0_off1_inb i 67)) numel1_S1
  let c0_i32 : BitVec 32 := 0#32
  let c0_i32_0 : BitVec 32 := 0#32
  let c0_i32_1 : BitVec 32 := 0#32
  ![v3.toNat, c0_i32.toNat, c0_i32_0.toNat]

def cc0_transform_68 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c68_i32 : BitVec 32 := 68#32
  let v1 : BitVec 32 := Scalar.addi v0 c68_i32
  let v2 : Index := Scalar.indexCast v1
  let v3 : BitVec 32 := pf.at 0 (Rect.unit (s := S1120) ![v2.toNat] S1.size (k0_off1_inb i 68)) numel1_S1
  let c0_i32 : BitVec 32 := 0#32
  let c0_i32_0 : BitVec 32 := 0#32
  let c0_i32_1 : BitVec 32 := 0#32
  ![v3.toNat, c0_i32.toNat, c0_i32_0.toNat]

def cc0_transform_69 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c69_i32 : BitVec 32 := 69#32
  let v1 : BitVec 32 := Scalar.addi v0 c69_i32
  let v2 : Index := Scalar.indexCast v1
  let v3 : BitVec 32 := pf.at 0 (Rect.unit (s := S1120) ![v2.toNat] S1.size (k0_off1_inb i 69)) numel1_S1
  let c0_i32 : BitVec 32 := 0#32
  let c0_i32_0 : BitVec 32 := 0#32
  let c0_i32_1 : BitVec 32 := 0#32
  ![v3.toNat, c0_i32.toNat, c0_i32_0.toNat]

def cc0_transform_70 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c70_i32 : BitVec 32 := 70#32
  let v1 : BitVec 32 := Scalar.addi v0 c70_i32
  let v2 : Index := Scalar.indexCast v1
  let v3 : BitVec 32 := pf.at 0 (Rect.unit (s := S1120) ![v2.toNat] S1.size (k0_off1_inb i 70)) numel1_S1
  let c0_i32 : BitVec 32 := 0#32
  let c0_i32_0 : BitVec 32 := 0#32
  let c0_i32_1 : BitVec 32 := 0#32
  ![v3.toNat, c0_i32.toNat, c0_i32_0.toNat]

def cc0_transform_71 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c71_i32 : BitVec 32 := 71#32
  let v1 : BitVec 32 := Scalar.addi v0 c71_i32
  let v2 : Index := Scalar.indexCast v1
  let v3 : BitVec 32 := pf.at 0 (Rect.unit (s := S1120) ![v2.toNat] S1.size (k0_off1_inb i 71)) numel1_S1
  let c0_i32 : BitVec 32 := 0#32
  let c0_i32_0 : BitVec 32 := 0#32
  let c0_i32_1 : BitVec 32 := 0#32
  ![v3.toNat, c0_i32.toNat, c0_i32_0.toNat]

def cc0_transform_72 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c72_i32 : BitVec 32 := 72#32
  let v1 : BitVec 32 := Scalar.addi v0 c72_i32
  let v2 : Index := Scalar.indexCast v1
  let v3 : BitVec 32 := pf.at 0 (Rect.unit (s := S1120) ![v2.toNat] S1.size (k0_off1_inb i 72)) numel1_S1
  let c0_i32 : BitVec 32 := 0#32
  let c0_i32_0 : BitVec 32 := 0#32
  let c0_i32_1 : BitVec 32 := 0#32
  ![v3.toNat, c0_i32.toNat, c0_i32_0.toNat]

def cc0_transform_73 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c73_i32 : BitVec 32 := 73#32
  let v1 : BitVec 32 := Scalar.addi v0 c73_i32
  let v2 : Index := Scalar.indexCast v1
  let v3 : BitVec 32 := pf.at 0 (Rect.unit (s := S1120) ![v2.toNat] S1.size (k0_off1_inb i 73)) numel1_S1
  let c0_i32 : BitVec 32 := 0#32
  let c0_i32_0 : BitVec 32 := 0#32
  let c0_i32_1 : BitVec 32 := 0#32
  ![v3.toNat, c0_i32.toNat, c0_i32_0.toNat]

def cc0_transform_74 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c74_i32 : BitVec 32 := 74#32
  let v1 : BitVec 32 := Scalar.addi v0 c74_i32
  let v2 : Index := Scalar.indexCast v1
  let v3 : BitVec 32 := pf.at 0 (Rect.unit (s := S1120) ![v2.toNat] S1.size (k0_off1_inb i 74)) numel1_S1
  let c0_i32 : BitVec 32 := 0#32
  let c0_i32_0 : BitVec 32 := 0#32
  let c0_i32_1 : BitVec 32 := 0#32
  ![v3.toNat, c0_i32.toNat, c0_i32_0.toNat]

def cc0_transform_75 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c75_i32 : BitVec 32 := 75#32
  let v1 : BitVec 32 := Scalar.addi v0 c75_i32
  let v2 : Index := Scalar.indexCast v1
  let v3 : BitVec 32 := pf.at 0 (Rect.unit (s := S1120) ![v2.toNat] S1.size (k0_off1_inb i 75)) numel1_S1
  let c0_i32 : BitVec 32 := 0#32
  let c0_i32_0 : BitVec 32 := 0#32
  let c0_i32_1 : BitVec 32 := 0#32
  ![v3.toNat, c0_i32.toNat, c0_i32_0.toNat]

def cc0_transform_76 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c76_i32 : BitVec 32 := 76#32
  let v1 : BitVec 32 := Scalar.addi v0 c76_i32
  let v2 : Index := Scalar.indexCast v1
  let v3 : BitVec 32 := pf.at 0 (Rect.unit (s := S1120) ![v2.toNat] S1.size (k0_off1_inb i 76)) numel1_S1
  let c0_i32 : BitVec 32 := 0#32
  let c0_i32_0 : BitVec 32 := 0#32
  let c0_i32_1 : BitVec 32 := 0#32
  ![v3.toNat, c0_i32.toNat, c0_i32_0.toNat]

def cc0_transform_77 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c77_i32 : BitVec 32 := 77#32
  let v1 : BitVec 32 := Scalar.addi v0 c77_i32
  let v2 : Index := Scalar.indexCast v1
  let v3 : BitVec 32 := pf.at 0 (Rect.unit (s := S1120) ![v2.toNat] S1.size (k0_off1_inb i 77)) numel1_S1
  let c0_i32 : BitVec 32 := 0#32
  let c0_i32_0 : BitVec 32 := 0#32
  let c0_i32_1 : BitVec 32 := 0#32
  ![v3.toNat, c0_i32.toNat, c0_i32_0.toNat]

def cc0_transform_78 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c78_i32 : BitVec 32 := 78#32
  let v1 : BitVec 32 := Scalar.addi v0 c78_i32
  let v2 : Index := Scalar.indexCast v1
  let v3 : BitVec 32 := pf.at 0 (Rect.unit (s := S1120) ![v2.toNat] S1.size (k0_off1_inb i 78)) numel1_S1
  let c0_i32 : BitVec 32 := 0#32
  let c0_i32_0 : BitVec 32 := 0#32
  let c0_i32_1 : BitVec 32 := 0#32
  ![v3.toNat, c0_i32.toNat, c0_i32_0.toNat]

def cc0_transform_79 (k0_off1_inb : ∀ i : grid0.Coords, ∀ (r : Fin 80), ∀ a, (k0_off1 i (BitVec.ofNat 32 r.val)) a + S1.size a ≤ S1120.size a) (numel1_S1 : S1.numel = 1) (pf : pre0.Contents (Elt F)) (i : grid0.Coords) : Fin 3 → Nat :=
  let arg0 : BitVec 32 := BitVec.ofNat 32 (i 0).val
  let c80_i32 : BitVec 32 := 80#32
  let v0 : BitVec 32 := Scalar.muli arg0 c80_i32
  let c79_i32 : BitVec 32 := 79#32
  let v1 : BitVec 32 := Scalar.addi v0 c79_i32
  let v2 : Index := Scalar.indexCast v1
  let v3 : BitVec 32 := pf.at 0 (Rect.unit (s := S1120) ![v2.toNat] S1.size (k0_off1_inb i 79)) numel1_S1
  let c0_i32 : BitVec 32 := 0#32
  let c0_i32_0 : BitVec 32 := 0#32
  let c0_i32_1 : BitVec 32 := 0#32
  ![v3.toNat, c0_i32.toNat, c0_i32_0.toNat]

def cc0_transform_80 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_81 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_82 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_83 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_84 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x256 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x256 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x1x256 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x1x256 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x1x256 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x256 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x1x256 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x1x256 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x1x256 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x1x256 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x1x256 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x1x256 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x1x256 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x1x256 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x1x256 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x1x256 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x1x256 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x1x256 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x1x256 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x1x256 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x1x256 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x1x256 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S1x1x256 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S1x1x256 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S1x1x256 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S1x1x256 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S1x1x256 .f32 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S1x1x256 .f32 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S1x1x256 .f32 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S1x1x256 .f32 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S1x1x256 .f32 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S1x1x256 .f32 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]

abbrev stage0_62 : Fin 2 → Memref sig .tc .vmem S1x1x256 .f32 := fun | 0 => Memref.whole cc0_stg62_0 | 1 => Memref.whole cc0_stg62_1 | ⟨_ + 2, h⟩ => absurd h (Nat.not_lt.2 (Nat.le_add_left _ _))
abbrev sem0_62 : Fin 2 → DmaSem sig := fun | 0 => cc0_sem62_0 | 1 => cc0_sem62_1 | ⟨_ + 2, h⟩ => absurd h (Nat.not_lt.2 (Nat.le_add_left _ _))
abbrev reads0_62 : Fin grid0.rank → Bool := ![true]

abbrev stage0_63 : Fin 2 → Memref sig .tc .vmem S1x1x256 .f32 := fun | 0 => Memref.whole cc0_stg63_0 | 1 => Memref.whole cc0_stg63_1 | ⟨_ + 2, h⟩ => absurd h (Nat.not_lt.2 (Nat.le_add_left _ _))
abbrev sem0_63 : Fin 2 → DmaSem sig := fun | 0 => cc0_sem63_0 | 1 => cc0_sem63_1 | ⟨_ + 2, h⟩ => absurd h (Nat.not_lt.2 (Nat.le_add_left _ _))
abbrev reads0_63 : Fin grid0.rank → Bool := ![true]

abbrev stage0_64 : Fin 2 → Memref sig .tc .vmem S1x1x256 .f32 := fun | 0 => Memref.whole cc0_stg64_0 | 1 => Memref.whole cc0_stg64_1 | ⟨_ + 2, h⟩ => absurd h (Nat.not_lt.2 (Nat.le_add_left _ _))
abbrev sem0_64 : Fin 2 → DmaSem sig := fun | 0 => cc0_sem64_0 | 1 => cc0_sem64_1 | ⟨_ + 2, h⟩ => absurd h (Nat.not_lt.2 (Nat.le_add_left _ _))
abbrev reads0_64 : Fin grid0.rank → Bool := ![true]

abbrev stage0_65 : Fin 2 → Memref sig .tc .vmem S1x1x256 .f32 := fun | 0 => Memref.whole cc0_stg65_0 | 1 => Memref.whole cc0_stg65_1 | ⟨_ + 2, h⟩ => absurd h (Nat.not_lt.2 (Nat.le_add_left _ _))
abbrev sem0_65 : Fin 2 → DmaSem sig := fun | 0 => cc0_sem65_0 | 1 => cc0_sem65_1 | ⟨_ + 2, h⟩ => absurd h (Nat.not_lt.2 (Nat.le_add_left _ _))
abbrev reads0_65 : Fin grid0.rank → Bool := ![true]

abbrev stage0_66 : Fin 2 → Memref sig .tc .vmem S1x1x256 .f32 := fun | 0 => Memref.whole cc0_stg66_0 | 1 => Memref.whole cc0_stg66_1 | ⟨_ + 2, h⟩ => absurd h (Nat.not_lt.2 (Nat.le_add_left _ _))
abbrev sem0_66 : Fin 2 → DmaSem sig := fun | 0 => cc0_sem66_0 | 1 => cc0_sem66_1 | ⟨_ + 2, h⟩ => absurd h (Nat.not_lt.2 (Nat.le_add_left _ _))
abbrev reads0_66 : Fin grid0.rank → Bool := ![true]

abbrev stage0_67 : Fin 2 → Memref sig .tc .vmem S1x1x256 .f32 := fun | 0 => Memref.whole cc0_stg67_0 | 1 => Memref.whole cc0_stg67_1 | ⟨_ + 2, h⟩ => absurd h (Nat.not_lt.2 (Nat.le_add_left _ _))
abbrev sem0_67 : Fin 2 → DmaSem sig := fun | 0 => cc0_sem67_0 | 1 => cc0_sem67_1 | ⟨_ + 2, h⟩ => absurd h (Nat.not_lt.2 (Nat.le_add_left _ _))
abbrev reads0_67 : Fin grid0.rank → Bool := ![true]

abbrev stage0_68 : Fin 2 → Memref sig .tc .vmem S1x1x256 .f32 := fun | 0 => Memref.whole cc0_stg68_0 | 1 => Memref.whole cc0_stg68_1 | ⟨_ + 2, h⟩ => absurd h (Nat.not_lt.2 (Nat.le_add_left _ _))
abbrev sem0_68 : Fin 2 → DmaSem sig := fun | 0 => cc0_sem68_0 | 1 => cc0_sem68_1 | ⟨_ + 2, h⟩ => absurd h (Nat.not_lt.2 (Nat.le_add_left _ _))
abbrev reads0_68 : Fin grid0.rank → Bool := ![true]

abbrev stage0_69 : Fin 2 → Memref sig .tc .vmem S1x1x256 .f32 := fun | 0 => Memref.whole cc0_stg69_0 | 1 => Memref.whole cc0_stg69_1 | ⟨_ + 2, h⟩ => absurd h (Nat.not_lt.2 (Nat.le_add_left _ _))
abbrev sem0_69 : Fin 2 → DmaSem sig := fun | 0 => cc0_sem69_0 | 1 => cc0_sem69_1 | ⟨_ + 2, h⟩ => absurd h (Nat.not_lt.2 (Nat.le_add_left _ _))
abbrev reads0_69 : Fin grid0.rank → Bool := ![true]

abbrev stage0_70 : Fin 2 → Memref sig .tc .vmem S1x1x256 .f32 := fun | 0 => Memref.whole cc0_stg70_0 | 1 => Memref.whole cc0_stg70_1 | ⟨_ + 2, h⟩ => absurd h (Nat.not_lt.2 (Nat.le_add_left _ _))
abbrev sem0_70 : Fin 2 → DmaSem sig := fun | 0 => cc0_sem70_0 | 1 => cc0_sem70_1 | ⟨_ + 2, h⟩ => absurd h (Nat.not_lt.2 (Nat.le_add_left _ _))
abbrev reads0_70 : Fin grid0.rank → Bool := ![true]

abbrev stage0_71 : Fin 2 → Memref sig .tc .vmem S1x1x256 .f32 := fun | 0 => Memref.whole cc0_stg71_0 | 1 => Memref.whole cc0_stg71_1 | ⟨_ + 2, h⟩ => absurd h (Nat.not_lt.2 (Nat.le_add_left _ _))
abbrev sem0_71 : Fin 2 → DmaSem sig := fun | 0 => cc0_sem71_0 | 1 => cc0_sem71_1 | ⟨_ + 2, h⟩ => absurd h (Nat.not_lt.2 (Nat.le_add_left _ _))
abbrev reads0_71 : Fin grid0.rank → Bool := ![true]

abbrev stage0_72 : Fin 2 → Memref sig .tc .vmem S1x1x256 .f32 := fun | 0 => Memref.whole cc0_stg72_0 | 1 => Memref.whole cc0_stg72_1 | ⟨_ + 2, h⟩ => absurd h (Nat.not_lt.2 (Nat.le_add_left _ _))
abbrev sem0_72 : Fin 2 → DmaSem sig := fun | 0 => cc0_sem72_0 | 1 => cc0_sem72_1 | ⟨_ + 2, h⟩ => absurd h (Nat.not_lt.2 (Nat.le_add_left _ _))
abbrev reads0_72 : Fin grid0.rank → Bool := ![true]

abbrev stage0_73 : Fin 2 → Memref sig .tc .vmem S1x1x256 .f32 := fun | 0 => Memref.whole cc0_stg73_0 | 1 => Memref.whole cc0_stg73_1 | ⟨_ + 2, h⟩ => absurd h (Nat.not_lt.2 (Nat.le_add_left _ _))
abbrev sem0_73 : Fin 2 → DmaSem sig := fun | 0 => cc0_sem73_0 | 1 => cc0_sem73_1 | ⟨_ + 2, h⟩ => absurd h (Nat.not_lt.2 (Nat.le_add_left _ _))
abbrev reads0_73 : Fin grid0.rank → Bool := ![true]

abbrev stage0_74 : Fin 2 → Memref sig .tc .vmem S1x1x256 .f32 := fun | 0 => Memref.whole cc0_stg74_0 | 1 => Memref.whole cc0_stg74_1 | ⟨_ + 2, h⟩ => absurd h (Nat.not_lt.2 (Nat.le_add_left _ _))
abbrev sem0_74 : Fin 2 → DmaSem sig := fun | 0 => cc0_sem74_0 | 1 => cc0_sem74_1 | ⟨_ + 2, h⟩ => absurd h (Nat.not_lt.2 (Nat.le_add_left _ _))
abbrev reads0_74 : Fin grid0.rank → Bool := ![true]

abbrev stage0_75 : Fin 2 → Memref sig .tc .vmem S1x1x256 .f32 := fun | 0 => Memref.whole cc0_stg75_0 | 1 => Memref.whole cc0_stg75_1 | ⟨_ + 2, h⟩ => absurd h (Nat.not_lt.2 (Nat.le_add_left _ _))
abbrev sem0_75 : Fin 2 → DmaSem sig := fun | 0 => cc0_sem75_0 | 1 => cc0_sem75_1 | ⟨_ + 2, h⟩ => absurd h (Nat.not_lt.2 (Nat.le_add_left _ _))
abbrev reads0_75 : Fin grid0.rank → Bool := ![true]

abbrev stage0_76 : Fin 2 → Memref sig .tc .vmem S1x1x256 .f32 := fun | 0 => Memref.whole cc0_stg76_0 | 1 => Memref.whole cc0_stg76_1 | ⟨_ + 2, h⟩ => absurd h (Nat.not_lt.2 (Nat.le_add_left _ _))
abbrev sem0_76 : Fin 2 → DmaSem sig := fun | 0 => cc0_sem76_0 | 1 => cc0_sem76_1 | ⟨_ + 2, h⟩ => absurd h (Nat.not_lt.2 (Nat.le_add_left _ _))
abbrev reads0_76 : Fin grid0.rank → Bool := ![true]

abbrev stage0_77 : Fin 2 → Memref sig .tc .vmem S1x1x256 .f32 := fun | 0 => Memref.whole cc0_stg77_0 | 1 => Memref.whole cc0_stg77_1 | ⟨_ + 2, h⟩ => absurd h (Nat.not_lt.2 (Nat.le_add_left _ _))
abbrev sem0_77 : Fin 2 → DmaSem sig := fun | 0 => cc0_sem77_0 | 1 => cc0_sem77_1 | ⟨_ + 2, h⟩ => absurd h (Nat.not_lt.2 (Nat.le_add_left _ _))
abbrev reads0_77 : Fin grid0.rank → Bool := ![true]

abbrev stage0_78 : Fin 2 → Memref sig .tc .vmem S1x1x256 .f32 := fun | 0 => Memref.whole cc0_stg78_0 | 1 => Memref.whole cc0_stg78_1 | ⟨_ + 2, h⟩ => absurd h (Nat.not_lt.2 (Nat.le_add_left _ _))
abbrev sem0_78 : Fin 2 → DmaSem sig := fun | 0 => cc0_sem78_0 | 1 => cc0_sem78_1 | ⟨_ + 2, h⟩ => absurd h (Nat.not_lt.2 (Nat.le_add_left _ _))
abbrev reads0_78 : Fin grid0.rank → Bool := ![true]

abbrev stage0_79 : Fin 2 → Memref sig .tc .vmem S1x1x256 .f32 := fun | 0 => Memref.whole cc0_stg79_0 | 1 => Memref.whole cc0_stg79_1 | ⟨_ + 2, h⟩ => absurd h (Nat.not_lt.2 (Nat.le_add_left _ _))
abbrev sem0_79 : Fin 2 → DmaSem sig := fun | 0 => cc0_sem79_0 | 1 => cc0_sem79_1 | ⟨_ + 2, h⟩ => absurd h (Nat.not_lt.2 (Nat.le_add_left _ _))
abbrev reads0_79 : Fin grid0.rank → Bool := ![true]

abbrev stage0_80 : Fin 1 → Memref sig .tc .vmem S256x512 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))
abbrev reads0_80 : Fin grid0.rank → Bool := ![false]

abbrev stage0_81 : Fin 1 → Memref sig .tc .vmem S1x512 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))
abbrev reads0_81 : Fin grid0.rank → Bool := ![false]

abbrev stage0_82 : Fin 1 → Memref sig .tc .vmem S512x256 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))
abbrev reads0_82 : Fin grid0.rank → Bool := ![false]

abbrev stage0_83 : Fin 1 → Memref sig .tc .vmem S1x256 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))
abbrev reads0_83 : Fin grid0.rank → Bool := ![false]

abbrev stage0_84 : Fin 2 → Memref sig .tc .vmem S1x16x256 .f32 := fun | 0 => Memref.whole cc0_stg84_0 | 1 => Memref.whole cc0_stg84_1 | ⟨_ + 2, h⟩ => absurd h (Nat.not_lt.2 (Nat.le_add_left _ _))
abbrev sem0_84 : Fin 2 → DmaSem sig := fun | 0 => cc0_sem84_0 | 1 => cc0_sem84_1 | ⟨_ + 2, h⟩ => absurd h (Nat.not_lt.2 (Nat.le_add_left _ _))
abbrev reads0_84 : Fin grid0.rank → Bool := ![true]
-- ==== LocalRefIdeal.lean ====
abbrev S1120 : Shape := ⟨1, ![1120]⟩
abbrev S100000x256 : Shape := ⟨2, ![100000, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S224x5 : Shape := ⟨2, ![224, 5]⟩
abbrev S_ : Shape := ⟨0, ![]⟩
abbrev S224x5x1 : Shape := ⟨3, ![224, 5, 1]⟩
abbrev S224x5x256 : Shape := ⟨3, ![224, 5, 256]⟩
abbrev S224x5x512 : Shape := ⟨3, ![224, 5, 512]⟩
abbrev S1x1x512 : Shape := ⟨3, ![1, 1, 512]⟩
abbrev S1x1x256 : Shape := ⟨3, ![1, 1, 256]⟩
abbrev S224x256 : Shape := ⟨2, ![224, 256]⟩
abbrev S14x16x256 : Shape := ⟨3, ![14, 16, 256]⟩

abbrev nBuf : Space → Nat
  | .hbm => 39
  | .vmem => 0
  | .smem => 0
  | _ => 0

abbrev bufTy : (tb : Table) → Fin (tcTables nBuf tb) → BufTy
  | .hbm, ⟨0, _⟩ => ⟨S1120, .i32⟩
  | .hbm, ⟨1, _⟩ => ⟨S100000x256, .f32⟩
  | .hbm, ⟨2, _⟩ => ⟨S256x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S224x5, .i32⟩
  | .hbm, ⟨7, _⟩ => ⟨S_, .i32⟩
  | .hbm, ⟨8, _⟩ => ⟨S224x5, .i32⟩
  | .hbm, ⟨9, _⟩ => ⟨S224x5, .i1⟩
  | .hbm, ⟨10, _⟩ => ⟨S_, .i32⟩
  | .hbm, ⟨11, _⟩ => ⟨S224x5, .i32⟩
  | .hbm, ⟨12, _⟩ => ⟨S224x5, .i32⟩
  | .hbm, ⟨13, _⟩ => ⟨S224x5, .i32⟩
  | .hbm, ⟨14, _⟩ => ⟨S224x5x1, .i32⟩
  | .hbm, ⟨15, _⟩ => ⟨S224x5x256, .f32⟩
  | .hbm, ⟨16, _⟩ => ⟨S224x5x512, .f32⟩
  | .hbm, ⟨17, _⟩ => ⟨S1x1x512, .f32⟩
  | .hbm, ⟨18, _⟩ => ⟨S224x5x512, .f32⟩
  | .hbm, ⟨19, _⟩ => ⟨S224x5x512, .f32⟩
  | .hbm, ⟨20, _⟩ => ⟨S_, .f32⟩
  | .hbm, ⟨21, _⟩ => ⟨S224x5x512, .f32⟩
  | .hbm, ⟨22, _⟩ => ⟨S224x5x512, .f32⟩
  | .hbm, ⟨23, _⟩ => ⟨S224x5x512, .f32⟩
  | .hbm, ⟨24, _⟩ => ⟨S_, .f32⟩
  | .hbm, ⟨25, _⟩ => ⟨S224x5x512, .f32⟩
  | .hbm, ⟨26, _⟩ => ⟨S224x5x512, .f32⟩
  | .hbm, ⟨27, _⟩ => ⟨S224x5x512, .f32⟩
  | .hbm, ⟨28, _⟩ => ⟨S224x5x512, .f32⟩
  | .hbm, ⟨29, _⟩ => ⟨S224x5x256, .f32⟩
  | .hbm, ⟨30, _⟩ => ⟨S1x1x256, .f32⟩
  | .hbm, ⟨31, _⟩ => ⟨S224x5x256, .f32⟩
  | .hbm, ⟨32, _⟩ => ⟨S224x5x256, .f32⟩
  | .hbm, ⟨33, _⟩ => ⟨S_, .f32⟩
  | .hbm, ⟨34, _⟩ => ⟨S224x256, .f32⟩
  | .hbm, ⟨35, _⟩ => ⟨S_, .f32⟩
  | .hbm, ⟨36, _⟩ => ⟨S224x256, .f32⟩
  | .hbm, ⟨37, _⟩ => ⟨S224x256, .f32⟩
  | .hbm, ⟨38, _⟩ => ⟨S14x16x256, .f32⟩
  | _, _ => ⟨S1120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.AttnBlock.lean ====
module

public import proofs.«01_k».proof.Proof.Gen.AttnIdeal.Skeleton
public import Idealize.ShloMosaic.Lib.Pointwise

@[expose] public section

set_option maxRecDepth 16384

noncomputable section

namespace Cert.AttnBlock

open Cert.AttnIdeal Cert.AttnIdeal.Gen Idealize.ShloMosaic

/-- The scaled scores of one head's block. -/
def scores (q k : FVec Ideal S16x64x64 .f32) : FVec Ideal S16x64x64 .f32 :=
  mulf (matmul dot_S16x64x64_S16x64x64_S16x64x64_2_2_1_1_0_0 none q k (constant S16x64x64 .f32 0x00000000#32))
    (broadcast S16x64x64 (Scalar.ofBits .f32 0x3E000000#32))

/-- The exponentials of the scores less each row's maximum. -/
def expd (s : FVec Ideal S16x64x64 .f32) : FVec Ideal S16x64x64 .f32 :=
  exp (subf s (broadcastTo S16x64x64 (shapeCast S16x64x1 (multiReduction .maximumf [2] S16x64 s 0xFF800000#32 reduces_S16x64x64_S16x64 (.inl rfl) rfl) shapeCasts_S16x64_S16x64x1) broadcasts_S16x64x1_S16x64x64))

/-- Each row's sum, spread over the row. -/
def sums (e : FVec Ideal S16x64x64 .f32) : FVec Ideal S16x64x64 .f32 :=
  broadcastTo S16x64x64 (shapeCast S16x64x1 (multiReduction .add [2] S16x64 e 0x00000000#32 reduces_S16x64x64_S16x64 (.inl rfl) rfl) shapeCasts_S16x64_S16x64x1) broadcasts_S16x64x1_S16x64x64

/-- One head's weighted sum of its values. -/
def head (q k v : FVec Ideal S16x64x64 .f32) : FVec Ideal S16x64x64 .f32 :=
  matmul dot_S16x64x64_S16x64x64_S16x64x64_2_1_1_2_0_0 none (divf (expd (scores q k)) (sums (expd (scores q k)))) v (constant S16x64x64 .f32 0x00000000#32)

/-- One entry of the attention of one head: the softmax over the row's scaled scores, applied to the values. -/
def core (Q K V : Fin 64 → Fin 64 → EReal) (s t : Fin 64) : EReal :=
  ∑ u : Fin 64, Ideal.div
      (Ideal.exp ((∑ d : Fin 64, Q s d * K u d) * Ideal.ofBits .f32 0x3E000000#32
        - Finset.fold max (Ideal.ofBits .f32 0xFF800000#32) (fun w : Fin 64 => (∑ d : Fin 64, Q s d * K w d) * Ideal.ofBits .f32 0x3E000000#32) Finset.univ))
      (∑ v : Fin 64, Ideal.exp ((∑ d : Fin 64, Q s d * K v d) * Ideal.ofBits .f32 0x3E000000#32
        - Finset.fold max (Ideal.ofBits .f32 0xFF800000#32) (fun w : Fin 64 => (∑ d : Fin 64, Q s d * K w d) * Ideal.ofBits .f32 0x3E000000#32) Finset.univ)) * V u t

/-- Column `d` of head `h`. -/
def col (h : Fin 4) (d : Fin 64) : Fin 256 := ⟨h.val * 64 + d.val, by omega⟩

/-- The attention of head `h` of projected rows. -/
def mha (Q K V : Fin 64 → Fin 256 → EReal) (h : Fin 4) : Fin 64 → Fin 64 → EReal :=
  core (fun s d => Q s (col h d)) (fun s d => K s (col h d)) (fun s d => V s (col h d))

/-- A row times a weight, plus the bias. -/
def proj (x : Fin 64 → Fin 256 → EReal) (W : Fin 256 → Fin 256 → EReal) (b : Fin 256 → EReal) (s : Fin 64) (c : Fin 256) : EReal :=
  ∑ k, x s k * W k c + b c

/-- The whole of the attention of one sequence. -/
def attn (x : Fin 64 → Fin 256 → EReal) (Wq : Fin 256 → Fin 256 → EReal) (bq : Fin 256 → EReal) (Wk : Fin 256 → Fin 256 → EReal) (bk : Fin 256 → EReal)
    (Wv : Fin 256 → Fin 256 → EReal) (bv : Fin 256 → EReal) (Wo : Fin 256 → Fin 256 → EReal) (bo : Fin 256 → EReal) (s : Fin 64) (c : Fin 256) : EReal :=
  ∑ j : Fin 256, mha (proj x Wq bq) (proj x Wk bk) (proj x Wv bv) ⟨j.val / 64, by omega⟩ s ⟨j.val % 64, by omega⟩ * Wo j c + bo c

theorem head_apply (q k v : FVec Ideal S16x64x64 .f32) (b : Fin 16) (s t : Fin 64) :
    head q k v (ix3 b s t) = core (fun s d => q (ix3 b s d)) (fun s d => k (ix3 b s d)) (fun s d => v (ix3 b s d)) s t := by
  have h1 : ∀ s t, scores q k (ix3 b s t) = (∑ d : Fin 64, q (ix3 b s d) * k (ix3 b t d)) * Ideal.ofBits .f32 0x3E000000#32 := by
    intro s t; pointwise [scores]
  have h2 : ∀ x : FVec Ideal S16x64x64 .f32, ∀ s t, expd x (ix3 b s t) =
      Ideal.exp (x (ix3 b s t) - Finset.fold max (Ideal.ofBits .f32 0xFF800000#32) (fun w : Fin 64 => x (ix3 b s w)) Finset.univ) := by
    intro x s t; pointwise [expd]
  have h3 : ∀ x : FVec Ideal S16x64x64 .f32, ∀ s t, sums x (ix3 b s t) = ∑ u : Fin 64, x (ix3 b s u) := by
    intro x s t; pointwise [sums]
  pointwise [head]
  simp only [h3, h2, h1, core]

theorem ninf : Ideal.ofBits .f32 0xFF800000#32 = ⊥ := by simp [Ideal.ofBits, Ideal.ieee]

theorem eighth : Ideal.ofBits .f32 0x3E000000#32 = ((1 / 8 : ℝ) : EReal) := by
  simp [Ideal.ofBits, Ideal.ieee, -EReal.coe_mul]; norm_num

theorem eight : Ideal.ofBits .f32 0x41000000#32 = ((8 : ℝ) : EReal) := by
  simp [Ideal.ofBits, Ideal.ieee, -EReal.coe_mul]; norm_num

/-- Dividing by eight is multiplying by an eighth. -/
theorem div_eight (x : EReal) : Ideal.div x (Ideal.ofBits .f32 0x41000000#32) = x * Ideal.ofBits .f32 0x3E000000#32 := by
  rw [eight, eighth, Ideal.div, if_neg (by norm_num), ← EReal.coe_inv]
  norm_num

theorem max_ninf (x : EReal) : max (Ideal.ofBits .f32 0xFF800000#32) x = x := by
  rw [ninf]; exact max_eq_right bot_le

theorem cols_apply (o : Nat) (h : Fin 4) (ho : o = h.val * 64) (v : FVec Ideal S1024x256 .f32) (hs : S1024x256.Slices ![0, o] S1024x64) (b : Fin 16) (s d : Fin 64) :
   (shapeCast S16x64x64 (extractStridedSlice S1024x64 ![0, o] v hs) shapeCasts_S1024x64_S16x64x64) (ix3 b s d) = v (ix2 ⟨b.val * 64 + s.val, by omega⟩ (col h d)) := by
  subst ho
  pointwise [col]

/-- One head's columns of the block's output. -/
theorem headcols_apply (o : Nat) (h : Fin 4) (ho : o = h.val * 64) (v7 v13 v19 : FVec Ideal S1024x256 .f32) (hs : S1024x256.Slices ![0, o] S1024x64) (i : Fin 1024) (d : Fin 64) :
    shapeCast S1024x64 (head (shapeCast S16x64x64 (extractStridedSlice S1024x64 ![0, o] v7 hs) shapeCasts_S1024x64_S16x64x64)
      (shapeCast S16x64x64 (extractStridedSlice S1024x64 ![0, o] v13 hs) shapeCasts_S1024x64_S16x64x64)
      (shapeCast S16x64x64 (extractStridedSlice S1024x64 ![0, o] v19 hs) shapeCasts_S1024x64_S16x64x64)) shapeCasts_S16x64x64_S1024x64 (ix2 i d)
    = mha (fun s c => v7 (ix2 ⟨i.val / 64 * 64 + s.val, by omega⟩ c)) (fun s c => v13 (ix2 ⟨i.val / 64 * 64 + s.val, by omega⟩ c)) (fun s c => v19 (ix2 ⟨i.val / 64 * 64 + s.val, by omega⟩ c)) h ⟨i.val % 64, by omega⟩ d := by
  pointwise
  rw [head_apply]
  simp only [cols_apply o h ho, mha]

theorem pay3_apply (v0 : Vec Ideal S16x64x256 .f32) (v2 : Vec Ideal S256x256 .f32) (v4 : Vec Ideal S1x256 .f32) (i : Fin 1024) (c : Fin 256) :
    k0_pay3 v0 v2 v4 (ix2 i c) = proj (fun s k => v0 (ix3 ⟨i.val / 64, by omega⟩ s k)) (fun k c => v2 (ix2 k c)) (fun c => v4 (ix2 0 c)) ⟨i.val % 64, by omega⟩ c := by
  pointwise [k0_pay3, k0_pay2, proj]

/-- What a point of the launch stores, at an index. -/
theorem pay1_apply (x : Vec Ideal S16x64x256 .f32) (wq : Vec Ideal S256x256 .f32) (bq : Vec Ideal S1x256 .f32) (wk : Vec Ideal S256x256 .f32) (bk : Vec Ideal S1x256 .f32)
    (wv : Vec Ideal S256x256 .f32) (bv : Vec Ideal S1x256 .f32) (wo : Vec Ideal S256x256 .f32) (bo : Vec Ideal S1x256 .f32) (b : Fin 16) (s : Fin 64) (c : Fin 256) :
    k0_pay1 (k0_pay9 (k0_pay6 x wv bv) (k0_pay7 x wq bq wk bk) (k0_pay8 x wq bq wk bk))
        (k0_pay10 (k0_pay3 x wq bq) (k0_pay4 x wk bk) (k0_pay5 x wv bv)) (k0_pay11 (k0_pay3 x wq bq) (k0_pay4 x wk bk) (k0_pay5 x wv bv))
        (k0_pay12 (k0_pay3 x wq bq)) (k0_pay13 (k0_pay4 x wk bk)) (k0_pay14 (k0_pay5 x wv bv)) wo bo (ix3 b s c)
      = attn (fun s k => x (ix3 b s k)) (fun k c => wq (ix2 k c)) (fun c => bq (ix2 0 c)) (fun k c => wk (ix2 k c)) (fun c => bk (ix2 0 c))
          (fun k c => wv (ix2 k c)) (fun c => bv (ix2 0 c)) (fun k c => wo (ix2 k c)) (fun c => bo (ix2 0 c)) s c := by
  set hd : (o : Nat) → (hs : S1024x256.Slices ![0, o] S1024x64) → FVec Ideal S1024x64 .f32 := fun o hs =>
    shapeCast S1024x64 (head (shapeCast S16x64x64 (extractStridedSlice S1024x64 ![0, o] (k0_pay3 x wq bq) hs) shapeCasts_S1024x64_S16x64x64)
      (shapeCast S16x64x64 (extractStridedSlice S1024x64 ![0, o] (k0_pay3 x wk bk) hs) shapeCasts_S1024x64_S16x64x64)
      (shapeCast S16x64x64 (extractStridedSlice S1024x64 ![0, o] (k0_pay3 x wv bv) hs) shapeCasts_S1024x64_S16x64x64)) shapeCasts_S16x64x64_S1024x64 with hhd
  have key : ∀ (o : Nat) (hs : S1024x256.Slices ![0, o] S1024x64) (h : Fin 4), o = h.val * 64 → ∀ (i : Fin 1024) (d : Fin 64), i.val / 64 = b.val → i.val % 64 = s.val →
      hd o hs (ix2 i d) = mha (proj (fun s k => x (ix3 b s k)) (fun k c => wq (ix2 k c)) (fun c => bq (ix2 0 c)))
        (proj (fun s k => x (ix3 b s k)) (fun k c => wk (ix2 k c)) (fun c => bk (ix2 0 c)))
        (proj (fun s k => x (ix3 b s k)) (fun k c => wv (ix2 k c)) (fun c => bv (ix2 0 c))) h s d := by
    intro o hs h ho i d hb hss
    rw [hhd]
    dsimp only
    rw [headcols_apply o h ho]
    simp only [pay3_apply]
    have e1 : ∀ s' : Fin 64, (⟨(i.val / 64 * 64 + s'.val) / 64, by omega⟩ : Fin 16) = b := fun s' => Fin.ext (by simp only []; omega)
    have e2 : ∀ s' : Fin 64, (⟨(i.val / 64 * 64 + s'.val) % 64, by omega⟩ : Fin 64) = s' := fun s' => Fin.ext (by simp only []; omega)
    have e3 : (⟨i.val % 64, by omega⟩ : Fin 64) = s := Fin.ext hss
    simp only [e1, e2, e3]
  show shapeCast S16x64x256 (addf (matmul dot_S1024x256_S256x256_S1024x256_1_0_0_1_n_n none (concatenate S1024x256 1 [⟨S1024x64, hd 0 slices_S1024x256_o0_0_S1024x64⟩, ⟨S1024x64, hd 64 slices_S1024x256_o0_64_S1024x64⟩, ⟨S1024x64, hd 128 slices_S1024x256_o0_128_S1024x64⟩, ⟨S1024x64, hd 192 slices_S1024x256_o0_192_S1024x64⟩] concatenates_S1024x64_S1024x64_S1024x64_S1024x64_S1024x256_d1) wo (constant S1024x256 .f32 0x00000000#32))
    (broadcastTo S1024x256 (shapeCast S1x256 bo shapeCasts_S1x256_S1x256) broadcasts_S1x256_S1024x256)) shapeCasts_S1024x256_S16x64x256 (ix3 b s c) = _
  clear_value hd
  pointwise [attn]
  congr 1
  refine Finset.sum_congr rfl fun j _ => ?_
  congr 1
  have e1 : (b.val * 64 + s.val) / 64 = b.val := by omega
  have e2 : (b.val * 64 + s.val) % 64 = s.val := by omega
  have fin : ∀ (o : Nat) (hs : S1024x256.Slices ![0, o] S1024x64) (h : Fin 4) (ho : o = h.val * 64) (i : Fin 1024) (d : Fin 64), i.val = b.val * 64 + s.val → o + d.val = j.val →
      hd o hs (ix2 i d) = mha (proj (fun s k => x (ix3 b s k)) (fun k c => wq (ix2 k c)) (fun c => bq (ix2 0 c)))
        (proj (fun s k => x (ix3 b s k)) (fun k c => wk (ix2 k c)) (fun c => bk (ix2 0 c)))
        (proj (fun s k => x (ix3 b s k)) (fun k c => wv (ix2 k c)) (fun c => bv (ix2 0 c))) ⟨j.val / 64, by omega⟩ s ⟨j.val % 64, by omega⟩ := by
    intro o hs h ho i d hi hd'
    rw [key o hs h ho i d (by omega) (by omega)]
    exact congrArg₂ (fun h d => mha _ _ _ h s d) (Fin.ext (by simp only []; omega)) (Fin.ext (by simp only []; omega))
  by_cases h0 : j.val < 64
  · exact (dif_pos h0).trans (fin 0 _ 0 rfl _ _ rfl (by simp))
  refine (dif_neg h0).trans ?_
  by_cases h1 : j.val - 64 < 64
  · exact (dif_pos h1).trans (fin 64 _ 1 rfl _ _ rfl (by simp only []; omega))
  refine (dif_neg h1).trans ?_
  by_cases h2 : j.val - 64 - 64 < 64
  · exact (dif_pos h2).trans (fin 128 _ 2 rfl _ _ rfl (by simp only []; omega))
  exact (dif_neg h2).trans (fin 192 _ 3 rfl _ _ rfl (by simp only []; omega))

end Cert.AttnBlock

end
-- ==== Proof.AttnRefTerm.lean ====
module

public import proofs.«01_k».proof.Proof.Gen.AttnRefIdeal.Run
public import proofs.«01_k».proof.Proof.AttnBlock
public import Idealize.ShloMosaic.Lib.Pointwise

@[expose] public section

set_option maxRecDepth 16384

noncomputable section

namespace Cert.AttnRefTerm

open Cert.AttnRefIdeal Cert.AttnRefIdeal.Gen Idealize.ShloMosaic
open Cert.AttnBlock (core mha proj attn col div_eight max_ninf)

/-- A projection, its columns split into heads. -/
def rproj (x : FVec Ideal S224x64x256 .f32) (W : FVec Ideal S256x256 .f32) (b : FVec Ideal S256 .f32) : FVec Ideal S224x4x64x64 .f32 :=
  transpose S224x4x64x64 [0, 2, 1, 3] (shapeCast S224x64x4x64 (addf (Host.dotGeneral dot_S224x64x256_S256x256_S224x64x256_2_0_01_1_n_n none x W) (broadcastInDim S224x64x256 ![0, 1, 2] bcast_S1x1x256_S224x64x256_0_1_2 (broadcastInDim S1x1x256 ![2] bcast_S256_S1x1x256_2 b))) shapeCasts_S224x64x256_S224x64x4x64) transposes_S224x64x4x64_S224x4x64x64_0_2_1_3

/-- The scaled scores. -/
def rscores (q k : FVec Ideal S224x4x64x64 .f32) : FVec Ideal S224x4x64x64 .f32 :=
  Host.divf (Host.dotGeneral dot_S224x4x64x64_S224x4x64x64_S224x4x64x64_3_3_2_2_01_01 none q k) (broadcastInDim S224x4x64x64 ![] bcast_S_S224x4x64x64 (constant S_ .f32 0x41000000#32))

/-- The exponentials of the scores less each row's maximum. -/
def rexp (s : FVec Ideal S224x4x64x64 .f32) : FVec Ideal S224x4x64x64 .f32 :=
  Host.exp (subf s (broadcastInDim S224x4x64x64 ![0, 1, 2, 3] bcast_S224x4x64x1_S224x4x64x64_0_1_2_3 (broadcastInDim S224x4x64x1 ![0, 1, 2] bcast_S224x4x64_S224x4x64x1_0_1_2 (maximumf (broadcastInDim S224x4x64 ![] bcast_S_S224x4x64 (constant S_ .f32 0xFF800000#32)) (Host.reduce FloatOps.maximumf s (constant S_ .f32 0xFF800000#32) reducesTo_S224x4x64x64_S224x4x64_d3 h_S_)))))

/-- The softmax applied to the values, the heads side by side again. -/
def rctx (e v : FVec Ideal S224x4x64x64 .f32) : FVec Ideal S224x64x256 .f32 :=
  shapeCast S224x64x256 (transpose S224x64x4x64 [0, 2, 1, 3] (Host.dotGeneral dot_S224x4x64x64_S224x4x64x64_S224x4x64x64_3_2_2_3_01_01 none (Host.divf e (broadcastInDim S224x4x64x64 ![0, 1, 2, 3] bcast_S224x4x64x1_S224x4x64x64_0_1_2_3 (broadcastInDim S224x4x64x1 ![0, 1, 2] bcast_S224x4x64_S224x4x64x1_0_1_2 (Host.reduceAdd e (constant S_ .f32 0x00000000#32) reducesTo_S224x4x64x64_S224x4x64_d3 h_S_)))) v) transposes_S224x4x64x64_S224x64x4x64_0_2_1_3) shapeCasts_S224x64x4x64_S224x64x256

/-- The reference's term. -/
def rattn (x : FVec Ideal S224x64x256 .f32) (wq : FVec Ideal S256x256 .f32) (bq : FVec Ideal S256 .f32) (wk : FVec Ideal S256x256 .f32) (bk : FVec Ideal S256 .f32)
    (wv : FVec Ideal S256x256 .f32) (bv : FVec Ideal S256 .f32) (wo : FVec Ideal S256x256 .f32) (bo : FVec Ideal S256 .f32) : FVec Ideal S224x64x256 .f32 :=
  addf (Host.dotGeneral dot_S224x64x256_S256x256_S224x64x256_2_0_01_1_n_n none (rctx (rexp (rscores (rproj x wq bq) (rproj x wk bk))) (rproj x wv bv)) wo) (broadcastInDim S224x64x256 ![0, 1, 2] bcast_S1x1x256_S224x64x256_0_1_2 (broadcastInDim S1x1x256 ![2] bcast_S256_S1x1x256_2 bo))

theorem rproj_apply (x : FVec Ideal S224x64x256 .f32) (W : FVec Ideal S256x256 .f32) (b : FVec Ideal S256 .f32) (B : Fin 224) (h : Fin 4) (s d : Fin 64) :
    rproj x W b (ix4 B h s d) = proj (fun s k => x (ix3 B s k)) (fun k j => W (ix2 k j)) (fun j => b (ix1 j)) s (col h d) := by
  pointwise [rproj, proj, col]

theorem rscores_apply (q k : FVec Ideal S224x4x64x64 .f32) (B : Fin 224) (h : Fin 4) (s t : Fin 64) :
    rscores q k (ix4 B h s t) = (∑ d : Fin 64, q (ix4 B h s d) * k (ix4 B h t d)) * Ideal.ofBits .f32 0x3E000000#32 := by
  rw [← div_eight]
  pointwise [rscores]

theorem rmax_apply (x : FVec Ideal S224x4x64x64 .f32) (B : Fin 224) (h : Fin 4) (s : Fin 64) :
    Host.reduce FloatOps.maximumf x (constant S_ .f32 0xFF800000#32) reducesTo_S224x4x64x64_S224x4x64_d3 h_S_ (ix3 B h s)
      = Finset.fold max (Ideal.ofBits .f32 0xFF800000#32) (fun w : Fin 64 => x (ix4 B h s w)) Finset.univ := by
  pointwise

theorem rless_apply (m : FVec Ideal S224x4x64 .f32) (x : FVec Ideal S224x4x64x64 .f32) (B : Fin 224) (h : Fin 4) (s t : Fin 64) :
    Host.exp (subf x (broadcastInDim S224x4x64x64 ![0, 1, 2, 3] bcast_S224x4x64x1_S224x4x64x64_0_1_2_3 (broadcastInDim S224x4x64x1 ![0, 1, 2] bcast_S224x4x64_S224x4x64x1_0_1_2 m))) (ix4 B h s t)
      = Ideal.exp (x (ix4 B h s t) - m (ix3 B h s)) := by
  pointwise

theorem rfrom_apply (m : FVec Ideal S224x4x64 .f32) (B : Fin 224) (h : Fin 4) (s : Fin 64) :
    maximumf (broadcastInDim S224x4x64 ![] bcast_S_S224x4x64 (constant S_ .f32 0xFF800000#32)) m (ix3 B h s)
      = max (Ideal.ofBits .f32 0xFF800000#32) (m (ix3 B h s)) := by
  pointwise

theorem rexp_apply (x : FVec Ideal S224x4x64x64 .f32) (B : Fin 224) (h : Fin 4) (s t : Fin 64) :
    rexp x (ix4 B h s t) = Ideal.exp (x (ix4 B h s t) - Finset.fold max (Ideal.ofBits .f32 0xFF800000#32) (fun w : Fin 64 => x (ix4 B h s w)) Finset.univ) := by
  unfold rexp
  rw [rless_apply, rfrom_apply, rmax_apply, max_ninf]

theorem rctx_apply (e v : FVec Ideal S224x4x64x64 .f32) (B : Fin 224) (s : Fin 64) (j : Fin 256) :
    rctx e v (ix3 B s j) = ∑ u : Fin 64, Ideal.div (e (ix4 B ⟨j.val / 64, by omega⟩ s u)) (∑ w : Fin 64, e (ix4 B ⟨j.val / 64, by omega⟩ s w)) * v (ix4 B ⟨j.val / 64, by omega⟩ u ⟨j.val % 64, by omega⟩) := by
  pointwise [rctx]

theorem rattn_apply (x : FVec Ideal S224x64x256 .f32) (wq : FVec Ideal S256x256 .f32) (bq : FVec Ideal S256 .f32) (wk : FVec Ideal S256x256 .f32) (bk : FVec Ideal S256 .f32)
    (wv : FVec Ideal S256x256 .f32) (bv : FVec Ideal S256 .f32) (wo : FVec Ideal S256x256 .f32) (bo : FVec Ideal S256 .f32) (B : Fin 224) (s : Fin 64) (j : Fin 256) :
    rattn x wq bq wk bk wv bv wo bo (ix3 B s j) = attn (fun s k => x (ix3 B s k)) (fun k j => wq (ix2 k j)) (fun j => bq (ix1 j))
      (fun k j => wk (ix2 k j)) (fun j => bk (ix1 j)) (fun k j => wv (ix2 k j)) (fun j => bv (ix1 j)) (fun k j => wo (ix2 k j)) (fun j => bo (ix1 j)) s j := by
  unfold rattn
  pointwise [attn]
  simp only [rctx_apply, rexp_apply, rscores_apply, rproj_apply, mha, core]

open Cert.AttnRefIdeal.Value in
theorem res_eq (m : (ℓ : Loc nD τ sig) → Buf (Elt Ideal) ℓ) (c : Dev nD) :
    res_main_v38 m c = rattn (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) := by
  unfold res_main_v38 rattn rctx rexp rscores rproj
  rfl

end Cert.AttnRefTerm

end
-- ==== Proof.AttnValue.lean ====
module

public import proofs.«01_k».proof.Proof.Gen.AttnIdeal.Value
public import proofs.«01_k».proof.Proof.AttnRefTerm
public import Idealize.ShloMosaic.Lib.Pointwise
public import Idealize.ShloMosaic.Lib.Claim
public import Idealize.ShloMosaic.Lib.Pipeline.ValueKit

@[expose] public section

set_option maxRecDepth 16384

noncomputable section

namespace Cert.AttnValue

open Cert.AttnIdeal Cert.AttnIdeal.Gen Idealize.ShloMosaic Idealize.ShloMosaic.TcCoe
open Cert.AttnBlock (core mha proj attn col)

variable (m : (ℓ : Loc nD τ sig) → Buf (Elt Ideal) ℓ)

theorem idx : ∀ t : Fin cfg0.N, win0_0.index t = ![t.val, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![t.val, 0, 0] :=
  (by decide +kernel : ∀ t : Fin grid0.N, _)

theorem pay15_eq (x0 : Vec Ideal S16x64x256 .f32) (x1 : Vec Ideal S256x256 .f32) (x2 : Vec Ideal S1x256 .f32) (x3 : Vec Ideal S256x256 .f32) (x4 : Vec Ideal S1x256 .f32) (x5 : Vec Ideal S256x256 .f32) (x6 : Vec Ideal S1x256 .f32) (x7 : Vec Ideal S256x256 .f32) (x8 : Vec Ideal S1x256 .f32) :
    k0_pay15 x0 x1 x2 x3 x4 x5 x6 x7 x8 = k0_pay3 x0 x1 x2 ∧ k0_pay16 x0 x1 x2 x3 x4 x5 x6 x7 x8 = k0_pay4 x0 x3 x4 ∧ k0_pay17 x0 x1 x2 x3 x4 x5 x6 x7 x8 = k0_pay5 x0 x5 x6 := by
  refine ⟨?_, ?_, ?_⟩
  · frame_out [k0_pay15]
  · frame_out [k0_pay16]
  · frame_out [k0_pay17]

/-- The launch's result array is the reference's term of its arguments. -/
theorem final (c : Dev nD) : (dats m 0 c).arrAt 9 cfg0.N
    = Cert.AttnRefTerm.rattn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) := by
  refine (dats m 0 c).arrAt_eq_of_covers 9 _ (by decide +kernel) fun t hf y => ?_
  blk_simp
  rw [after0_9]
  frame_out
  idx_vars y
  have hN : t.val < 14 := t.isLt
  have he : ((View.whole main_v4).slice (win0_9.rect t)).emb (ix3 y0 y1 y2) = ix3 ⟨t.val * 16 + y0.val, by omega⟩ y1 y2 := by blk_ext [idx t]
  rw [(pay15_eq _ _ _ _ _ _ _ _ _).1, (pay15_eq _ _ _ _ _ _ _ _ _).2.1, (pay15_eq _ _ _ _ _ _ _ _ _).2.2]
  refine (Cert.AttnBlock.pay1_apply _ _ _ _ _ _ _ _ _ y0 y1 y2).trans ?_
  rw [he]
  refine Eq.trans ?_ (Cert.AttnRefTerm.rattn_apply _ _ _ _ _ _ _ _ _ _ y1 y2).symm
  blk_point [iblk, V, idx t]

end Cert.AttnValue

end
-- ==== Proof.TopkRounds.lean ====
module

public import Idealize.ShloMosaic.Lib.Pointwise

@[expose] public section

noncomputable section

namespace Cert.TopkRounds

variable {n : ℕ}

/-- The largest entry of a row. -/
def top (A : Fin n → EReal) : EReal := Finset.univ.fold max ⊥ A

theorem le_top (A : Fin n → EReal) (p : Fin n) : A p ≤ top A := by
  unfold top
  rw [Finset.le_fold_max]
  exact .inr ⟨p, Finset.mem_univ p, le_rfl⟩

theorem top_le (A : Fin n → EReal) (c : EReal) (h : ∀ p, A p ≤ c) : top A ≤ c := by
  unfold top
  rw [Finset.fold_max_le]
  exact ⟨bot_le, fun p _ => h p⟩

theorem top_mem [NeZero n] (A : Fin n → EReal) : ∃ p, A p = top A := by
  obtain ⟨p, -, hp⟩ := Finset.exists_max_image Finset.univ A ⟨0, Finset.mem_univ 0⟩
  exact ⟨p, le_antisymm (le_top A p) (top_le A _ fun q => hp q (Finset.mem_univ q))⟩

theorem hits_nonempty [NeZero n] (A : Fin n → EReal) : (Finset.univ.filter fun p => A p = top A).Nonempty := by
  obtain ⟨p, hp⟩ := top_mem A
  exact ⟨p, by simp [hp]⟩

/-- The first place of the largest entry. -/
def pick [NeZero n] (A : Fin n → EReal) : Fin n := (Finset.univ.filter fun p => A p = top A).min' (hits_nonempty A)

theorem pick_spec [NeZero n] (A : Fin n → EReal) : A (pick A) = top A :=
  (Finset.mem_filter.mp (Finset.min'_mem _ (hits_nonempty A))).2

theorem pick_min [NeZero n] (A : Fin n → EReal) (q : Fin n) (hq : A q = top A) : pick A ≤ q :=
  Finset.min'_le _ _ (Finset.mem_filter.mpr ⟨Finset.mem_univ q, hq⟩)

/-- One round: the picked entry is taken out. -/
def next [NeZero n] (A : Fin n → EReal) : Fin n → EReal := fun q => if q = pick A then ⊥ else A q

/-- The row after `j` rounds. -/
def after [NeZero n] (A : Fin n → EReal) : ℕ → Fin n → EReal
  | 0 => A
  | j + 1 => next (after A j)

theorem next_le [NeZero n] (A : Fin n → EReal) (p : Fin n) : next A p ≤ A p := by
  unfold next; split_ifs
  · exact bot_le
  · exact le_rfl

/-- After any number of rounds an entry is what it was, or it is taken out. -/
theorem after_cases [NeZero n] (A : Fin n → EReal) (j : ℕ) (p : Fin n) : after A j p = A p ∨ after A j p = ⊥ := by
  induction j with
  | zero => exact .inl rfl
  | succ j ih =>
    show next (after A j) p = _ ∨ next (after A j) p = _
    unfold next; split_ifs
    · exact .inr rfl
    · exact ih

/-- An entry taken out was picked in some round before. -/
theorem after_out [NeZero n] (A : Fin n → EReal) (j : ℕ) (p : Fin n) (h : after A j p ≠ A p) : ∃ i < j, pick (after A i) = p := by
  induction j with
  | zero => exact absurd rfl h
  | succ j ih =>
    by_cases hp : p = pick (after A j)
    · exact ⟨j, Nat.lt_succ_self j, hp.symm⟩
    · have : after A (j + 1) p = after A j p := by
        show next (after A j) p = _
        unfold next; rw [if_neg hp]
      rw [this] at h
      obtain ⟨i, hi, e⟩ := ih h
      exact ⟨i, by omega, e⟩

theorem top_next_le [NeZero n] (A : Fin n → EReal) : top (next A) ≤ top A :=
  top_le _ _ fun p => (next_le A p).trans (le_top A p)

theorem top_anti [NeZero n] (A : Fin n → EReal) {a b : ℕ} (h : a ≤ b) : top (after A b) ≤ top (after A a) := by
  induction h with
  | refl => exact le_rfl
  | step _ ih => exact (top_next_le _).trans ih

/-- The five places `u`, in order of their scores `s`, are the ones with a score of at least the fifth's. -/
structure Best (s : ℕ → EReal) (u : Fin 5 → ℕ) : Prop where
  anti : ∀ a b : Fin 5, a < b → s (u b) < s (u a)
  pos : ⊥ < s (u 4)

/-- What the running five of a row hold once the first `N` places are seen. -/
structure Holds (s : ℕ → EReal) (u : Fin 5 → ℕ) (N : ℕ) (v : Fin 5 → EReal) (x : Fin 5 → BitVec 32) : Prop where
  anti : ∀ a b : Fin 5, a < b → v b ≤ v a
  strict : ∀ a b : Fin 5, a < b → s (u 4) ≤ v a → v b < v a
  sound : ∀ a, s (u 4) ≤ v a → ∃ k, u k < N ∧ x a = BitVec.ofNat 32 (u k) ∧ v a = s (u k)
  found : ∀ k, u k < N → ∃ a, v a = s (u k)

theorem Best.le {s : ℕ → EReal} {u : Fin 5 → ℕ} (h : Best s u) (k : Fin 5) : s (u 4) ≤ s (u k) := by
  rcases lt_or_eq_of_le (show k ≤ 4 from Fin.le_last k) with hk | rfl
  · exact (h.anti _ _ hk).le
  · exact le_rfl

theorem Best.lt_iff {s : ℕ → EReal} {u : Fin 5 → ℕ} (h : Best s u) (a b : Fin 5) (hs : s (u b) < s (u a)) : a < b := by
  by_contra hc
  rcases lt_or_eq_of_le (not_lt.mp hc) with hk | rfl
  · exact absurd (h.anti _ _ hk) (not_lt.mpr hs.le)
  · exact lt_irrefl _ hs

theorem Best.inj {s : ℕ → EReal} {u : Fin 5 → ℕ} (h : Best s u) (a b : Fin 5) (hs : s (u a) = s (u b)) : a = b := by
  rcases lt_trichotomy a b with hk | hk | hk
  · exact absurd hs (h.anti _ _ hk).ne'
  · exact hk
  · exact absurd hs (h.anti _ _ hk).ne

/-- Before the first block the running five are empty. -/
theorem holds_zero {s : ℕ → EReal} {u : Fin 5 → ℕ} (h : Best s u) (x : Fin 5 → BitVec 32) : Holds s u 0 (fun _ => ⊥) x where
  anti _ _ _ := le_rfl
  strict _ _ _ hh := absurd hh (not_le.mpr h.pos)
  sound _ hh := absurd hh (not_le.mpr h.pos)
  found _ hk := absurd hk (Nat.not_lt_zero _)

/-- Once every place is seen, the running five are the five best, in order. -/
theorem holds_last {s : ℕ → EReal} {u : Fin 5 → ℕ} (h : Best s u) {N : ℕ} (hN : ∀ k, u k < N) {v : Fin 5 → EReal} {x : Fin 5 → BitVec 32}
    (H : Holds s u N v x) (k : Fin 5) : x k = BitVec.ofNat 32 (u k) := by
  choose f hf using fun k => H.found k (hN k)
  have hm : StrictMono f := by
    intro a b hab
    by_contra hc
    have h1 : v (f b) < v (f a) := by rw [hf, hf]; exact h.anti _ _ hab
    rcases lt_or_eq_of_le (not_lt.mp hc) with hk | hk
    · exact absurd (H.anti _ _ hk) (not_le.mpr h1)
    · rw [hk] at h1; exact lt_irrefl _ h1
  have hid : ∀ a : Fin 5, f a = a := by
    have h01 := hm (show (0 : Fin 5) < 1 by decide)
    have h12 := hm (show (1 : Fin 5) < 2 by decide)
    have h23 := hm (show (2 : Fin 5) < 3 by decide)
    have h34 := hm (show (3 : Fin 5) < 4 by decide)
    intro a; apply Fin.ext
    match a with
    | 0 => show (f 0).val = 0; omega
    | 1 => show (f 1).val = 1; omega
    | 2 => show (f 2).val = 2; omega
    | 3 => show (f 3).val = 3; omega
    | 4 => show (f 4).val = 4; omega
  have hv : v k = s (u k) := by rw [← hf k, hid]
  obtain ⟨k', -, hx, hk'⟩ := H.sound k (by rw [hv]; exact h.le k)
  rw [hx, h.inj k' k (by rw [← hk', hv])]

/-- Five rounds over a row that holds every one of the best below `N`. -/
theorem holds_rounds [NeZero n] {s : ℕ → EReal} {u : Fin 5 → ℕ} (h : Best s u) {N : ℕ} (A : Fin n → EReal) (I : Fin n → BitVec 32)
    (hs : ∀ p, s (u 4) ≤ A p → ∃ k, u k < N ∧ I p = BitVec.ofNat 32 (u k) ∧ A p = s (u k))
    (hi : ∀ p q, s (u 4) ≤ A p → A p = A q → p = q)
    (hc : ∀ k, u k < N → ∃ p, A p = s (u k)) :
    Holds s u N (fun j => top (after A j.val)) (fun j => I (pick (after A j.val))) := by
  -- what is picked above the threshold is an entry of the row
  have hp : ∀ j, s (u 4) ≤ top (after A j) → top (after A j) = A (pick (after A j)) := by
    intro j hj
    rcases after_cases A j (pick (after A j)) with e | e
    · rw [← e, pick_spec (after A j)]
    · rw [pick_spec (after A j)] at e; rw [e] at hj; exact absurd hj (not_le.mpr h.pos)
  have hstep : ∀ j, s (u 4) ≤ top (after A j) → top (after A (j + 1)) < top (after A j) := by
    intro j hj
    refine lt_of_le_of_ne (top_next_le _) fun e => ?_
    have e1 : s (u 4) ≤ top (after A (j + 1)) := by rw [e]; exact hj
    have e2 := hp j hj
    have e3 := hp (j + 1) e1
    have e4 : pick (after A j) = pick (after A (j + 1)) := hi _ _ (by rw [← e2]; exact hj) (by rw [← e2, ← e3, e])
    have e5 : after A (j + 1) (pick (after A (j + 1))) = ⊥ := by
      show next (after A j) _ = ⊥
      rw [← e4]; unfold next; rw [if_pos rfl]
    rw [pick_spec (after A (j + 1))] at e5
    rw [e5] at e1
    exact absurd e1 (not_le.mpr h.pos)
  have hlt : ∀ a b : ℕ, a < b → s (u 4) ≤ top (after A a) → top (after A b) < top (after A a) := fun a b hab ha =>
    (top_anti A (Nat.succ_le_of_lt hab)).trans_lt (hstep a ha)
  refine ⟨fun a b hab => top_anti A (le_of_lt hab), fun a b hab ha => hlt _ _ hab ha, fun a ha => ?_, fun k hk => ?_⟩
  · have ha : s (u 4) ≤ top (after A a.val) := ha
    obtain ⟨k, hN, hx, hA⟩ := hs _ (by rw [← hp _ ha]; exact ha)
    exact ⟨k, hN, hx, (hp _ ha).trans hA⟩
  · obtain ⟨q, hq⟩ := hc k hk
    by_cases hout : after A 5 q = A q
    · exfalso
      -- each round's entry is above this one, so there are six of the best
      have hge : s (u k) ≤ top (after A 5) := by rw [← hq, ← hout]; exact le_top _ _
      have hall : ∀ j, j ≤ 5 → s (u 4) ≤ top (after A j) := fun j hj => ((h.le k).trans hge).trans (top_anti A hj)
      have hex : ∀ j, j ≤ 5 → ∃ r : Fin 5, top (after A j) = s (u r) := fun j hj => by
        obtain ⟨r, -, -, hr⟩ := hs _ (by rw [← hp _ (hall j hj)]; exact hall j hj)
        exact ⟨r, (hp _ (hall j hj)).trans hr⟩
      have hrank : ∀ j, j ≤ 5 → ∀ r : Fin 5, top (after A j) = s (u r) → j ≤ r.val := by
        intro j
        induction j with
        | zero => intro _ _ _; exact Nat.zero_le _
        | succ j ih =>
          intro hj r hr
          obtain ⟨r', hr'⟩ := hex j (by omega)
          have h1 := ih (by omega) r' hr'
          have h2 : r' < r := h.lt_iff _ _ (by rw [← hr, ← hr']; exact hstep j (hall j (by omega)))
          have h3 : r'.val < r.val := h2
          omega
      obtain ⟨r, hr⟩ := hex 5 le_rfl
      have := hrank 5 le_rfl r hr
      omega
    · obtain ⟨i, hi5, hpi⟩ := after_out A 5 q hout
      -- the first time it was picked it still stood
      have : ∃ i' < 5, pick (after A i') = q ∧ after A i' q = A q := by
        induction i using Nat.strong_induction_on with
        | _ i ih =>
          by_cases hh : after A i q = A q
          · exact ⟨i, hi5, hpi, hh⟩
          · obtain ⟨i', hi', hp'⟩ := after_out A i q hh
            exact ih i' hi' (by omega) hp'
      obtain ⟨i', hi', hp', e'⟩ := this
      refine ⟨⟨i', hi'⟩, ?_⟩
      show top (after A i') = _
      rw [← pick_spec, hp', e', hq]

end Cert.TopkRounds

end
-- ==== Proof.TopkBlock.lean ====
module

public import proofs.«01_k».proof.Proof.Gen.TopkIdeal.Skeleton
public import proofs.«01_k».proof.Proof.TopkRounds
public import Idealize.ShloMosaic.Lib.Pointwise

@[expose] public section

set_option maxRecDepth 16384

noncomputable section

namespace Cert.TopkBlock

open Cert.TopkIdeal Cert.TopkIdeal.Gen Cert.TopkRounds Idealize.ShloMosaic

/-- The places of a row, as words. -/
def iot : IVec S224x4005 32 := iota .tc S224x4005 32 [1] iota_S224x4005_d1_w32

/-- Each row's largest entry. -/
def mx (x : FVec Ideal S224x4005 .f32) : FVec Ideal S224x1 .f32 :=
  shapeCast S224x1 (multiReduction .maximumf [1] S224 x 0xFF800000#32 reduces_S224x4005_S224 (.inl rfl) rfl) shapeCasts_S224_S224x1

/-- Each row's entries equal to its largest. -/
def hit (x : FVec Ideal S224x4005 .f32) : IVec S224x4005 1 := cmpf .oeq x (broadcastTo S224x4005 (mx x) broadcasts_S224x1_S224x4005)

/-- Of the marked entries of each row, the first alone. -/
def first (h : IVec S224x4005 1) : IVec S224x4005 1 :=
  cmpi .eq iot (broadcastTo S224x4005 (shapeCast S224x1 (multiReductionI .minsi [1] S224 (select h iot (broadcast S224x4005 4005#32)) 2147483647#32 reduces_S224x4005_S224 rfl) shapeCasts_S224_S224x1) broadcasts_S224x1_S224x4005)

/-- The word at each row's marked place. -/
def at1 (sel : IVec S224x4005 1) (x : IVec S224x4005 32) : IVec S224x1 32 :=
  shapeCast S224x1 (multiReductionI .add [1] S224 (select sel x (broadcast S224x4005 0#32)) 0#32 reduces_S224x4005_S224 rfl) shapeCasts_S224_S224x1

/-- Each row with the marked entry taken out. -/
def out (sel : IVec S224x4005 1) (x : FVec Ideal S224x4005 .f32) : FVec Ideal S224x4005 .f32 :=
  select sel (broadcast S224x4005 (Named.named κ "masked" 0xF149F2CA#32)) x

theorem masked : Named.named (F := Ideal) κ "masked" (φ := .f32) 0xF149F2CA#32 = ⊥ :=
  IdealRules.named_const.ideal_named_scalar _ _ _ _ rfl

theorem ninf : Ideal.ofBits .f32 0xFF800000#32 = ⊥ := by simp [Ideal.ofBits, Ideal.ieee]

theorem mx_apply (x : FVec Ideal S224x4005 .f32) (r : Fin 224) (z : Fin 1) : mx x (ix2 r z) = top fun p => x (ix2 r p) := by
  pointwise [mx]
  rw [ninf, top]

theorem hit_apply (x : FVec Ideal S224x4005 .f32) (r : Fin 224) (p : Fin 4005) :
    hit x (ix2 r p) = BitVec.ofBool (decide (x (ix2 r p) = top fun p => x (ix2 r p))) := by
  pointwise [hit]
  rw [mx_apply]

theorem toInt_minsi (a b : BitVec 32) : (IntOp.minsi a b).toInt = min a.toInt b.toInt := by
  unfold IntOp.minsi
  simp only [BitVec.slt, BitVec.sle]
  split_ifs with h <;> simp_all <;> omega

theorem toInt_word (k : ℕ) (h : k < 2 ^ 31) : (BitVec.ofNat 32 k).toInt = k := by
  rw [BitVec.toInt_ofNat', Int.bmod_def]
  omega

/-- The least of the marked places, as a word, is the first marked place. -/
theorem fold_first (h : Fin 4005 → BitVec 1) (k : Fin 4005) (hk : h k = 1#1) (hmin : ∀ p, h p = 1#1 → k ≤ p) :
    Finset.fold IntOp.minsi 2147483647#32 (fun p : Fin 4005 => Scalar.select (h p) (BitVec.ofNat 32 p.val) 4005#32) Finset.univ = BitVec.ofNat 32 k.val := by
  apply BitVec.eq_of_toInt_eq
  rw [← Finset.fold_hom (op' := min) (m := BitVec.toInt) toInt_minsi]
  rw [toInt_word k.val (by omega)]
  apply le_antisymm
  · rw [Finset.fold_min_le]
    refine .inr ⟨k, Finset.mem_univ k, ?_⟩
    rw [hk]
    show (BitVec.ofNat 32 k.val).toInt ≤ _
    rw [toInt_word k.val (by omega)]
  · rw [Finset.le_fold_min]
    refine ⟨?_, fun p _ => ?_⟩
    · show (k.val : ℤ) ≤ 2147483647
      omega
    · by_cases hp : h p = 1#1
      · rw [hp]
        show _ ≤ (BitVec.ofNat 32 p.val).toInt
        rw [toInt_word p.val (by omega)]
        exact_mod_cast hmin p hp
      · have : Scalar.select (h p) (BitVec.ofNat 32 p.val) 4005#32 = 4005#32 := by
          unfold Scalar.select
          exact if_neg hp
        rw [this]
        show (k.val : ℤ) ≤ 4005
        omega

theorem word_eq (a b : Fin 4005) : IntOp.cmpi .eq (BitVec.ofNat 32 a.val) (BitVec.ofNat 32 b.val) = if a = b then 1#1 else 0#1 := by
  by_cases h : a = b
  · subst h; simp [IntOp.cmpi]
  · have : BitVec.ofNat 32 a.val ≠ BitVec.ofNat 32 b.val := by
      intro e
      have := congrArg BitVec.toNat e
      simp only [BitVec.toNat_ofNat] at this
      exact h (Fin.ext (by omega))
    rw [if_neg h]
    show BitVec.ofBool (BitVec.ofNat 32 a.val == BitVec.ofNat 32 b.val) = _
    rw [beq_eq_false_iff_ne.mpr this]; rfl

theorem first_apply (x : FVec Ideal S224x4005 .f32) (r : Fin 224) (p : Fin 4005) :
    first (hit x) (ix2 r p) = if p = pick (fun p => x (ix2 r p)) then 1#1 else 0#1 := by
  pointwise [first, iot]
  rw [fold_first _ (pick fun p => x (ix2 r p)), word_eq]
  · rw [hit_apply, pick_spec (fun p => x (ix2 r p))]; simp
  · intro q hq
    rw [hit_apply] at hq
    refine pick_min _ q ?_
    by_contra hc
    rw [decide_eq_false hc] at hq
    exact absurd hq (by decide)

/-- A sum of words all zero but one. -/
theorem fold_single {n : ℕ} (f : Fin n → BitVec 32) (k : Fin n) :
    Finset.fold IntOp.addi 0#32 (fun p => if p = k then f p else 0) Finset.univ = f k := by
  have hz : ∀ S : Finset (Fin n), k ∉ S → Finset.fold IntOp.addi 0#32 (fun p => if p = k then f p else 0) S = 0#32 := by
    intro S
    induction S using Finset.induction_on with
    | empty => intro _; rfl
    | insert a S ha ih =>
      intro hk
      rw [Finset.mem_insert, not_or] at hk
      rw [Finset.fold_insert ha, ih hk.2, if_neg (Ne.symm hk.1)]
      rfl
  rw [← Finset.insert_erase (Finset.mem_univ k), Finset.fold_insert (Finset.notMem_erase k _), hz _ (Finset.notMem_erase k _), if_pos rfl]
  show f k + 0#32 = f k
  simp

theorem at1_apply (x : FVec Ideal S224x4005 .f32) (w : IVec S224x4005 32) (r : Fin 224) (z : Fin 1) :
    at1 (first (hit x)) w (ix2 r z) = w (ix2 r (pick fun p => x (ix2 r p))) := by
  pointwise [at1]
  have e : (fun p : Fin 4005 => Scalar.select (first (hit x) (ix2 r p)) (w (ix2 r p)) 0#32)
      = fun p => if p = pick (fun p => x (ix2 r p)) then w (ix2 r p) else 0 := by
    funext p
    rw [first_apply]
    split_ifs <;> simp [Scalar.select]
  rw [e]
  exact fold_single (fun p => w (ix2 r p)) _

theorem out_apply (x : FVec Ideal S224x4005 .f32) (r : Fin 224) :
    (fun p => out (first (hit x)) x (ix2 r p)) = next fun p => x (ix2 r p) := by
  funext p
  pointwise [out]
  rw [first_apply, masked, next]
  split_ifs <;> simp [Scalar.select]

/-- The block after `j` rounds. -/
def rnd (x : FVec Ideal S224x4005 .f32) : ℕ → FVec Ideal S224x4005 .f32
  | 0 => x
  | j + 1 => out (first (hit (rnd x j))) (rnd x j)

theorem rnd_apply (x : FVec Ideal S224x4005 .f32) (r : Fin 224) (j : ℕ) : (fun p => rnd x j (ix2 r p)) = after (fun p => x (ix2 r p)) j := by
  induction j with
  | zero => rfl
  | succ j ih => rw [after, ← ih]; exact out_apply _ r

/-- The running scores a point of the launch leaves. -/
def newV (q : Vec Ideal S224x256 .f32) (mb : Vec Ideal S4000x256 .f32) (v : Vec Ideal S224x5 .f32) : FVec Ideal S224x5 .f32 :=
  k0_pay2 (k0_pay8 q mb v) (k0_pay12 q mb v) (k0_pay18 iot (k0_pay11 q mb v) (k0_pay13 q mb v) k0_pay14)
    (k0_pay22 iot (k0_pay11 q mb v) (k0_pay13 q mb v) k0_pay14) (k0_pay25 iot (k0_pay11 q mb v) (k0_pay13 q mb v) k0_pay14)

/-- The running places a point of the launch leaves. -/
def newI (i : grid0.Coords) (q : Vec Ideal S224x256 .f32) (mb : Vec Ideal S4000x256 .f32) (v : Vec Ideal S224x5 .f32) (w : Vec Ideal S224x5 .i32) : IVec S224x5 32 :=
  k0_pay3 (k0_pay7 i w) iot (k0_pay10 i q mb v w) (k0_pay16 (k0_pay7 i w) iot (k0_pay13 q mb v) k0_pay14)
    (k0_pay20 (k0_pay7 i w) iot (k0_pay11 q mb v) (k0_pay13 q mb v) k0_pay14)
    (k0_pay24 (k0_pay7 i w) iot (k0_pay11 q mb v) (k0_pay13 q mb v) k0_pay14)
    (k0_pay25 iot (k0_pay11 q mb v) (k0_pay13 q mb v) k0_pay14)

/-- Five columns side by side. -/
def five {F : FTy → Type} {e : EltTy} (c : Fin 5 → Vec F S224x1 e) : Vec F S224x5 e :=
  shapeCast S224x5 (concatenate S224x5 1 [⟨S224x1, c 0⟩, ⟨S224x1, c 1⟩, ⟨S224x1, c 2⟩, ⟨S224x1, c 3⟩, ⟨S224x1, c 4⟩] concatenates_S224x1_S224x1_S224x1_S224x1_S224x1_S224x5_d1) shapeCasts_S224x5_S224x5

theorem newV_eq (q : Vec Ideal S224x256 .f32) (mb : Vec Ideal S4000x256 .f32) (v : Vec Ideal S224x5 .f32) :
    newV q mb v = five (F := Ideal) (e := .f32) fun j => mx (rnd (k0_pay6 q mb v) j.val) := rfl

theorem newI_eq (i : grid0.Coords) (q : Vec Ideal S224x256 .f32) (mb : Vec Ideal S4000x256 .f32) (v : Vec Ideal S224x5 .f32) (w : Vec Ideal S224x5 .i32) :
    newI i q mb v w = five (F := Ideal) (e := .i32) fun j => at1 (first (hit (rnd (k0_pay6 q mb v) j.val))) (k0_pay7 i w) := rfl

theorem five_apply (c : Fin 5 → FVec Ideal S224x1 .f32) (r : Fin 224) (j : Fin 5) : five (F := Ideal) (e := .f32) c (ix2 r j) = c j (ix2 r 0) := by
  match j with
  | 0 | 1 | 2 | 3 | 4 => pointwise [five]

theorem fiveI_apply (c : Fin 5 → IVec S224x1 32) (r : Fin 224) (j : Fin 5) : five (F := Ideal) (e := .i32) c (ix2 r j) = c j (ix2 r 0) := by
  match j with
  | 0 | 1 | 2 | 3 | 4 => pointwise [five]

theorem newV_apply (q : Vec Ideal S224x256 .f32) (mb : Vec Ideal S4000x256 .f32) (v : Vec Ideal S224x5 .f32) (r : Fin 224) (j : Fin 5) :
    newV q mb v (ix2 r j) = top (after (fun p => k0_pay6 q mb v (ix2 r p)) j.val) := by
  rw [newV_eq, five_apply, mx_apply, rnd_apply]

theorem newI_apply (i : grid0.Coords) (q : Vec Ideal S224x256 .f32) (mb : Vec Ideal S4000x256 .f32) (v : Vec Ideal S224x5 .f32) (w : Vec Ideal S224x5 .i32) (r : Fin 224) (j : Fin 5) :
    newI i q mb v w (ix2 r j) = k0_pay7 i w (ix2 r (pick (after (fun p => k0_pay6 q mb v (ix2 r p)) j.val))) := by
  rw [newI_eq, fiveI_apply, at1_apply, rnd_apply]

theorem pay6_apply (q : Vec Ideal S224x256 .f32) (mb : Vec Ideal S4000x256 .f32) (v : Vec Ideal S224x5 .f32) (r : Fin 224) (p : Fin 4005) :
    k0_pay6 q mb v (ix2 r p) = if h : p.val < 4000 then ∑ x : Fin 256, q (ix2 r x) * mb (ix2 ⟨p.val, h⟩ x) else v (ix2 r ⟨p.val - 4000, by omega⟩) := by
  pointwise [k0_pay6]

theorem pay7_apply (i : grid0.Coords) (w : Vec Ideal S224x5 .i32) (r : Fin 224) (p : Fin 4005) :
    k0_pay7 (F := Ideal) i w (ix2 r p) = if h : p.val < 4000 then BitVec.ofNat 32 (4000 * (i 0).val + p.val) else w (ix2 r ⟨p.val - 4000, by omega⟩) := by
  have e : IntOp.addi (BitVec.ofNat 32 p.val) (Scalar.muli (BitVec.ofNat 32 (i 0).val) 4000#32) = BitVec.ofNat 32 (4000 * (i 0).val + p.val) := by
    show BitVec.ofNat 32 p.val + BitVec.ofNat 32 (i 0).val * 4000#32 = _
    rw [← BitVec.ofNat_mul, ← BitVec.ofNat_add]
    congr 1; ring
  pointwise [k0_pay7]
  rw [e]

theorem pay4_apply (r : Fin 224) (j : Fin 5) : k0_pay4 (F := Ideal) (ix2 r j) = ⊥ := by
  pointwise [k0_pay4]
  exact masked

/-- The score of a row at a place of the bank. -/
def score (q : Fin 256 → EReal) (bank : Fin 100000 → Fin 256 → EReal) (k : ℕ) : EReal :=
  if h : k < 100000 then ∑ x : Fin 256, q x * bank ⟨k, h⟩ x else ⊥

/-- A point of the launch takes the best of the places before it to the best of its own too. -/
theorem point_step (i : grid0.Coords) (q : Vec Ideal S224x256 .f32) (mb : Vec Ideal S4000x256 .f32) (v : Vec Ideal S224x5 .f32) (w : Vec Ideal S224x5 .i32)
    (r : Fin 224) (bank : Fin 100000 → Fin 256 → EReal) (t : ℕ) (ht : t < 25) (hi : (i 0).val = t)
    (hmb : ∀ (p : Fin 4000) (x : Fin 256), mb (ix2 p x) = bank ⟨4000 * t + p.val, by omega⟩ x) (u : Fin 5 → ℕ)
    (hb : Best (score (fun x => q (ix2 r x)) bank) u)
    (hall : ∀ k < 100000, score (fun x => q (ix2 r x)) bank (u 4) ≤ score (fun x => q (ix2 r x)) bank k → ∃ a, k = u a)
    (H : Holds (score (fun x => q (ix2 r x)) bank) u (4000 * t) (fun j => v (ix2 r j)) (fun j => w (ix2 r j))) :
    Holds (score (fun x => q (ix2 r x)) bank) u (4000 * (t + 1)) (fun j => newV q mb v (ix2 r j)) (fun j => newI i q mb v w (ix2 r j)) := by
  set sc := score (fun x => q (ix2 r x)) bank with hsc
  -- the entries of the widened row: the block's scores, then the running five
  have hA1 : ∀ (p : Fin 4005) (hp : p.val < 4000), k0_pay6 q mb v (ix2 r p) = sc (4000 * t + p.val) := by
    intro p hp
    rw [pay6_apply, dif_pos hp, hsc, score, dif_pos (by omega)]
    exact Finset.sum_congr rfl fun x _ => by rw [hmb]
  have hA2 : ∀ (p : Fin 4005) (hp : ¬p.val < 4000), k0_pay6 q mb v (ix2 r p) = v (ix2 r ⟨p.val - 4000, by omega⟩) := by
    intro p hp
    rw [pay6_apply, dif_neg hp]
  have hI1 : ∀ (p : Fin 4005) (hp : p.val < 4000), k0_pay7 (F := Ideal) i w (ix2 r p) = BitVec.ofNat 32 (4000 * t + p.val) := by
    intro p hp
    rw [pay7_apply, dif_pos hp, hi]
  have hI2 : ∀ (p : Fin 4005) (hp : ¬p.val < 4000), k0_pay7 (F := Ideal) i w (ix2 r p) = w (ix2 r ⟨p.val - 4000, by omega⟩) := by
    intro p hp
    rw [pay7_apply, dif_neg hp]
  have key := holds_rounds (N := 4000 * (t + 1)) hb (fun p => k0_pay6 q mb v (ix2 r p)) (fun p => k0_pay7 (F := Ideal) i w (ix2 r p)) ?_ ?_ ?_
  · convert key using 2
    · rw [newV_apply]
    · rw [newI_apply]
  · intro p hp
    by_cases h : p.val < 4000
    · simp only [hA1 p h, hI1 p h] at hp ⊢
      obtain ⟨a, ha⟩ := hall _ (by omega) hp
      exact ⟨a, by omega, by rw [ha], by rw [ha]⟩
    · simp only [hA2 p h, hI2 p h] at hp ⊢
      obtain ⟨a, ha, hx⟩ := H.sound _ hp
      exact ⟨a, by omega, hx⟩
  · intro p p' hp he
    -- equal scores above the threshold are of one place
    have one : ∀ k k', k < 100000 → k' < 100000 → sc (u 4) ≤ sc k → sc k = sc k' → k = k' := by
      intro k k' hk hk' h1 h2
      obtain ⟨a, rfl⟩ := hall k hk h1
      obtain ⟨b, rfl⟩ := hall k' hk' (h2 ▸ h1)
      rw [hb.inj a b h2]
    have slot : ∀ a b : Fin 5, sc (u 4) ≤ v (ix2 r a) → v (ix2 r a) = v (ix2 r b) → a = b := by
      intro a b h1 h2
      rcases lt_trichotomy a b with h | h | h
      · exact absurd h2 (H.strict a b h h1).ne'
      · exact h
      · exact absurd h2 (H.strict b a h (show sc (u 4) ≤ v (ix2 r b) from h2 ▸ h1)).ne
    have mixed : ∀ (a : Fin 5) (k : ℕ), 4000 * t ≤ k → k < 100000 → sc (u 4) ≤ v (ix2 r a) → v (ix2 r a) = sc k → False := by
      intro a k h1 h2 h3 h4
      obtain ⟨j, hj, -, e⟩ := H.sound a h3
      have e : v (ix2 r a) = sc (u j) := e
      have := one (u j) k (by omega) h2 (by rw [← e]; exact h3) (by rw [← e, h4])
      omega
    by_cases h : p.val < 4000 <;> by_cases h' : p'.val < 4000
    · simp only [hA1 p h, hA1 p' h'] at hp he
      have := one _ _ (by omega) (by omega) hp he
      exact Fin.ext (by omega)
    · simp only [hA1 p h, hA2 p' h'] at hp he
      exact (mixed _ _ (by omega) (by omega) (by rw [← he]; exact hp) he.symm).elim
    · simp only [hA2 p h, hA1 p' h'] at hp he
      exact (mixed _ _ (by omega) (by omega) hp he).elim
    · simp only [hA2 p h, hA2 p' h'] at hp he
      have := congrArg Fin.val (slot _ _ hp he)
      exact Fin.ext (by simp only at this; omega)
  · intro k hk
    by_cases h : u k < 4000 * t
    · obtain ⟨a, ha⟩ := H.found k h
      refine ⟨⟨4000 + a.val, by omega⟩, ?_⟩
      show k0_pay6 q mb v (ix2 r _) = _
      rw [hA2 _ (by simp), ← ha]
      simp
    · refine ⟨⟨u k - 4000 * t, by omega⟩, ?_⟩
      show k0_pay6 q mb v (ix2 r _) = _
      rw [hA1 _ (by show u k - 4000 * t < 4000; omega)]
      show sc (4000 * t + (u k - 4000 * t)) = _
      congr 1; omega

end Cert.TopkBlock

end
-- ==== Proof.TopkRef.lean ====
module

public import proofs.«01_k».proof.Pre_apart
public import proofs.«01_k».proof.Proof.Gen.Pre_apart
public import proofs.«01_k».proof.Proof.Gen.TopkRefIdeal.Run
public import proofs.«01_k».proof.Proof.TopkBlock
public import Idealize.ShloMosaic.Lib.SortFacts
public import Idealize.ShloMosaic.Lib.Pointwise

@[expose] public section

set_option maxRecDepth 16384

noncomputable section

namespace Cert.TopkRef

open Cert.TopkRounds Cert.TopkBlock Idealize.ShloMosaic

/-- Whether one place of a row goes before another in the order of its scores. -/
def before (s : Fin 100000 → EReal) (k k' : Fin 100000) : Bool := decide (s k' < s k)

/-- The places of a row in the order of their scores. -/
def ranked (s : Fin 100000 → EReal) (j : Fin 100000) : Fin 100000 := sortedFrom (before s) j

theorem ranked_anti (s : Fin 100000 → EReal) (i j : Fin 100000) (h : i < j) : s (ranked s j) ≤ s (ranked s i) := by
  have := sortedFrom_noInversion (before s) (before s)
    (fun a b h => by simp only [before, decide_eq_true_eq, decide_eq_false_iff_not, not_lt] at *; exact h.le)
    (fun a b h => h)
    (fun a b c h h' => by simp only [before, decide_eq_false_iff_not, not_lt] at *; exact h.trans h') i j h
  simpa [before, ranked] using this

/-- The similarities of the rows with the bank. -/
def sims (q : FVec Ideal Cert.TopkRefIdeal.S224x256 .f32) (b : FVec Ideal Cert.TopkRefIdeal.S100000x256 .f32) (r : Fin 224) (k : Fin 100000) : EReal :=
  ∑ x : Fin 256, q (ix2 r x) * b (ix2 k x)

theorem along_eq (r : Fin 224) (j k : Fin 100000) : (ix2 r j : Cert.TopkRefIdeal.S224x100000.Idx).along 1 k = ix2 r k := by
  funext a
  match a with
  | 0 => rfl
  | 1 => rfl

/-- The first places and scores of a row, in order, as the host takes them. -/
theorem topk_apply (n : ℕ) (hn : n ≤ 100000) (x : FVec Ideal Cert.TopkRefIdeal.S224x100000 .f32)
    (h : Cert.TopkRefIdeal.S224x100000.Slices (fun _ => 0) ⟨2, ![224, n]⟩) (r : Fin 224) (j : Fin n) :
    (Host.topK ⟨2, ![224, n]⟩ 1 (FloatOps.cmpfTotal .gt) x h).1 (ix2 r j) = x (ix2 r (ranked (fun k => x (ix2 r k)) (j.castLE hn)))
    ∧ (Host.topK ⟨2, ![224, n]⟩ 1 (FloatOps.cmpfTotal .gt) x h).2 (ix2 r j) = BitVec.ofNat 32 (ranked (fun k => x (ix2 r k)) (j.castLE hn)).val := by
  have e : ∀ j : Fin 100000, (fun k k' : Fin 100000 => FloatOps.cmpfTotal (F := Ideal) .gt (x ((ix2 r j : Cert.TopkRefIdeal.S224x100000.Idx).along 1 k)) (x ((ix2 r j : Cert.TopkRefIdeal.S224x100000.Idx).along 1 k')) == 1#1)
      = before (fun k => x (ix2 r k)) := by
    intro j
    funext k k'
    rw [along_eq, along_eq, before]
    show (BitVec.ofBool (decide (x (ix2 r k') < x (ix2 r k))) == 1#1) = _
    by_cases hh : x (ix2 r k') < x (ix2 r k) <;> simp [hh]
  have ei : (fun a => (⟨0 + ((ix2 r j : (⟨2, ![224, n]⟩ : Shape).Idx) (a.cast h.1.symm)).val, Nat.lt_of_lt_of_le (Nat.add_lt_add_left ((ix2 r j : (⟨2, ![224, n]⟩ : Shape).Idx) _).isLt _) (h.2 a)⟩ : Fin (Cert.TopkRefIdeal.S224x100000.size a)))
      = (ix2 r (j.castLE hn) : Cert.TopkRefIdeal.S224x100000.Idx) := by
    funext a
    match a with
    | 0 => exact Fin.ext (Nat.zero_add _)
    | 1 => exact Fin.ext (Nat.zero_add _)
  have hr : 1 < Cert.TopkRefIdeal.S224x100000.rank := by decide
  let idx : IVec Cert.TopkRefIdeal.S224x100000 32 := fun i => if hd : 1 < Cert.TopkRefIdeal.S224x100000.rank then iotaInDim Cert.TopkRefIdeal.S224x100000 32 ⟨1, hd⟩ i else 0#32
  have e1 : (Host.sort2 Cert.TopkRefIdeal.S224x100000 1 (fun l r => FloatOps.cmpfTotal (F := Ideal) (φ := .f32) .gt l.1 r.1) x idx).1 (ix2 r (j.castLE hn))
      = x (ix2 r (ranked (fun k => x (ix2 r k)) (j.castLE hn))) := by
    unfold Host.sort2
    rw [dif_pos hr]
    refine (congrArg x (along_eq r _ _)).trans ?_
    exact congrArg (fun f => x (ix2 r (sortedFrom f (j.castLE hn)))) (e _)
  have e2 : (Host.sort2 Cert.TopkRefIdeal.S224x100000 1 (fun l r => FloatOps.cmpfTotal (F := Ideal) (φ := .f32) .gt l.1 r.1) x idx).2 (ix2 r (j.castLE hn))
      = BitVec.ofNat 32 (ranked (fun k => x (ix2 r k)) (j.castLE hn)).val := by
    unfold Host.sort2
    rw [dif_pos hr]
    refine (congrArg idx (along_eq r _ _)).trans ?_
    exact congrArg (fun f => BitVec.ofNat 32 (sortedFrom f (j.castLE hn)).val) (e _)
  exact ⟨(congrArg (Host.sort2 Cert.TopkRefIdeal.S224x100000 1 (fun l r => FloatOps.cmpfTotal (F := Ideal) (φ := .f32) .gt l.1 r.1) x idx).1 ei).trans e1,
    (congrArg (Host.sort2 Cert.TopkRefIdeal.S224x100000 1 (fun l r => FloatOps.cmpfTotal (F := Ideal) (φ := .f32) .gt l.1 r.1) x idx).2 ei).trans e2⟩

theorem sims_apply (q : FVec Ideal Cert.TopkRefIdeal.S224x256 .f32) (b : FVec Ideal Cert.TopkRefIdeal.S100000x256 .f32) (r : Fin 224) :
    (fun k : Fin 100000 => Host.dotGeneral Cert.TopkRefIdeal.dot_S224x256_S256x100000_S224x100000_1_0_0_1_n_n none q
      (transpose Cert.TopkRefIdeal.S256x100000 [1, 0] b Cert.TopkRefIdeal.Facts₀.transposes_S100000x256_S256x100000_1_0) (ix2 r k)) = sims q b r := by
  funext k
  pointwise [sims]

theorem pre_apply (q : FVec Ideal Cert.Pre_apart.S224x256 .f32) (b : FVec Ideal Cert.Pre_apart.S100000x256 .f32) (h : Cert.Pre_apart.fn (F := Ideal) q b = fun _ => 1#1)
    (r : Fin 224) (j : Fin 5) : sims q b r (ranked (sims q b r) ⟨j.val + 1, by omega⟩) < sims q b r (ranked (sims q b r) ⟨j.val, by omega⟩) := by
  have h := congrFun h (ix2 r j)
  have t := topk_apply 6 (by omega) (Host.dotGeneral Cert.TopkRefIdeal.dot_S224x256_S256x100000_S224x100000_1_0_0_1_n_n none q
      (transpose Cert.TopkRefIdeal.S256x100000 [1, 0] b Cert.TopkRefIdeal.Facts₀.transposes_S100000x256_S256x100000_1_0)) Cert.Pre_apart.Facts.sliceFits_S224x100000_S224x6 r
  rw [sims_apply q b r] at t
  have t1 := fun j => (t j).1.trans (congrFun (sims_apply q b r) _)
  unfold Cert.Pre_apart.fn at h
  pointwise at h
  have h' := of_decide_eq_true (show decide _ = true by
    by_contra hc
    rw [Bool.not_eq_true] at hc
    rw [hc] at h
    exact absurd h (by decide))
  have e0 := t1 ⟨j.val, by omega⟩
  have e1 := t1 ⟨1 + j.val, by omega⟩
  have h'' := lt_of_lt_of_eq (lt_of_eq_of_lt e1.symm h') e0
  simpa [Fin.castLE, Nat.add_comm] using h''

/-- The five places the host takes of a row. -/
def five (q : FVec Ideal Cert.TopkRefIdeal.S224x256 .f32) (b : FVec Ideal Cert.TopkRefIdeal.S100000x256 .f32) (r : Fin 224) (j : Fin 5) : ℕ :=
  (ranked (sims q b r) (j.castLE (by omega))).val

theorem five_lt (q : FVec Ideal Cert.TopkRefIdeal.S224x256 .f32) (b : FVec Ideal Cert.TopkRefIdeal.S100000x256 .f32) (r : Fin 224) (j : Fin 5) : five q b r j < 100000 := by
  rw [five]
  exact Fin.isLt _

theorem ref_apply (q : FVec Ideal Cert.TopkRefIdeal.S224x256 .f32) (b : FVec Ideal Cert.TopkRefIdeal.S100000x256 .f32) (r : Fin 224) (j : Fin 5) :
    (Host.topK Cert.TopkRefIdeal.S224x5 1 (FloatOps.cmpfTotal .gt) (Host.dotGeneral Cert.TopkRefIdeal.dot_S224x256_S256x100000_S224x100000_1_0_0_1_n_n none q
      (transpose Cert.TopkRefIdeal.S256x100000 [1, 0] b Cert.TopkRefIdeal.Facts₀.transposes_S100000x256_S256x100000_1_0)) Cert.TopkRefIdeal.Facts₀.sliceFits_S224x100000_S224x5).2 (ix2 r j)
    = BitVec.ofNat 32 (five q b r j) := by
  have t := (topk_apply 5 (by omega) (Host.dotGeneral Cert.TopkRefIdeal.dot_S224x256_S256x100000_S224x100000_1_0_0_1_n_n none q
      (transpose Cert.TopkRefIdeal.S256x100000 [1, 0] b Cert.TopkRefIdeal.Facts₀.transposes_S100000x256_S256x100000_1_0)) Cert.TopkRefIdeal.Facts₀.sliceFits_S224x100000_S224x5 r j).2
  rw [sims_apply q b r] at t
  rw [t, five]

/-- What the precondition gives of a row: its five best are apart, and every other place is below them. -/
theorem best (q : FVec Ideal Cert.TopkRefIdeal.S224x256 .f32) (b : FVec Ideal Cert.TopkRefIdeal.S100000x256 .f32) (h : Cert.Pre_apart.fn (F := Ideal) q b = fun _ => 1#1)
    (r : Fin 224) :
    Best (score (fun x => q (ix2 r x)) (fun k x => b (ix2 k x))) (five q b r)
    ∧ (∀ k < 100000, score (fun x => q (ix2 r x)) (fun k x => b (ix2 k x)) (five q b r 4) ≤ score (fun x => q (ix2 r x)) (fun k x => b (ix2 k x)) k → ∃ a, k = five q b r a) := by
  have hs : ∀ k (hk : k < 100000), score (fun x => q (ix2 r x)) (fun k x => b (ix2 k x)) k = sims q b r ⟨k, hk⟩ := by
    intro k hk; rw [score, dif_pos hk]; rfl
  have hf : ∀ j : Fin 5, score (fun x => q (ix2 r x)) (fun k x => b (ix2 k x)) (five q b r j) = sims q b r (ranked (sims q b r) ⟨j.val, by omega⟩) := by
    intro j
    rw [five, hs _ (ranked (sims q b r) (j.castLE (by omega))).isLt, Fin.eta]
    rfl
  have hp := pre_apply q b h r
  have h5 : sims q b r (ranked (sims q b r) ⟨5, by omega⟩) < sims q b r (ranked (sims q b r) ⟨4, by omega⟩) := hp 4
  refine ⟨⟨?_, ?_⟩, ?_⟩
  · intro a c hac
    rw [hf, hf]
    have h1 := hp a
    rcases lt_or_eq_of_le (show a.val + 1 ≤ c.val from hac) with hlt | heq
    · exact (ranked_anti _ ⟨a.val + 1, by omega⟩ ⟨c.val, by omega⟩ hlt).trans_lt h1
    · simpa only [heq] using h1
  · rw [hf]
    exact bot_le.trans_lt h5
  · intro k hk hle
    rw [hf, hs k hk] at hle
    obtain ⟨j, hj⟩ := sortedFrom_surjective (before (sims q b r)) ⟨k, hk⟩
    have hj : ranked (sims q b r) j = ⟨k, hk⟩ := hj
    by_cases h : j.val < 5
    · refine ⟨⟨j.val, h⟩, ?_⟩
      rw [five, show Fin.castLE (by omega) (⟨j.val, h⟩ : Fin 5) = j from rfl, hj]
    · exfalso
      rw [← hj] at hle
      have : sims q b r (ranked (sims q b r) j) ≤ sims q b r (ranked (sims q b r) ⟨5, by omega⟩) := by
        rcases lt_or_eq_of_le (show 5 ≤ j.val by omega) with hlt | heq
        · exact ranked_anti _ ⟨5, by omega⟩ j hlt
        · rw [show j = ⟨5, by omega⟩ from Fin.ext heq.symm]
      exact absurd (hle.trans this) (not_le.mpr h5)

end Cert.TopkRef

end
-- ==== Proof.TopkValue.lean ====
module

public import proofs.«01_k».proof.Proof.Gen.TopkIdeal.Value
public import proofs.«01_k».proof.Proof.TopkBlock
public import proofs.«01_k».proof.Proof.TopkRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.TopkValue

open Cert.TopkIdeal Cert.TopkIdeal.Gen Cert.TopkRounds Cert.TopkBlock Idealize.ShloMosaic Idealize.ShloMosaic.TcCoe Idealize.SL.Sem

variable (m : (ℓ : Loc nD τ sig) → Buf (Elt Ideal) ℓ) (c : Dev nD)

theorem st_A (t : Fin cfg0.N) (h0 : t.val % 25 = 0) (h1 : ¬t.val % 25 = 24) :
    (outsAt0 m c t.val t.isLt).2.1 = newV (iblk m c 0 t) (iblk m c 1 t) (k0_pay4 (F := Ideal))
    ∧ (outsAt0 m c t.val t.isLt).2.2 = newI (grid0.coords t) (iblk m c 0 t) (iblk m c 1 t) (k0_pay4 (F := Ideal)) k0_pay5 := by
  rw [outsAt0_A m c t h0 h1]
  constructor
  · frame_out

    unfold newV iot
    with_reducible rfl
  · frame_out

    unfold newI iot
    with_reducible rfl

theorem st_B (t : Fin cfg0.N) (h0 : ¬t.val % 25 = 0) (h1 : ¬t.val % 25 = 24) :
    (outsAt0 m c t.val t.isLt).2.1 = newV (iblk m c 0 t) (iblk m c 1 t) (outsAt0 m c (t.val - 1) (Nat.lt_of_le_of_lt (Nat.sub_le _ _) t.isLt)).2.1
    ∧ (outsAt0 m c t.val t.isLt).2.2 = newI (grid0.coords t) (iblk m c 0 t) (iblk m c 1 t)
        (outsAt0 m c (t.val - 1) (Nat.lt_of_le_of_lt (Nat.sub_le _ _) t.isLt)).2.1 (outsAt0 m c (t.val - 1) (Nat.lt_of_le_of_lt (Nat.sub_le _ _) t.isLt)).2.2 := by
  rw [outsAt0_B m c t h0 h1]
  constructor
  · frame_out
    simp only [read_unread_whole]
    unfold newV iot
    with_reducible rfl
  · frame_out
    simp only [read_unread_whole]
    unfold newI iot
    with_reducible rfl

theorem st_C (t : Fin cfg0.N) (h0 : ¬t.val % 25 = 0) (h1 : t.val % 25 = 24) :
    (outsAt0 m c t.val t.isLt).1 = newI (grid0.coords t) (iblk m c 0 t) (iblk m c 1 t)
        (outsAt0 m c (t.val - 1) (Nat.lt_of_le_of_lt (Nat.sub_le _ _) t.isLt)).2.1 (outsAt0 m c (t.val - 1) (Nat.lt_of_le_of_lt (Nat.sub_le _ _) t.isLt)).2.2 := by
  rw [outsAt0_C m c t h0 h1]
  frame_out
  simp only [read_unread_whole]
  unfold newI iot
  with_reducible rfl

theorem idx : ∀ t : Fin cfg0.N, win0_0.index t = ![0, 0] ∧ win0_1.index t = ![t.val, 0] ∧ win0_2.index t = ![0, 0] ∧ (grid0.coords t 0).val = t.val :=
  (by decide +kernel : ∀ t : Fin grid0.N, _)

/-- The queries. -/
def qs : Vec Ideal S224x256 .f32 := m ((c : Thread nD τ).loc main_arg0)
/-- The bank. -/
def bk : Vec Ideal S100000x256 .f32 := m ((c : Thread nD τ).loc main_arg1)

theorem q_eq (t : Fin cfg0.N) (r : Fin 224) (x : Fin 256) : (iblk m c 0 t : Vec Ideal S224x256 .f32) (ix2 r x) = qs m c (ix2 r x) := by
  blk_point [iblk, V, idx t, qs]

theorem b_eq (t : Fin cfg0.N) (p : Fin 4000) (x : Fin 256) :
    (iblk m c 1 t : Vec Ideal S4000x256 .f32) (ix2 p x) = bk m c (ix2 ⟨4000 * t.val + p.val, by have : t.val < 25 := t.isLt; omega⟩ x) := by
  blk_point [iblk, V, idx t, bk]

/-- What a point of the launch does to the best of a row. -/
theorem step (h : Cert.Pre_apart.fn (F := Ideal) (qs m c) (bk m c) = fun _ => 1#1) (t : Fin cfg0.N) (r : Fin 224) (v : Vec Ideal S224x5 .f32) (w : Vec Ideal S224x5 .i32)
    (H : Holds (score (fun x => qs m c (ix2 r x)) (fun k x => bk m c (ix2 k x))) (Cert.TopkRef.five (qs m c) (bk m c) r) (4000 * t.val) (fun j => v (ix2 r j)) (fun j => w (ix2 r j))) :
    Holds (score (fun x => qs m c (ix2 r x)) (fun k x => bk m c (ix2 k x))) (Cert.TopkRef.five (qs m c) (bk m c) r) (4000 * (t.val + 1))
      (fun j => newV (iblk m c 0 t) (iblk m c 1 t) v (ix2 r j)) (fun j => newI (grid0.coords t) (iblk m c 0 t) (iblk m c 1 t) v w (ix2 r j)) := by
  have hb := Cert.TopkRef.best (qs m c) (bk m c) h r
  have hq : (fun x => (iblk m c 0 t : Vec Ideal S224x256 .f32) (ix2 r x)) = fun x => qs m c (ix2 r x) := funext fun x => q_eq m c t r x
  have := point_step (grid0.coords t) (iblk m c 0 t) (iblk m c 1 t) v w r (fun k x => bk m c (ix2 k x)) t.val t.isLt (idx t).2.2.2 (fun p x => b_eq m c t p x)
    (Cert.TopkRef.five (qs m c) (bk m c) r)
  rw [hq] at this
  exact this hb.1 hb.2 H

/-- The running values and places after each point before the last. -/
theorem holds (h : Cert.Pre_apart.fn (F := Ideal) (qs m c) (bk m c) = fun _ => 1#1) (r : Fin 224) (n : ℕ) (hn : n < 24) (hN : n < cfg0.N) :
    Holds (score (fun x => qs m c (ix2 r x)) (fun k x => bk m c (ix2 k x))) (Cert.TopkRef.five (qs m c) (bk m c) r) (4000 * (n + 1))
      (fun j => (outsAt0 m c n hN).2.1 (ix2 r j)) (fun j => (outsAt0 m c n hN).2.2 (ix2 r j)) := by
  induction n with
  | zero =>
    have hs := st_A m c ⟨0, hN⟩ rfl (by show ¬ 0 % 25 = 24; decide)
    rw [hs.1, hs.2]
    refine step m c h ⟨0, hN⟩ r _ _ ?_
    have hz : (fun j : Fin 5 => (k0_pay4 (F := Ideal)) (ix2 r j)) = fun _ => ⊥ := funext fun j => pay4_apply r j
    rw [hz]
    exact holds_zero (Cert.TopkRef.best (qs m c) (bk m c) h r).1 _
  | succ n ih =>
    have hs := st_B m c ⟨n + 1, hN⟩ (by show ¬ (n + 1) % 25 = 0; omega) (by show ¬ (n + 1) % 25 = 24; omega)
    rw [hs.1, hs.2]
    exact step m c h ⟨n + 1, hN⟩ r _ _ (ih (by omega) (by omega))

/-- The places the last point leaves. -/
theorem last (h : Cert.Pre_apart.fn (F := Ideal) (qs m c) (bk m c) = fun _ => 1#1) (t : Fin cfg0.N) (ht : t.val = 24) (r : Fin 224) (j : Fin 5) :
    (outsAt0 m c t.val t.isLt).1 (ix2 r j) = BitVec.ofNat 32 (Cert.TopkRef.five (qs m c) (bk m c) r j) := by
  rw [st_C m c t (by rw [ht]; decide) (by rw [ht])]
  have hp := holds m c h r (t.val - 1) (by omega) (Nat.lt_of_le_of_lt (Nat.sub_le _ _) t.isLt)
  have e1 : t.val - 1 + 1 = t.val := by omega
  rw [e1] at hp
  have hq := step m c h t r _ _ hp
  refine holds_last (Cert.TopkRef.best (qs m c) (bk m c) h r).1 (fun k => ?_) hq j
  have := Cert.TopkRef.five_lt (qs m c) (bk m c) r k
  omega

/-- The launch's result array holds the places of the reference. -/
theorem final (h : Cert.Pre_apart.fn (F := Ideal) (qs m c) (bk m c) = fun _ => 1#1) (res : Vec Ideal S224x5 .i32)
    (hres : ∀ r j, res (ix2 r j) = BitVec.ofNat 32 (Cert.TopkRef.five (qs m c) (bk m c) r j)) : (dats m 0 c).arrAt 2 cfg0.N = res := by
  refine (dats m 0 c).arrAt_eq_of_covers 2 _ (by decide +kernel) fun t hf y => ?_
  have ht : t.val = 24 := by
    have h1 := (flush0_2 t).mp hf
    have h2 : t.val < 25 := t.isLt
    omega
  blk_simp
  rw [after0_2]
  idx_vars y
  have he : ((View.whole main_v0).slice (win0_2.rect t)).emb (ix2 y0 y1) = ix2 y0 y1 := by blk_ext [idx t]
  rw [he, hres]
  exact last m c h t ht y0 y1

end Cert.TopkValue

end
-- ==== Proof.HeadBlock.lean ====
module

public import proofs.«01_k».proof.Proof.Gen.HeadIdeal.Skeleton
public import Idealize.ShloMosaic.Lib.Pointwise

@[expose] public section

set_option maxRecDepth 16384

noncomputable section

namespace Cert.HeadBlock

open Cert.HeadIdeal Cert.HeadIdeal.Gen Idealize.ShloMosaic

/-- The exact GELU, by the error function. -/
def gel (x : EReal) : EReal :=
  Ideal.ofBits .f32 0x3F000000#32 * x * (1 + Ideal.erf (x * Ideal.ofBits .f32 0x3F3504F3#32))

/-- A score of the gate: `l` the local row, `g` the global row. -/
def score (l g : Fin 256 → EReal) (Wl Wg : Fin 256 → Fin 256 → EReal) (b : Fin 256 → EReal) (V : Fin 256 → Fin 2 → EReal) (c : Fin 2 → EReal) (a : Fin 2) : EReal :=
  (∑ e : Fin 256, gel ((∑ d : Fin 256, l d * Wl d e) + (∑ d : Fin 256, g d * Wg d e) + b e) * V e a) + c a

/-- A row of the gated mix. -/
def mix (l g : Fin 256 → EReal) (s : Fin 2 → EReal) (d : Fin 256) : EReal :=
  Ideal.logistic (s 0 - s 1) * l d + (1 - Ideal.logistic (s 0 - s 1)) * g d

/-- The two layers after the head, and the head itself added. -/
def tail (h : Fin 96 → EReal) (W : Fin 96 → Fin 192 → EReal) (b : Fin 192 → EReal) (V : Fin 192 → Fin 96 → EReal) (c : Fin 96 → EReal) (o : Fin 96) : EReal :=
  gel ((∑ e : Fin 192, gel ((∑ d : Fin 96, h d * W d e) + b e) * V e o) + c o) + h o

theorem pay3_apply (x : Vec Ideal S4x224x256 .f32) (y : Vec Ideal S224x256 .f32) (j : Fin 4) (r : Fin 224) (d : Fin 256) :
    k0_pay3 x y (ix2 ⟨j.val * 224 + r.val, by omega⟩ d) = x (ix3 j r d) + y (ix2 r d) := by
  pointwise [k0_pay3]

theorem pay4_apply (x : Vec Ideal S4x224x256 .f32) (j : Fin 4) (r : Fin 224) (d : Fin 256) :
    k0_pay4 x (ix2 ⟨j.val * 224 + r.val, by omega⟩ d) = x (ix3 j r d) := by
  pointwise [k0_pay4]

theorem pay5_apply (x : Vec Ideal S4x224x256 .f32) (y : Vec Ideal S224x256 .f32) (g : Vec Ideal S4x224x256 .f32) (Wl Wg : Vec Ideal S256x256 .f32) (b : Vec Ideal S1x256 .f32)
    (V : Vec Ideal S256x2 .f32) (c : Vec Ideal S1x2 .f32) (i : Fin 896) (a : Fin 2) :
    k0_pay5 x y g Wl Wg b V c (ix2 i a) = score (fun d => k0_pay3 x y (ix2 i d)) (fun d => k0_pay4 g (ix2 i d)) (fun d e => Wl (ix2 d e)) (fun d e => Wg (ix2 d e)) (fun e => b (ix2 0 e))
      (fun e a => V (ix2 e a)) (fun a => c (ix2 0 a)) a := by
  pointwise [k0_pay5, score, gel]
  simp only [Ideal.erf_def]

theorem pay6_apply (l g : FVec Ideal S896x256 .f32) (s : FVec Ideal S896x2 .f32) (W0 W1 W2 W3 : Vec Ideal S1x256x96 .f32) (r : Fin 224) (o : Fin 96) :
    k0_pay6 l g s W0 W1 W2 W3 (ix2 r o)
      = (∑ d : Fin 256, mix (fun d => l (ix2 ⟨0 * 224 + r.val, by omega⟩ d)) (fun d => g (ix2 ⟨0 * 224 + r.val, by omega⟩ d)) (fun a => s (ix2 ⟨0 * 224 + r.val, by omega⟩ a)) d * W0 (ix3 0 d o))
      + (∑ d : Fin 256, mix (fun d => l (ix2 ⟨1 * 224 + r.val, by omega⟩ d)) (fun d => g (ix2 ⟨1 * 224 + r.val, by omega⟩ d)) (fun a => s (ix2 ⟨1 * 224 + r.val, by omega⟩ a)) d * W1 (ix3 0 d o))
      + (∑ d : Fin 256, mix (fun d => l (ix2 ⟨2 * 224 + r.val, by omega⟩ d)) (fun d => g (ix2 ⟨2 * 224 + r.val, by omega⟩ d)) (fun a => s (ix2 ⟨2 * 224 + r.val, by omega⟩ a)) d * W2 (ix3 0 d o))
      + (∑ d : Fin 256, mix (fun d => l (ix2 ⟨3 * 224 + r.val, by omega⟩ d)) (fun d => g (ix2 ⟨3 * 224 + r.val, by omega⟩ d)) (fun a => s (ix2 ⟨3 * 224 + r.val, by omega⟩ a)) d * W3 (ix3 0 d o)) := by
  pointwise [k0_pay6, mix]

theorem pay7_apply (l g : FVec Ideal S896x256 .f32) (s : FVec Ideal S896x2 .f32) (W0 W1 W2 W3 : Vec Ideal S1x256x96 .f32) (r : Fin 224) (o : Fin 96) :
    k0_pay7 l g s W0 W1 W2 W3 (ix2 r o) = k0_pay6 l g s W0 W1 W2 W3 (ix2 r o) := by
  pointwise [k0_pay7]

theorem pay1_apply (a : FVec Ideal S224x96 .f32) (b : Vec Ideal S224x96 .f32) (r : Fin 224) (o : Fin 96) : k0_pay1 a b (ix2 r o) = b (ix2 r o) + a (ix2 r o) := by
  pointwise [k0_pay1]

theorem pay2_apply (h : Vec Ideal S224x96 .f32) (bh : Vec Ideal S1x96 .f32) (W : Vec Ideal S96x192 .f32) (b : Vec Ideal S1x192 .f32) (V : Vec Ideal S192x96 .f32) (c : Vec Ideal S1x96 .f32) (r : Fin 224) (o : Fin 96) :
    k0_pay2 h bh W b V c (ix2 r o) = tail (fun o => h (ix2 r o) + bh (ix2 0 o)) (fun d e => W (ix2 d e)) (fun e => b (ix2 0 e)) (fun e o => V (ix2 e o)) (fun o => c (ix2 0 o)) o := by
  pointwise [k0_pay2, tail, gel]
  simp only [Ideal.erf_def]

end Cert.HeadBlock

end
-- ==== Proof.HeadRef.lean ====
module

public import proofs.«01_k».proof.Proof.Gen.HeadRefIdeal.Run
public import proofs.«01_k».proof.Pre_finite_gate
public import proofs.«01_k».proof.Proof.Gen.Pre_finite_gate
public import proofs.«01_k».proof.Proof.HeadBlock
public import proofs.«01_k».proof.Proof.AttnBlock
public import Idealize.ShloMosaic.Lib.Pointwise

@[expose] public section

set_option maxRecDepth 16384

noncomputable section

namespace Cert.HeadRef

open Cert.HeadRefIdeal Cert.HeadRefIdeal.Gen Idealize.ShloMosaic
open Cert.HeadBlock (gel score mix tail)

/-- The local rows. -/
def rloc (x : FVec Ideal S224x64x256 .f32) (m : FVec Ideal S224x256 .f32) : FVec Ideal S224x64x256 .f32 :=
  addf (broadcastInDim S224x64x256 ![0, 1, 2] bcast_S224x1x256_S224x64x256_0_1_2 (broadcastInDim S224x1x256 ![0, 2] bcast_S224x256_S224x1x256_0_2 m)) x

/-- The exact GELU, by the complementary error function. -/
def rgel (s : Shape) (h : S_.BroadcastsInDim s (![] : Fin 0 → Fin s.rank)) (x : FVec Ideal s .f32) : FVec Ideal s .f32 :=
  mulf (mulf (broadcastInDim s ![] h (constant S_ .f32 0x3F000000#32)) x) (Host.erfc (mulf (Host.negf x) (broadcastInDim s ![] h (constant S_ .f32 0x3F3504F3#32))))

/-- The gate's first layer. -/
def rhid (l g : FVec Ideal S224x64x256 .f32) (W : FVec Ideal S512x256 .f32) (b : FVec Ideal S256 .f32) : FVec Ideal S224x64x256 .f32 :=
  addf (Host.dotGeneral dot_S224x64x512_S512x256_S224x64x256_2_0_01_1_n_n none (concatenate S224x64x512 2 [⟨S224x64x256, l⟩, ⟨S224x64x256, g⟩] concatenates_S224x64x256_S224x64x256_S224x64x512_d2) W)
    (broadcastInDim S224x64x256 ![0, 1, 2] bcast_S1x1x256_S224x64x256_0_1_2 (broadcastInDim S1x1x256 ![2] bcast_S256_S1x1x256_2 b))

/-- The gate's second layer. -/
def rscore (z : FVec Ideal S224x64x256 .f32) (V : FVec Ideal S256x2 .f32) (c : FVec Ideal S2 .f32) : FVec Ideal S224x64x2 .f32 :=
  addf (Host.dotGeneral dot_S224x64x256_S256x2_S224x64x2_2_0_01_1_n_n none z V) (broadcastInDim S224x64x2 ![0, 1, 2] bcast_S1x1x2_S224x64x2_0_1_2 (broadcastInDim S1x1x2 ![2] bcast_S2_S1x1x2_2 c))

/-- The exponentials of the scores less the larger. -/
def rexp (s : FVec Ideal S224x64x2 .f32) : FVec Ideal S224x64x2 .f32 :=
  Host.exp (subf s (broadcastInDim S224x64x2 ![0, 1, 2] bcast_S224x64x1_S224x64x2_0_1_2 (broadcastInDim S224x64x1 ![0, 1] bcast_S224x64_S224x64x1_0_1 (maximumf (broadcastInDim S224x64 ![] bcast_S_S224x64 (constant S_ .f32 0xFF800000#32)) (Host.reduce FloatOps.maximumf s (constant S_ .f32 0xFF800000#32) reducesTo_S224x64x2_S224x64_d2 h_S_)))))

/-- The two weights of the gate. -/
def rgate (e : FVec Ideal S224x64x2 .f32) : FVec Ideal S224x64x2 .f32 :=
  Host.divf e (broadcastInDim S224x64x2 ![0, 1, 2] bcast_S224x64x1_S224x64x2_0_1_2 (broadcastInDim S224x64x1 ![0, 1] bcast_S224x64_S224x64x1_0_1 (Host.reduceAdd e (constant S_ .f32 0x00000000#32) reducesTo_S224x64x2_S224x64_d2 h_S_)))

/-- The gated mix, its last two axes one. -/
def rmix (w : FVec Ideal S224x64x2 .f32) (l g : FVec Ideal S224x64x256 .f32) : FVec Ideal S224x16384 .f32 :=
  shapeCast _ (addf (mulf (broadcastInDim S224x64x256 ![0, 1, 2] bcast_S224x64x1_S224x64x256_0_1_2 (extractStridedSlice S224x64x1 ![0, 0, 0] w slices_S224x64x2_S224x64x1_0_0_0)) l)
    (mulf (broadcastInDim S224x64x256 ![0, 1, 2] bcast_S224x64x1_S224x64x256_0_1_2 (extractStridedSlice S224x64x1 ![0, 0, 1] w slices_S224x64x2_S224x64x1_0_0_1)) g)) shapeCasts_S224x64x256_S224x16384

/-- The head. -/
def rhead (f : FVec Ideal S224x16384 .f32) (W : FVec Ideal S16384x96 .f32) (b : FVec Ideal S96 .f32) : FVec Ideal S32x7x96 .f32 :=
  shapeCast _ (addf (Host.dotGeneral dot_S224x16384_S16384x96_S224x96_1_0_0_1_n_n none f W) (broadcastInDim S224x96 ![0, 1] bcast_S1x96_S224x96_0_1 (broadcastInDim S1x96 ![1] bcast_S96_S1x96_1 b))) shapeCasts_S224x96_S32x7x96

/-- The first of the two layers after it. -/
def rone (h : FVec Ideal S32x7x96 .f32) (W : FVec Ideal S96x192 .f32) (b : FVec Ideal S192 .f32) : FVec Ideal S32x7x192 .f32 :=
  addf (Host.dotGeneral dot_S32x7x96_S96x192_S32x7x192_2_0_01_1_n_n none h W) (broadcastInDim S32x7x192 ![0, 1, 2] bcast_S1x1x192_S32x7x192_0_1_2 (broadcastInDim S1x1x192 ![2] bcast_S192_S1x1x192_2 b))

/-- The second. -/
def rtwo (z : FVec Ideal S32x7x192 .f32) (V : FVec Ideal S192x96 .f32) (c : FVec Ideal S96 .f32) : FVec Ideal S32x7x96 .f32 :=
  addf (Host.dotGeneral dot_S32x7x192_S192x96_S32x7x96_2_0_01_1_n_n none z V) (broadcastInDim S32x7x96 ![0, 1, 2] bcast_S1x1x96_S32x7x96_0_1_2 (broadcastInDim S1x1x96 ![2] bcast_S96_S1x1x96_2 c))

/-- The denormalization. -/
def rden (p : FVec Ideal S32x7x96 .f32) (sd mn : FVec Ideal S32x1x7 .f32) : FVec Ideal S32x96x7 .f32 :=
  addf (mulf (transpose S32x96x7 [0, 2, 1] p transposes_S32x7x96_S32x96x7_0_2_1) (shapeCast _ (broadcastInDim S32x1x96x7 ![0, 1, 3] bcast_S32x1x7_S32x1x96x7_0_1_3 sd) shapeCasts_S32x1x96x7_S32x96x7))
    (shapeCast _ (broadcastInDim S32x1x96x7 ![0, 1, 3] bcast_S32x1x7_S32x1x96x7_0_1_3 mn) shapeCasts_S32x1x96x7_S32x96x7)

/-- The two scores of each gate. -/
def rscores (x : FVec Ideal S224x64x256 .f32) (m : FVec Ideal S224x256 .f32) (g : FVec Ideal S224x64x256 .f32) (W : FVec Ideal S512x256 .f32) (b : FVec Ideal S256 .f32)
    (V : FVec Ideal S256x2 .f32) (c : FVec Ideal S2 .f32) : FVec Ideal S224x64x2 .f32 :=
  rscore (rgel S224x64x256 bcast_S_S224x64x256 (rhid (rloc x m) g W b)) V c

/-- The reference's head of its arguments. -/
def rmh (x : FVec Ideal S224x64x256 .f32) (m : FVec Ideal S224x256 .f32) (g : FVec Ideal S224x64x256 .f32) (W : FVec Ideal S512x256 .f32) (b : FVec Ideal S256 .f32)
    (V : FVec Ideal S256x2 .f32) (c : FVec Ideal S2 .f32) (H : FVec Ideal S16384x96 .f32) (bh : FVec Ideal S96 .f32) : FVec Ideal S32x7x96 .f32 :=
  rhead (rmix (rgate (rexp (rscores x m g W b V c))) (rloc x m) g) H bh

/-- What follows the head. -/
def rtail (h : FVec Ideal S32x7x96 .f32) (F1 : FVec Ideal S96x192 .f32) (b1 : FVec Ideal S192 .f32) (F2 : FVec Ideal S192x96 .f32) (b2 : FVec Ideal S96 .f32) : FVec Ideal S32x7x96 .f32 :=
  addf (rgel S32x7x96 bcast_S_S32x7x96 (rtwo (rgel S32x7x192 bcast_S_S32x7x192 (rone h F1 b1)) F2 b2)) h

open Cert.HeadRefIdeal.Value in
theorem res_eq (m : (ℓ : Loc nD τ sig) → Buf (Elt Ideal) ℓ) (c : Dev nD) :
    res_main_v72 m c = rden (rtail (rmh (m (c.tc.loc main_arg0)) (m (c.tc.loc main_arg1)) (m (c.tc.loc main_arg2)) (m (c.tc.loc main_arg5)) (m (c.tc.loc main_arg6)) (m (c.tc.loc main_arg7)) (m (c.tc.loc main_arg8))
        (m (c.tc.loc main_arg9)) (m (c.tc.loc main_arg10))) (m (c.tc.loc main_arg11)) (m (c.tc.loc main_arg12)) (m (c.tc.loc main_arg13)) (m (c.tc.loc main_arg14)))
      (m (c.tc.loc main_arg3)) (m (c.tc.loc main_arg4)) := by
  unfold res_main_v72 rden rtail rmh rhead rmix rgate rexp rscores rscore rhid rtwo rone rgel rloc
  rfl

theorem rgel_apply (s : Shape) (h : S_.BroadcastsInDim s (![] : Fin 0 → Fin s.rank)) (x : FVec Ideal s .f32) (i : s.Idx) : rgel s h x i = gel (x i) := by
  show Ideal.ofBits .f32 0x3F000000#32 * x i * Ideal.erfc (-(x i) * Ideal.ofBits .f32 0x3F3504F3#32) = _
  rw [gel, EReal.neg_mul, Ideal.erfc_neg]

theorem rloc_apply (x : FVec Ideal S224x64x256 .f32) (m : FVec Ideal S224x256 .f32) (r : Fin 224) (p : Fin 64) (d : Fin 256) :
    rloc x m (ix3 r p d) = x (ix3 r p d) + m (ix2 r d) := by
  rw [add_comm]
  pointwise [rloc]

theorem rscore_apply (z : FVec Ideal S224x64x256 .f32) (V : FVec Ideal S256x2 .f32) (c : FVec Ideal S2 .f32) (r : Fin 224) (p : Fin 64) (a : Fin 2) :
    rscore z V c (ix3 r p a) = (∑ e : Fin 256, z (ix3 r p e) * V (ix2 e a)) + c (ix1 a) := by
  pointwise [rscore]

theorem rhid_apply (l g : FVec Ideal S224x64x256 .f32) (W : FVec Ideal S512x256 .f32) (b : FVec Ideal S256 .f32) (r : Fin 224) (p : Fin 64) (e : Fin 256) :
    rhid l g W b (ix3 r p e) = (∑ d : Fin 256, l (ix3 r p d) * W (ix2 ⟨d.val, by omega⟩ e)) + (∑ d : Fin 256, g (ix3 r p d) * W (ix2 ⟨256 + d.val, by omega⟩ e)) + b (ix1 e) := by
  pointwise [rhid]

theorem rmax_apply (s : FVec Ideal S224x64x2 .f32) (r : Fin 224) (p : Fin 64) :
    Host.reduce FloatOps.maximumf s (constant S_ .f32 0xFF800000#32) reducesTo_S224x64x2_S224x64_d2 h_S_ (ix2 r p)
      = Finset.fold max (Ideal.ofBits .f32 0xFF800000#32) (fun w : Fin 2 => s (ix3 r p w)) Finset.univ := by
  pointwise

theorem rfrom_apply (m : FVec Ideal S224x64 .f32) (r : Fin 224) (p : Fin 64) :
    maximumf (broadcastInDim S224x64 ![] bcast_S_S224x64 (constant S_ .f32 0xFF800000#32)) m (ix2 r p) = max (Ideal.ofBits .f32 0xFF800000#32) (m (ix2 r p)) := by
  pointwise

theorem rless_apply (m : FVec Ideal S224x64 .f32) (s : FVec Ideal S224x64x2 .f32) (r : Fin 224) (p : Fin 64) (a : Fin 2) :
    Host.exp (subf s (broadcastInDim S224x64x2 ![0, 1, 2] bcast_S224x64x1_S224x64x2_0_1_2 (broadcastInDim S224x64x1 ![0, 1] bcast_S224x64_S224x64x1_0_1 m))) (ix3 r p a)
      = Ideal.exp (s (ix3 r p a) - m (ix2 r p)) := by
  pointwise

theorem rgate_apply (e : FVec Ideal S224x64x2 .f32) (r : Fin 224) (p : Fin 64) (a : Fin 2) :
    rgate e (ix3 r p a) = Ideal.div (e (ix3 r p a)) (∑ w : Fin 2, e (ix3 r p w)) := by
  pointwise [rgate]

theorem rmix_apply (w : FVec Ideal S224x64x2 .f32) (l g : FVec Ideal S224x64x256 .f32) (r : Fin 224) (k : Fin 16384) :
    rmix w l g (ix2 r k) = w (ix3 r ⟨k.val / 256, by omega⟩ 0) * l (ix3 r ⟨k.val / 256, by omega⟩ ⟨k.val % 256, by omega⟩)
      + w (ix3 r ⟨k.val / 256, by omega⟩ 1) * g (ix3 r ⟨k.val / 256, by omega⟩ ⟨k.val % 256, by omega⟩) := by
  pointwise [rmix]

theorem rhead_apply (f : FVec Ideal S224x16384 .f32) (W : FVec Ideal S16384x96 .f32) (b : FVec Ideal S96 .f32) (i : Fin 32) (v : Fin 7) (o : Fin 96) :
    rhead f W b (ix3 i v o) = (∑ k : Fin 16384, f (ix2 ⟨i.val * 7 + v.val, by omega⟩ k) * W (ix2 k o)) + b (ix1 o) := by
  pointwise [rhead]

theorem rone_apply (h : FVec Ideal S32x7x96 .f32) (W : FVec Ideal S96x192 .f32) (b : FVec Ideal S192 .f32) (i : Fin 32) (v : Fin 7) (e : Fin 192) :
    rone h W b (ix3 i v e) = (∑ d : Fin 96, h (ix3 i v d) * W (ix2 d e)) + b (ix1 e) := by
  pointwise [rone]

theorem rtwo_apply (z : FVec Ideal S32x7x192 .f32) (V : FVec Ideal S192x96 .f32) (c : FVec Ideal S96 .f32) (i : Fin 32) (v : Fin 7) (o : Fin 96) :
    rtwo z V c (ix3 i v o) = (∑ e : Fin 192, z (ix3 i v e) * V (ix2 e o)) + c (ix1 o) := by
  pointwise [rtwo]

theorem rtail_apply (h : FVec Ideal S32x7x96 .f32) (F1 : FVec Ideal S96x192 .f32) (b1 : FVec Ideal S192 .f32) (F2 : FVec Ideal S192x96 .f32) (b2 : FVec Ideal S96 .f32) (i : Fin 32) (v : Fin 7) (o : Fin 96) :
    rtail h F1 b1 F2 b2 (ix3 i v o) = tail (fun o => h (ix3 i v o)) (fun d e => F1 (ix2 d e)) (fun e => b1 (ix1 e)) (fun e o => F2 (ix2 e o)) (fun o => b2 (ix1 o)) o := by
  show rgel _ _ _ _ + h _ = _
  simp only [rgel_apply, rtwo_apply, rone_apply, tail]

theorem rden_apply (p : FVec Ideal S32x7x96 .f32) (sd mn : FVec Ideal S32x1x7 .f32) (i : Fin 32) (o : Fin 96) (v : Fin 7) :
    rden p sd mn (ix3 i o v) = p (ix3 i v o) * sd (ix3 i 0 v) + mn (ix3 i 0 v) := by
  pointwise [rden]

/-- Two scores' softmax is the logistic of their difference. -/
theorem soft2 (x y z : ℝ) : Ideal.div (Ideal.exp ((x : EReal) - z)) (Ideal.exp ((x : EReal) - z) + Ideal.exp ((y : EReal) - z)) = Ideal.logistic ((x : EReal) - y)
    ∧ Ideal.div (Ideal.exp ((y : EReal) - z)) (Ideal.exp ((x : EReal) - z) + Ideal.exp ((y : EReal) - z)) = 1 - Ideal.logistic ((x : EReal) - y) := by
  have hx : 0 < Real.exp (x - z) := Real.exp_pos _
  have hy : 0 < Real.exp (y - z) := Real.exp_pos _
  have he : Real.exp (-(x - y)) = Real.exp (y - z) / Real.exp (x - z) := by
    rw [← Real.exp_sub]; congr 1; ring
  simp only [← EReal.coe_sub, Ideal.exp_coe, ← EReal.coe_add, Ideal.logistic_coe]
  rw [Ideal.div_coe (by positivity), Ideal.div_coe (by positivity), ← EReal.coe_mul, ← EReal.coe_mul, ← EReal.coe_one, ← EReal.coe_sub, EReal.coe_eq_coe_iff, EReal.coe_eq_coe_iff, he]
  constructor
  · field_simp
  · field_simp
    ring

theorem real_of {x : EReal} (h : max x (-x) < Ideal.ofBits .f32 0x7F800000#32) : ∃ r : ℝ, x = r := by
  have h := lt_of_lt_of_le h le_top
  induction x with
  | bot => simp at h
  | top => simp at h
  | coe r => exact ⟨r, rfl⟩

/-- The reference's scores. -/
theorem rscores_apply (x : FVec Ideal S224x64x256 .f32) (m : FVec Ideal S224x256 .f32) (g : FVec Ideal S224x64x256 .f32) (W : FVec Ideal S512x256 .f32) (b : FVec Ideal S256 .f32)
    (V : FVec Ideal S256x2 .f32) (c : FVec Ideal S2 .f32) (r : Fin 224) (p : Fin 64) (a : Fin 2) :
    rscores x m g W b V c (ix3 r p a) = score (fun d => x (ix3 r p d) + m (ix2 r d)) (fun d => g (ix3 r p d)) (fun d e => W (ix2 ⟨d.val, by omega⟩ e)) (fun d e => W (ix2 ⟨256 + d.val, by omega⟩ e))
      (fun e => b (ix1 e)) (fun e a => V (ix2 e a)) (fun a => c (ix1 a)) a := by
  simp only [rscores, rscore_apply, rgel_apply, rhid_apply, rloc_apply, score]

theorem two_fold (i : EReal) (f : Fin 2 → EReal) : Finset.fold max i f Finset.univ = max (f 0) (max (f 1) i) := by
  have : (Finset.univ : Finset (Fin 2)) = insert 0 (insert 1 ∅) := by decide
  rw [this, Finset.fold_insert (by decide), Finset.fold_insert (by decide), Finset.fold_empty]

/-- The weights of the gate, of two real scores. -/
theorem gate_apply (s : FVec Ideal S224x64x2 .f32) (r : Fin 224) (p : Fin 64) (hs : ∀ a, ∃ z : ℝ, s (ix3 r p a) = z) :
    rgate (rexp s) (ix3 r p 0) = Ideal.logistic (s (ix3 r p 0) - s (ix3 r p 1)) ∧ rgate (rexp s) (ix3 r p 1) = 1 - Ideal.logistic (s (ix3 r p 0) - s (ix3 r p 1)) := by
  obtain ⟨x, hx⟩ := hs 0
  obtain ⟨y, hy⟩ := hs 1
  have hm : ∃ z : ℝ, ∀ a, rexp s (ix3 r p a) = Ideal.exp (s (ix3 r p a) - z) := by
    refine ⟨max x y, fun a => ?_⟩
    rw [rexp, rless_apply, rfrom_apply, rmax_apply, two_fold, Cert.AttnBlock.max_ninf, max_comm (s (ix3 r p 1)), Cert.AttnBlock.max_ninf, hx, hy, (EReal.coe_strictMono.monotone.map_max : ((max x y : ℝ) : EReal) = _)]
  obtain ⟨z, hz⟩ := hm
  rw [rgate_apply, rgate_apply, Fin.sum_univ_two, hz, hz, hx, hy]
  exact soft2 x y z

theorem sum_split (f : Fin 16384 → EReal) : ∑ k, f k = ∑ p : Fin 64, ∑ d : Fin 256, f ⟨p.val * 256 + d.val, by omega⟩ := by
  refine (Equiv.sum_comp (finProdFinEquiv (m := 64) (n := 256)) f).symm.trans ?_
  rw [Fintype.sum_prod_type]
  refine Finset.sum_congr rfl fun p _ => Finset.sum_congr rfl fun d _ => congrArg f (Fin.ext ?_)
  show d.val + 256 * p.val = p.val * 256 + d.val
  omega

theorem rmix_at (w : FVec Ideal S224x64x2 .f32) (l g : FVec Ideal S224x64x256 .f32) (r : Fin 224) (p : Fin 64) (d : Fin 256) :
    rmix w l g (ix2 r ⟨p.val * 256 + d.val, by omega⟩) = w (ix3 r p 0) * l (ix3 r p d) + w (ix3 r p 1) * g (ix3 r p d) := by
  have h1 : (⟨(p.val * 256 + d.val) / 256, by omega⟩ : Fin 64) = p := Fin.ext (by show (p.val * 256 + d.val) / 256 = p.val; omega)
  have h2 : (⟨(p.val * 256 + d.val) % 256, by omega⟩ : Fin 256) = d := Fin.ext (by show (p.val * 256 + d.val) % 256 = d.val; omega)
  rw [rmix_apply]
  simp only [h1, h2]

/-- One patch's part of the head. -/
def part (x : FVec Ideal S224x64x256 .f32) (m : FVec Ideal S224x256 .f32) (g : FVec Ideal S224x64x256 .f32) (W : FVec Ideal S512x256 .f32) (b : FVec Ideal S256 .f32)
    (V : FVec Ideal S256x2 .f32) (c : FVec Ideal S2 .f32) (H : FVec Ideal S16384x96 .f32) (r : Fin 224) (o : Fin 96) (p : Fin 64) : EReal :=
  ∑ d : Fin 256, mix (fun d => x (ix3 r p d) + m (ix2 r d)) (fun d => g (ix3 r p d))
    (score (fun d => x (ix3 r p d) + m (ix2 r d)) (fun d => g (ix3 r p d)) (fun d e => W (ix2 ⟨d.val, by omega⟩ e)) (fun d e => W (ix2 ⟨256 + d.val, by omega⟩ e))
      (fun e => b (ix1 e)) (fun e a => V (ix2 e a)) (fun a => c (ix1 a))) d * H (ix2 ⟨p.val * 256 + d.val, by omega⟩ o)

theorem rmh_apply (x : FVec Ideal S224x64x256 .f32) (m : FVec Ideal S224x256 .f32) (g : FVec Ideal S224x64x256 .f32) (W : FVec Ideal S512x256 .f32) (b : FVec Ideal S256 .f32)
    (V : FVec Ideal S256x2 .f32) (c : FVec Ideal S2 .f32) (H : FVec Ideal S16384x96 .f32) (bh : FVec Ideal S96 .f32)
    (hs : ∀ r p a, ∃ z : ℝ, rscores x m g W b V c (ix3 r p a) = z) (i : Fin 32) (v : Fin 7) (o : Fin 96) :
    rmh x m g W b V c H bh (ix3 i v o) = (∑ p : Fin 64, part x m g W b V c H ⟨i.val * 7 + v.val, by omega⟩ o p) + bh (ix1 o) := by
  rw [rmh, rhead_apply, sum_split]
  refine congrArg (· + _) (Finset.sum_congr rfl fun p _ => Finset.sum_congr rfl fun d _ => ?_)
  rw [rmix_at, (gate_apply _ _ p (hs _ p)).1, (gate_apply _ _ p (hs _ p)).2, rscores_apply, rscores_apply, rloc_apply, mix]

/-- What the precondition says of a score. -/
theorem pre_apply (x : FVec Ideal S224x64x256 .f32) (m : FVec Ideal S224x256 .f32) (g : FVec Ideal S224x64x256 .f32) (sd mn : FVec Ideal S32x1x7 .f32) (W : FVec Ideal S512x256 .f32) (b : FVec Ideal S256 .f32)
    (V : FVec Ideal S256x2 .f32) (c : FVec Ideal S2 .f32) (H : FVec Ideal S16384x96 .f32) (bh : FVec Ideal S96 .f32)
    (F1 : FVec Ideal S96x192 .f32) (b1 : FVec Ideal S192 .f32) (F2 : FVec Ideal S192x96 .f32) (b2 : FVec Ideal S96 .f32)
    (h : Cert.Pre_finite_gate.fn (F := Ideal) x m g sd mn W b V c H bh F1 b1 F2 b2 = fun _ => 1#1) (r : Fin 224) (p : Fin 64) (a : Fin 2) :
    ∃ z : ℝ, rscores x m g W b V c (ix3 r p a) = z := by
  have h := congrFun h (ix3 r p a)
  have h1 : BitVec.ofBool (decide (max (rscores x m g W b V c (ix3 r p a)) (-(rscores x m g W b V c (ix3 r p a))) < Ideal.ofBits .f32 0x7F800000#32)) = 1#1 := h
  refine real_of (of_decide_eq_true ?_)
  by_contra hc
  rw [Bool.not_eq_true] at hc
  rw [hc] at h1
  exact absurd h1 (by decide)

end Cert.HeadRef

end
-- ==== Proof.HeadValue.lean ====
module

public import proofs.«01_k».proof.Proof.Gen.HeadIdeal.Frame
public import proofs.«01_k».proof.Proof.HeadBlock
public import proofs.«01_k».proof.Proof.HeadRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.HeadValue

open Cert.HeadIdeal Cert.HeadIdeal.Gen Cert.HeadBlock Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0, 0] ∧ win0_1.index t = ![0, 0] ∧ win0_2.index t = ![t.val, 0, 0] ∧ win0_3.index t = ![0, 0] ∧ win0_4.index t = ![0, 0]
    ∧ win0_5.index t = ![0, 0] ∧ win0_6.index t = ![0, 0] ∧ win0_7.index t = ![0, 0] ∧ win0_8.index t = ![t.val, 0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

theorem flat : List.flatten [hostOps0 (F := Ideal)] = hostOps0 := List.flatten_singleton

theorem x_eq (t : Fin cfg0.N) (j : Fin 4) (r : Fin 224) (d : Fin 256) :
    (iblk m c 0 t : Vec Ideal S4x224x256 .f32) (ix3 j r d) = (m ((c : Thread nD τ).loc main_arg0) : Vec Ideal S224x64x256 .f32) (ix3 r ⟨t.val * 4 + j.val, by have : t.val < 16 := t.isLt; omega⟩ d) := by
  have he : (win0_0.blk t).view.emb (ix3 j r d) = ix3 ⟨t.val * 4 + j.val, by have : t.val < 16 := t.isLt; omega⟩ r d := by blk_ext [idx t]
  refine (show (iblk m c 0 t) (ix3 j r d) = (transpose S64x224x256 [1, 0, 2] (m ((c : Thread nD τ).loc main_arg0) : Vec Ideal S224x64x256 .f32) transposes_S224x64x256_S64x224x256_1_0_2) ((win0_0.blk t).view.emb (ix3 j r d)) from ?_).trans ?_
  · simp only [iblk, V, V0, flat]
    after_results_simp
    rfl
  rw [he]
  pointwise

theorem y_eq (t : Fin cfg0.N) (r : Fin 224) (d : Fin 256) :
    (iblk m c 1 t : Vec Ideal S224x256 .f32) (ix2 r d) = (m ((c : Thread nD τ).loc main_arg1) : Vec Ideal S224x256 .f32) (ix2 r d) := by
  blk_point [iblk, V, V0, flat, idx t]

theorem g_eq (t : Fin cfg0.N) (j : Fin 4) (r : Fin 224) (d : Fin 256) :
    (iblk m c 2 t : Vec Ideal S4x224x256 .f32) (ix3 j r d) = (m ((c : Thread nD τ).loc main_arg2) : Vec Ideal S224x64x256 .f32) (ix3 r ⟨t.val * 4 + j.val, by have : t.val < 16 := t.isLt; omega⟩ d) := by
  have he : (win0_2.blk t).view.emb (ix3 j r d) = ix3 ⟨t.val * 4 + j.val, by have : t.val < 16 := t.isLt; omega⟩ r d := by blk_ext [idx t]
  refine (show (iblk m c 2 t) (ix3 j r d) = (transpose S64x224x256 [1, 0, 2] (m ((c : Thread nD τ).loc main_arg2) : Vec Ideal S224x64x256 .f32) transposes_S224x64x256_S64x224x256_1_0_2) ((win0_2.blk t).view.emb (ix3 j r d)) from ?_).trans ?_
  · simp only [iblk, V, V0, flat]
    after_results_simp
    rfl
  rw [he]
  pointwise

theorem wl_eq (t : Fin cfg0.N) (d e : Fin 256) :
    (iblk m c 3 t : Vec Ideal S256x256 .f32) (ix2 d e) = (m ((c : Thread nD τ).loc main_arg5) : Vec Ideal S512x256 .f32) (ix2 ⟨d.val, by omega⟩ e) := by
  have he : (win0_3.blk t).view.emb (ix2 d e) = ix2 d e := by blk_ext [idx t]
  refine (show (iblk m c 3 t) (ix2 d e) = (extractStridedSlice S256x256 ![0, 0] (m ((c : Thread nD τ).loc main_arg5) : Vec Ideal S512x256 .f32) slices_S512x256_S256x256_0_0) ((win0_3.blk t).view.emb (ix2 d e)) from ?_).trans ?_
  · simp only [iblk, V, V0, flat]
    after_results_simp
    rfl
  rw [he]
  pointwise

theorem wg_eq (t : Fin cfg0.N) (d e : Fin 256) :
    (iblk m c 4 t : Vec Ideal S256x256 .f32) (ix2 d e) = (m ((c : Thread nD τ).loc main_arg5) : Vec Ideal S512x256 .f32) (ix2 ⟨256 + d.val, by omega⟩ e) := by
  have he : (win0_4.blk t).view.emb (ix2 d e) = ix2 d e := by blk_ext [idx t]
  refine (show (iblk m c 4 t) (ix2 d e) = (extractStridedSlice S256x256 ![256, 0] (m ((c : Thread nD τ).loc main_arg5) : Vec Ideal S512x256 .f32) slices_S512x256_S256x256_256_0) ((win0_4.blk t).view.emb (ix2 d e)) from ?_).trans ?_
  · simp only [iblk, V, V0, flat]
    after_results_simp
    rfl
  rw [he]
  pointwise

theorem b_eq (t : Fin cfg0.N) (e : Fin 256) :
    (iblk m c 5 t : Vec Ideal S1x256 .f32) (ix2 0 e) = (m ((c : Thread nD τ).loc main_arg6) : Vec Ideal S256 .f32) (ix1 e) := by
  have he : (win0_5.blk t).view.emb (ix2 0 e) = ix2 0 e := by blk_ext [idx t]
  refine (show (iblk m c 5 t) (ix2 0 e) = (shapeCast S1x256 (m ((c : Thread nD τ).loc main_arg6) : Vec Ideal S256 .f32) shapeCasts_S256_S1x256) ((win0_5.blk t).view.emb (ix2 0 e)) from ?_).trans ?_
  · simp only [iblk, V, V0, flat]
    after_results_simp
    rfl
  rw [he]
  pointwise

theorem v_eq (t : Fin cfg0.N) (e : Fin 256) (a : Fin 2) :
    (iblk m c 6 t : Vec Ideal S256x2 .f32) (ix2 e a) = (m ((c : Thread nD τ).loc main_arg7) : Vec Ideal S256x2 .f32) (ix2 e a) := by
  blk_point [iblk, V, V0, flat, idx t]

theorem c_eq (t : Fin cfg0.N) (a : Fin 2) :
    (iblk m c 7 t : Vec Ideal S1x2 .f32) (ix2 0 a) = (m ((c : Thread nD τ).loc main_arg8) : Vec Ideal S2 .f32) (ix1 a) := by
  have he : (win0_7.blk t).view.emb (ix2 0 a) = ix2 0 a := by blk_ext [idx t]
  refine (show (iblk m c 7 t) (ix2 0 a) = (shapeCast S1x2 (m ((c : Thread nD τ).loc main_arg8) : Vec Ideal S2 .f32) shapeCasts_S2_S1x2) ((win0_7.blk t).view.emb (ix2 0 a)) from ?_).trans ?_
  · simp only [iblk, V, V0, flat]
    after_results_simp
    rfl
  rw [he]
  pointwise

theorem split_apply (v : Vec Ideal S16384x96 .f32) (p : Fin 64) (d : Fin 256) (o : Fin 96) :
    (shapeCast S64x256x96 v shapeCasts_S16384x96_S64x256x96) (ix3 p d o) = v (ix2 ⟨p.val * 256 + d.val, by omega⟩ o) := by
  pointwise

theorem h_eq (t : Fin cfg0.N) (j : Fin 4) (d : Fin 256) (o : Fin 96) :
    (iblk m c 8 t : Vec Ideal S4x256x96 .f32) (ix3 j d o)
      = (m ((c : Thread nD τ).loc main_arg9) : Vec Ideal S16384x96 .f32) (ix2 ⟨(t.val * 4 + j.val) * 256 + d.val, by have : t.val < 16 := t.isLt; omega⟩ o) := by
  have he : (win0_8.blk t).view.emb (ix3 j d o) = ix3 ⟨t.val * 4 + j.val, by have : t.val < 16 := t.isLt; omega⟩ d o := by blk_ext [idx t]
  refine (show (iblk m c 8 t) (ix3 j d o) = (shapeCast S64x256x96 (m ((c : Thread nD τ).loc main_arg9) : Vec Ideal S16384x96 .f32) shapeCasts_S16384x96_S64x256x96) ((win0_8.blk t).view.emb (ix3 j d o)) from ?_).trans ?_
  · simp only [iblk, V, V0, flat]
    after_results_simp
    rfl
  rw [he]
  exact split_apply _ _ d o

theorem bh_eq (t : Fin cfg0.N) (o : Fin 96) :
    (iblk m c 9 t : Vec Ideal S1x96 .f32) (ix2 0 o) = (m ((c : Thread nD τ).loc main_arg10) : Vec Ideal S96 .f32) (ix1 o) := by
  have he : (win0_9.blk t).view.emb (ix2 0 o) = ix2 0 o := by blk_ext [idx t]
  refine (show (iblk m c 9 t) (ix2 0 o) = (shapeCast S1x96 (m ((c : Thread nD τ).loc main_arg10) : Vec Ideal S96 .f32) shapeCasts_S96_S1x96) ((win0_9.blk t).view.emb (ix2 0 o)) from ?_).trans ?_
  · simp only [iblk, V, V0, flat]
    after_results_simp
    rfl
  rw [he]
  pointwise

theorem f1_eq (t : Fin cfg0.N) (d : Fin 96) (e : Fin 192) :
    (iblk m c 10 t : Vec Ideal S96x192 .f32) (ix2 d e) = (m ((c : Thread nD τ).loc main_arg11) : Vec Ideal S96x192 .f32) (ix2 d e) := by
  blk_point [iblk, V, V0, flat, idx t]

theorem b1_eq (t : Fin cfg0.N) (e : Fin 192) :
    (iblk m c 11 t : Vec Ideal S1x192 .f32) (ix2 0 e) = (m ((c : Thread nD τ).loc main_arg12) : Vec Ideal S192 .f32) (ix1 e) := by
  have he : (win0_11.blk t).view.emb (ix2 0 e) = ix2 0 e := by blk_ext [idx t]
  refine (show (iblk m c 11 t) (ix2 0 e) = (shapeCast S1x192 (m ((c : Thread nD τ).loc main_arg12) : Vec Ideal S192 .f32) shapeCasts_S192_S1x192) ((win0_11.blk t).view.emb (ix2 0 e)) from ?_).trans ?_
  · simp only [iblk, V, V0, flat]
    after_results_simp
    rfl
  rw [he]
  pointwise

theorem f2_eq (t : Fin cfg0.N) (e : Fin 192) (o : Fin 96) :
    (iblk m c 12 t : Vec Ideal S192x96 .f32) (ix2 e o) = (m ((c : Thread nD τ).loc main_arg13) : Vec Ideal S192x96 .f32) (ix2 e o) := by
  blk_point [iblk, V, V0, flat, idx t]

theorem b2_eq (t : Fin cfg0.N) (o : Fin 96) :
    (iblk m c 13 t : Vec Ideal S1x96 .f32) (ix2 0 o) = (m ((c : Thread nD τ).loc main_arg14) : Vec Ideal S96 .f32) (ix1 o) := by
  have he : (win0_13.blk t).view.emb (ix2 0 o) = ix2 0 o := by blk_ext [idx t]
  refine (show (iblk m c 13 t) (ix2 0 o) = (shapeCast S1x96 (m ((c : Thread nD τ).loc main_arg14) : Vec Ideal S96 .f32) shapeCasts_S96_S1x96) ((win0_13.blk t).view.emb (ix2 0 o)) from ?_).trans ?_
  · simp only [iblk, V, V0, flat]
    after_results_simp
    rfl
  rw [he]
  pointwise

/-- What a point adds to the running head. -/
def ctr (t : Fin cfg0.N) : FVec Ideal S224x96 .f32 :=
  k0_pay6 (k0_pay3 (iblk m c 0 t) (iblk m c 1 t)) (k0_pay4 (iblk m c 2 t))
    (k0_pay5 (iblk m c 0 t) (iblk m c 1 t) (iblk m c 2 t) (iblk m c 3 t) (iblk m c 4 t) (iblk m c 5 t) (iblk m c 6 t) (iblk m c 7 t))
    (View.ld (iblk m c 8 t) (Rect.unit ![0, 0, 0] ![1, 256, 96] inb_S4x256x96_S1x256x96_0_0_0))
    (View.ld (iblk m c 8 t) (Rect.unit ![1, 0, 0] ![1, 256, 96] inb_S4x256x96_S1x256x96_1_0_0))
    (View.ld (iblk m c 8 t) (Rect.unit ![2, 0, 0] ![1, 256, 96] inb_S4x256x96_S1x256x96_2_0_0))
    (View.ld (iblk m c 8 t) (Rect.unit ![3, 0, 0] ![1, 256, 96] inb_S4x256x96_S1x256x96_3_0_0))

theorem st_A (t : Fin cfg0.N) (h0 : t.val % 16 = 0) (h1 : ¬1 ≤ t.val) (h2 : ¬t.val % 16 = 15) (r : Fin 224) (o : Fin 96) : (outsAt0 m c t.val t.isLt).2 (ix2 r o) = ctr m c t (ix2 r o) := by
  rw [outsAt0_A m c t h0 h1 h2]
  frame_out
  exact pay7_apply _ _ _ _ _ _ _ r o

theorem st_B (t : Fin cfg0.N) (h0 : ¬t.val % 16 = 0) (h1 : 1 ≤ t.val) (h2 : ¬t.val % 16 = 15) (r : Fin 224) (o : Fin 96) :
    (outsAt0 m c t.val t.isLt).2 (ix2 r o) = (outsAt0 m c (t.val - 1) (Nat.lt_of_le_of_lt (Nat.sub_le _ _) t.isLt)).2 (ix2 r o) + ctr m c t (ix2 r o) := by
  rw [outsAt0_B m c t h0 h1 h2]
  frame_out
  simp only [read_unread_whole]
  exact pay1_apply _ _ r o

theorem st_C (t : Fin cfg0.N) (h0 : ¬t.val % 16 = 0) (h1 : 1 ≤ t.val) (h2 : t.val % 16 = 15) :
    (outsAt0 m c t.val t.isLt).1 = k0_pay2 (k0_pay1 (ctr m c t) (outsAt0 m c (t.val - 1) (Nat.lt_of_le_of_lt (Nat.sub_le _ _) t.isLt)).2) (iblk m c 9 t) (iblk m c 10 t) (iblk m c 11 t) (iblk m c 12 t) (iblk m c 13 t) := by
  rw [outsAt0_C m c t h0 h1 h2]
  frame_out
  simp only [read_unread_whole]
  unfold ctr
  rfl

/-- One patch's part of the head, of the launch's arguments. -/
def part (r : Fin 224) (o : Fin 96) (p : Fin 64) : EReal :=
  Cert.HeadRef.part (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) r o p

theorem row_eq (t : Fin cfg0.N) (j : Fin 4) (r : Fin 224) (o : Fin 96) (W : Vec Ideal S1x256x96 .f32) (hW : ∀ d, W (ix3 0 d o) = (iblk m c 8 t : Vec Ideal S4x256x96 .f32) (ix3 j d o)) :
    (∑ d : Fin 256, mix (fun d => k0_pay3 (iblk m c 0 t) (iblk m c 1 t) (ix2 ⟨j.val * 224 + r.val, by omega⟩ d)) (fun d => k0_pay4 (iblk m c 2 t) (ix2 ⟨j.val * 224 + r.val, by omega⟩ d))
      (fun a => k0_pay5 (iblk m c 0 t) (iblk m c 1 t) (iblk m c 2 t) (iblk m c 3 t) (iblk m c 4 t) (iblk m c 5 t) (iblk m c 6 t) (iblk m c 7 t) (ix2 ⟨j.val * 224 + r.val, by omega⟩ a)) d * W (ix3 0 d o))
    = part m c r o ⟨t.val * 4 + j.val, by have : t.val < 16 := t.isLt; omega⟩ := by
  unfold part Cert.HeadRef.part
  refine Finset.sum_congr rfl fun d _ => ?_
  simp only [pay5_apply, pay3_apply, pay4_apply, x_eq, y_eq, g_eq, wl_eq, wg_eq, b_eq, v_eq, c_eq, hW, h_eq]

theorem ld_apply (X : Vec Ideal S4x256x96 .f32) (j : Fin 4) (h : ∀ a, (![j.val, 0, 0] : Fin 3 → ℕ) a + (![1, 256, 96] : Fin 3 → ℕ) a ≤ S4x256x96.size a) (d : Fin 256) (o : Fin 96) :
    (View.ld X (Rect.unit ![j.val, 0, 0] ![1, 256, 96] h) : Vec Ideal S1x256x96 .f32) (ix3 0 d o) = X (ix3 j d o) := by
  show X ((Rect.unit (s := S4x256x96) ![j.val, 0, 0] ![1, 256, 96] h).idx (ix3 0 d o)) = _
  refine congrArg X (funext fun a => Fin.ext ?_)
  show (![j.val, 0, 0] : Fin 3 → ℕ) a + 1 * (ix3 (0 : Fin 1) d o a).val = (ix3 j d o a).val
  match a with
  | ⟨0, _⟩ => show j.val + 1 * 0 = j.val; omega
  | ⟨1, _⟩ => show 0 + 1 * d.val = d.val; omega
  | ⟨2, _⟩ => show 0 + 1 * o.val = o.val; omega

theorem ctr_apply (t : Fin cfg0.N) (r : Fin 224) (o : Fin 96) :
    ctr m c t (ix2 r o) = part m c r o ⟨t.val * 4 + 0, by have : t.val < 16 := t.isLt; omega⟩ + part m c r o ⟨t.val * 4 + 1, by have : t.val < 16 := t.isLt; omega⟩
      + part m c r o ⟨t.val * 4 + 2, by have : t.val < 16 := t.isLt; omega⟩ + part m c r o ⟨t.val * 4 + 3, by have : t.val < 16 := t.isLt; omega⟩ := by
  rw [ctr, pay6_apply]
  refine congrArg₂ (· + ·) (congrArg₂ (· + ·) (congrArg₂ (· + ·) (row_eq m c t 0 r o _ fun d => ?_) (row_eq m c t 1 r o _ fun d => ?_)) (row_eq m c t 2 r o _ fun d => ?_)) (row_eq m c t 3 r o _ fun d => ?_)
  · exact ld_apply _ 0 _ d o
  · exact ld_apply _ 1 _ d o
  · exact ld_apply _ 2 _ d o
  · exact ld_apply _ 3 _ d o

/-- The parts by number. -/
def parts (r : Fin 224) (o : Fin 96) (p : ℕ) : EReal := if h : p < 64 then part m c r o ⟨p, h⟩ else 0

theorem ctr_parts (t : Fin cfg0.N) (r : Fin 224) (o : Fin 96) :
    (∑ p ∈ Finset.range (t.val * 4), parts m c r o p) + ctr m c t (ix2 r o) = ∑ p ∈ Finset.range ((t.val + 1) * 4), parts m c r o p := by
  have hN : t.val < 16 := t.isLt
  have e : (t.val + 1) * 4 = t.val * 4 + 1 + 1 + 1 + 1 := by omega
  have hp : ∀ j (hj : j < 4), part m c r o ⟨t.val * 4 + j, by omega⟩ = parts m c r o (t.val * 4 + j) := fun j hj => by
    unfold parts
    rw [dif_pos]
  rw [ctr_apply, e, Finset.sum_range_succ, Finset.sum_range_succ, Finset.sum_range_succ, Finset.sum_range_succ, hp 0 (by omega), hp 1 (by omega), hp 2 (by omega), hp 3 (by omega)]
  simp only [add_assoc, Nat.add_zero]

/-- The running head after each point before the last. -/
theorem acc (r : Fin 224) (o : Fin 96) (n : ℕ) (hn : n < 15) (hN : n < cfg0.N) :
    (outsAt0 m c n hN).2 (ix2 r o) = ∑ p ∈ Finset.range ((n + 1) * 4), parts m c r o p := by
  induction n with
  | zero =>
    have hs := st_A m c ⟨0, hN⟩ rfl (by show ¬ 1 ≤ 0; decide) (by show ¬ 0 % 16 = 15; decide) r o
    rw [hs, ← ctr_parts m c ⟨0, hN⟩ r o]
    show _ = (∑ p ∈ Finset.range 0, _) + _
    rw [Finset.sum_range_zero, zero_add]
  | succ n ih =>
    have hs := st_B m c ⟨n + 1, hN⟩ (by show ¬ (n + 1) % 16 = 0; omega) (by show 1 ≤ n + 1; omega) (by show ¬ (n + 1) % 16 = 15; omega) r o
    have hi := ih (by omega) (by omega)
    rw [hs, ← ctr_parts m c ⟨n + 1, hN⟩ r o]
    exact congrArg (· + _) hi

theorem acc_last (t : Fin cfg0.N) (ht : t.val = 15) (r : Fin 224) (o : Fin 96) :
    k0_pay1 (ctr m c t) (outsAt0 m c (t.val - 1) (Nat.lt_of_le_of_lt (Nat.sub_le _ _) t.isLt)).2 (ix2 r o) = ∑ p : Fin 64, part m c r o p := by
  rw [pay1_apply, acc m c r o (t.val - 1) (by omega)]
  have e : t.val - 1 + 1 = t.val := by omega
  rw [e, ctr_parts, ht, Finset.sum_range]
  exact Finset.sum_congr rfl fun p _ => dif_pos p.isLt

/-- The predictions of a row of the launch's result. -/
def pred (r : Fin 224) (o : Fin 96) : EReal :=
  tail (fun o => (∑ p : Fin 64, part m c r o p) + (m ((c : Thread nD τ).loc main_arg10) : Vec Ideal S96 .f32) (ix1 o))
    (fun d e => (m ((c : Thread nD τ).loc main_arg11) : Vec Ideal S96x192 .f32) (ix2 d e)) (fun e => (m ((c : Thread nD τ).loc main_arg12) : Vec Ideal S192 .f32) (ix1 e))
    (fun e o => (m ((c : Thread nD τ).loc main_arg13) : Vec Ideal S192x96 .f32) (ix2 e o)) (fun o => (m ((c : Thread nD τ).loc main_arg14) : Vec Ideal S96 .f32) (ix1 o)) o

theorem last (t : Fin cfg0.N) (ht : t.val = 15) (r : Fin 224) (o : Fin 96) : (outsAt0 m c t.val t.isLt).1 (ix2 r o) = pred m c r o := by
  rw [st_C m c t (by rw [ht]; decide) (by omega) (by rw [ht])]
  refine (pay2_apply _ _ _ _ _ _ r o).trans ?_
  simp only [acc_last m c t ht, bh_eq, f1_eq, b1_eq, f2_eq, b2_eq, pred]

/-- The launch's result array. -/
theorem final : (dats m 0 c).arrAt 14 cfg0.N = fun i => pred m c (i 0) (i 1) := by
  refine (dats m 0 c).arrAt_eq_of_covers 14 _ (by decide +kernel) fun t hf y => ?_
  have ht : t.val = 15 := by
    have h1 := (flush0_14 t).mp hf
    have h2 : t.val < 16 := t.isLt
    omega
  blk_simp
  rw [after0_14]
  idx_vars y
  have he : ((View.whole main_v10).slice (win0_14.rect t)).emb (ix2 y0 y1) = ix2 y0 y1 := by blk_ext [idx t]
  rw [he]
  exact last m c t ht y0 y1

/-- What the host lines after the launch make of its result. -/
def den (p : FVec Ideal S224x96 .f32) (sd mn : FVec Ideal S32x1x7 .f32) : FVec Ideal S32x96x7 .f32 :=
  addf (mulf (transpose S32x96x7 [0, 2, 1] (shapeCast S32x7x96 p shapeCasts_S224x96_S32x7x96) transposes_S32x7x96_S32x96x7_0_2_1)
    (broadcastInDim S32x96x7 ![0, 1, 2] bcast_S32x1x7_S32x96x7_0_1_2 sd)) (broadcastInDim S32x96x7 ![0, 1, 2] bcast_S32x1x7_S32x96x7_0_1_2 mn)

theorem den_apply (p : FVec Ideal S224x96 .f32) (sd mn : FVec Ideal S32x1x7 .f32) (i : Fin 32) (o : Fin 96) (v : Fin 7) :
    den p sd mn (ix3 i o v) = p (ix2 ⟨i.val * 7 + v.val, by omega⟩ o) * sd (ix3 i 0 v) + mn (ix3 i 0 v) := by
  pointwise [den]

theorem whole_of (x : FVec Ideal S224x64x256 .f32) (y : FVec Ideal S224x256 .f32) (g : FVec Ideal S224x64x256 .f32) (W : FVec Ideal S512x256 .f32) (b : FVec Ideal S256 .f32)
    (V : FVec Ideal S256x2 .f32) (c : FVec Ideal S2 .f32) (H : FVec Ideal S16384x96 .f32) (bh : FVec Ideal S96 .f32) (F1 : FVec Ideal S96x192 .f32) (b1 : FVec Ideal S192 .f32)
    (F2 : FVec Ideal S192x96 .f32) (b2 : FVec Ideal S96 .f32) (sd mn : FVec Ideal S32x1x7 .f32) (P : FVec Ideal S224x96 .f32)
    (hs : ∀ r p a, ∃ z : ℝ, Cert.HeadRef.rscores x y g W b V c (ix3 r p a) = z)
    (hP : ∀ r o, P (ix2 r o) = tail (fun o => (∑ p : Fin 64, Cert.HeadRef.part x y g W b V c H r o p) + bh (ix1 o)) (fun d e => F1 (ix2 d e)) (fun e => b1 (ix1 e)) (fun e o => F2 (ix2 e o)) (fun o => b2 (ix1 o)) o) :
    Cert.HeadRef.rden (Cert.HeadRef.rtail (Cert.HeadRef.rmh x y g W b V c H bh) F1 b1 F2 b2) sd mn = den P sd mn := by
  funext i
  idx_vars i
  rw [Cert.HeadRef.rden_apply, den_apply, hP, Cert.HeadRef.rtail_apply]
  simp only [Cert.HeadRef.rmh_apply x y g W b V c H bh hs]

/-- The whole result is the reference's. -/
theorem whole (hs : ∀ r p a, ∃ z : ℝ, Cert.HeadRef.rscores (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (ix3 r p a) = z) :
    Cert.HeadRef.rden (Cert.HeadRef.rtail (Cert.HeadRef.rmh (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14))) (m ((c : Thread nD τ).loc main_arg3)) (m ((c : Thread nD τ).loc main_arg4))
      = den ((dats m 0 c).arrAt 14 cfg0.N) (m ((c : Thread nD τ).loc main_arg3)) (m ((c : Thread nD τ).loc main_arg4)) :=
  whole_of _ _ _ _ _ _ _ _ _ _ _ _ _ _ _ _ hs (fun r o => congrFun (final m c) (ix2 r o))

/-- The host lines after the launch leave `den` of its result. -/
theorem out_eq : Pipeline.afterTail₀ cfgs (dats m) 0 (V0 m) [hostOps1] c main_v16 = den ((dats m 0 c).arrAt 14 cfg0.N) (m ((c : Thread nD τ).loc main_arg3)) (m ((c : Thread nD τ).loc main_arg4)) := by
  unfold Pipeline.afterTail₀
  rw [List.flatten_singleton]
  after_results_simp
  have e := Pipeline.withArrays_arr spec0 (by decide) c (V0 m c) (fun w => (dats m 0 c).arrAt w cfg0.N) 14
  have e3 := (Pipeline.withArrays_of_ne spec0 c (V0 m c) (fun w => (dats m 0 c).arrAt w cfg0.N) main_arg3 (by exact (by decide : ∀ w, Pipeline.arrRef spec0 w ≠ main_arg3))).trans (V_main_arg3 m c)
  have e4 := (Pipeline.withArrays_of_ne spec0 c (V0 m c) (fun w => (dats m 0 c).arrAt w cfg0.N) main_arg4 (by exact (by decide : ∀ w, Pipeline.arrRef spec0 w ≠ main_arg4))).trans (V_main_arg4 m c)
  rw [show Pipeline.withArrays (cfgs 0).spec c (V0 m c) (fun w => (dats m 0 c).arrAt w (cfgs 0).N) (Proc.tc.devRef main_v10) = _ from e,
    show Pipeline.withArrays (cfgs 0).spec c (V0 m c) (fun w => (dats m 0 c).arrAt w (cfgs 0).N) (Proc.tc.devRef main_arg3) = _ from e3,
    show Pipeline.withArrays (cfgs 0).spec c (V0 m c) (fun w => (dats m 0 c).arrAt w (cfgs 0).N) (Proc.tc.devRef main_arg4) = _ from e4]
  rfl

end Cert.HeadValue

end
-- ==== Proof.LocalPre.lean ====
module

public import proofs.«01_k».proof.Pre_in_bank
public import proofs.«01_k».proof.Proof.Gen.Pre_in_bank
public import Idealize.ShloMosaic.Lib.Pointwise

@[expose] public section

noncomputable section

namespace Cert.LocalPre

open Cert.Pre_in_bank Cert.Pre_in_bank.Gen Idealize.ShloMosaic

variable {F : FTy → Type} [FloatOps F]

theorem toNat_lt (x : BitVec 32) (h0 : IntOp.cmpi .sge x 0#32 = 1#1) (h1 : IntOp.cmpi .slt x 100000#32 = 1#1) : x.toNat < 100000 := by
  have e (b : Bool) : BitVec.ofBool b = 1#1 ↔ b = true := by revert b; decide
  simp only [IntOp.cmpi, e, BitVec.sle, BitVec.slt, decide_eq_true_eq] at h0 h1
  have hx := x.isLt
  rw [BitVec.toInt_eq_toNat_cond, BitVec.toInt_eq_toNat_cond] at h0 h1
  simp only [BitVec.toNat_ofNat] at h0 h1
  split_ifs at h0 h1 <;> omega

/-- Under the precondition every index names a row of the bank. -/
theorem word_lt (idx : IVec S1120 32) (bank : FVec F S100000x256 .f32) (W : FVec F S256x512 .f32) (b : FVec F S512 .f32) (V : FVec F S512x256 .f32) (c : FVec F S256 .f32)
    (h : Cert.Pre_in_bank.fn (F := F) idx bank W b V c = fun _ => 1#1) (w : S1120.Idx) : (idx w).toNat < 100000 := by
  have andi_one (a b : BitVec 1) : IntOp.andi a b = 1#1 ↔ a = 1#1 ∧ b = 1#1 := by revert a b; decide
  have pre := congrFun h w
  simp only [Cert.Pre_in_bank.fn, constantI, broadcastInDim, cmpi, andi, andi_one] at pre
  exact toNat_lt _ pre.1 pre.2

end Cert.LocalPre

end
-- ==== Proof.LocalIdealRun.lean ====
/- The body of the gather kernel run once at a grid point: what its loads read and what its store leaves. -/
module

public import proofs.«01_k».proof.Proof.Gen.LocalIdeal.Frame.Runs

@[expose] public section

set_option maxRecDepth 16384

noncomputable section

namespace Cert.LocalIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 400000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S1x1x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x256 .f32) (harg13 : arg13.IsWhole) (arg14 : Memref sig .tc .vmem S1x1x256 .f32) (harg14 : arg14.IsWhole) (arg15 : Memref sig .tc .vmem S1x1x256 .f32) (harg15 : arg15.IsWhole) (arg16 : Memref sig .tc .vmem S1x1x256 .f32) (harg16 : arg16.IsWhole) (arg17 : Memref sig .tc .vmem S1x1x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S1x1x256 .f32) (harg36 : arg36.IsWhole) (arg37 : Memref sig .tc .vmem S1x1x256 .f32) (harg37 : arg37.IsWhole) (arg38 : Memref sig .tc .vmem S1x1x256 .f32) (harg38 : arg38.IsWhole) (arg39 : Memref sig .tc .vmem S1x1x256 .f32) (harg39 : arg39.IsWhole) (arg40 : Memref sig .tc .vmem S1x1x256 .f32) (harg40 : arg40.IsWhole) (arg41 : Memref sig .tc .vmem S1x1x256 .f32) (harg41 : arg41.IsWhole) (arg42 : Memref sig .tc .vmem S1x1x256 .f32) (harg42 : arg42.IsWhole) (arg43 : Memref sig .tc .vmem S1x1x256 .f32) (harg43 : arg43.IsWhole) (arg44 : Memref sig .tc .vmem S1x1x256 .f32) (harg44 : arg44.IsWhole) (arg45 : Memref sig .tc .vmem S1x1x256 .f32) (harg45 : arg45.IsWhole) (arg46 : Memref sig .tc .vmem S1x1x256 .f32) (harg46 : arg46.IsWhole) (arg47 : Memref sig .tc .vmem S1x1x256 .f32) (harg47 : arg47.IsWhole) (arg48 : Memref sig .tc .vmem S1x1x256 .f32) (harg48 : arg48.IsWhole) (arg49 : Memref sig .tc .vmem S1x1x256 .f32) (harg49 : arg49.IsWhole) (arg50 : Memref sig .tc .vmem S1x1x256 .f32) (harg50 : arg50.IsWhole) (arg51 : Memref sig .tc .vmem S1x1x256 .f32) (harg51 : arg51.IsWhole) (arg52 : Memref sig .tc .vmem S1x1x256 .f32) (harg52 : arg52.IsWhole) (arg53 : Memref sig .tc .vmem S1x1x256 .f32) (harg53 : arg53.IsWhole) (arg54 : Memref sig .tc .vmem S1x1x256 .f32) (harg54 : arg54.IsWhole) (arg55 : Memref sig .tc .vmem S1x1x256 .f32) (harg55 : arg55.IsWhole) (arg56 : Memref sig .tc .vmem S1x1x256 .f32) (harg56 : arg56.IsWhole) (arg57 : Memref sig .tc .vmem S1x1x256 .f32) (harg57 : arg57.IsWhole) (arg58 : Memref sig .tc .vmem S1x1x256 .f32) (harg58 : arg58.IsWhole) (arg59 : Memref sig .tc .vmem S1x1x256 .f32) (harg59 : arg59.IsWhole) (arg60 : Memref sig .tc .vmem S1x1x256 .f32) (harg60 : arg60.IsWhole) (arg61 : Memref sig .tc .vmem S1x1x256 .f32) (harg61 : arg61.IsWhole) (arg62 : Memref sig .tc .vmem S1x1x256 .f32) (harg62 : arg62.IsWhole) (arg63 : Memref sig .tc .vmem S1x1x256 .f32) (harg63 : arg63.IsWhole) (arg64 : Memref sig .tc .vmem S1x1x256 .f32) (harg64 : arg64.IsWhole) (arg65 : Memref sig .tc .vmem S1x1x256 .f32) (harg65 : arg65.IsWhole) (arg66 : Memref sig .tc .vmem S1x1x256 .f32) (harg66 : arg66.IsWhole) (arg67 : Memref sig .tc .vmem S1x1x256 .f32) (harg67 : arg67.IsWhole) (arg68 : Memref sig .tc .vmem S1x1x256 .f32) (harg68 : arg68.IsWhole) (arg69 : Memref sig .tc .vmem S1x1x256 .f32) (harg69 : arg69.IsWhole) (arg70 : Memref sig .tc .vmem S1x1x256 .f32) (harg70 : arg70.IsWhole) (arg71 : Memref sig .tc .vmem S1x1x256 .f32) (harg71 : arg71.IsWhole) (arg72 : Memref sig .tc .vmem S1x1x256 .f32) (harg72 : arg72.IsWhole) (arg73 : Memref sig .tc .vmem S1x1x256 .f32) (harg73 : arg73.IsWhole) (arg74 : Memref sig .tc .vmem S1x1x256 .f32) (harg74 : arg74.IsWhole) (arg75 : Memref sig .tc .vmem S1x1x256 .f32) (harg75 : arg75.IsWhole) (arg76 : Memref sig .tc .vmem S1x1x256 .f32) (harg76 : arg76.IsWhole) (arg77 : Memref sig .tc .vmem S1x1x256 .f32) (harg77 : arg77.IsWhole) (arg78 : Memref sig .tc .vmem S1x1x256 .f32) (harg78 : arg78.IsWhole) (arg79 : Memref sig .tc .vmem S1x1x256 .f32) (harg79 : arg79.IsWhole) (arg80 : Memref sig .tc .vmem S1x1x256 .f32) (harg80 : arg80.IsWhole) (arg81 : Memref sig .tc .vmem S1x1x256 .f32) (harg81 : arg81.IsWhole) (arg82 : Memref sig .tc .vmem S256x512 .f32) (harg82 : arg82.IsWhole) (arg83 : Memref sig .tc .vmem S1x512 .f32) (harg83 : arg83.IsWhole) (arg84 : Memref sig .tc .vmem S512x256 .f32) (harg84 : arg84.IsWhole) (arg85 : Memref sig .tc .vmem S1x256 .f32) (harg85 : arg85.IsWhole) (arg86 : Memref sig .tc .vmem S1x16x256 .f32) (harg86 : arg86.IsWhole)
    (x0 : Vec F S1x1x256 .f32) (x1 : Vec F S1x1x256 .f32) (x2 : Vec F S1x1x256 .f32) (x3 : Vec F S1x1x256 .f32) (x4 : Vec F S1x1x256 .f32) (x5 : Vec F S1x1x256 .f32) (x6 : Vec F S1x1x256 .f32) (x7 : Vec F S1x1x256 .f32) (x8 : Vec F S1x1x256 .f32) (x9 : Vec F S1x1x256 .f32) (x10 : Vec F S1x1x256 .f32) (x11 : Vec F S1x1x256 .f32) (x12 : Vec F S1x1x256 .f32) (x13 : Vec F S1x1x256 .f32) (x14 : Vec F S1x1x256 .f32) (x15 : Vec F S1x1x256 .f32) (x16 : Vec F S1x1x256 .f32) (x17 : Vec F S1x1x256 .f32) (x18 : Vec F S1x1x256 .f32) (x19 : Vec F S1x1x256 .f32) (x20 : Vec F S1x1x256 .f32) (x21 : Vec F S1x1x256 .f32) (x22 : Vec F S1x1x256 .f32) (x23 : Vec F S1x1x256 .f32) (x24 : Vec F S1x1x256 .f32) (x25 : Vec F S1x1x256 .f32) (x26 : Vec F S1x1x256 .f32) (x27 : Vec F S1x1x256 .f32) (x28 : Vec F S1x1x256 .f32) (x29 : Vec F S1x1x256 .f32) (x30 : Vec F S1x1x256 .f32) (x31 : Vec F S1x1x256 .f32) (x32 : Vec F S1x1x256 .f32) (x33 : Vec F S1x1x256 .f32) (x34 : Vec F S1x1x256 .f32) (x35 : Vec F S1x1x256 .f32) (x36 : Vec F S1x1x256 .f32) (x37 : Vec F S1x1x256 .f32) (x38 : Vec F S1x1x256 .f32) (x39 : Vec F S1x1x256 .f32) (x40 : Vec F S1x1x256 .f32) (x41 : Vec F S1x1x256 .f32) (x42 : Vec F S1x1x256 .f32) (x43 : Vec F S1x1x256 .f32) (x44 : Vec F S1x1x256 .f32) (x45 : Vec F S1x1x256 .f32) (x46 : Vec F S1x1x256 .f32) (x47 : Vec F S1x1x256 .f32) (x48 : Vec F S1x1x256 .f32) (x49 : Vec F S1x1x256 .f32) (x50 : Vec F S1x1x256 .f32) (x51 : Vec F S1x1x256 .f32) (x52 : Vec F S1x1x256 .f32) (x53 : Vec F S1x1x256 .f32) (x54 : Vec F S1x1x256 .f32) (x55 : Vec F S1x1x256 .f32) (x56 : Vec F S1x1x256 .f32) (x57 : Vec F S1x1x256 .f32) (x58 : Vec F S1x1x256 .f32) (x59 : Vec F S1x1x256 .f32) (x60 : Vec F S1x1x256 .f32) (x61 : Vec F S1x1x256 .f32) (x62 : Vec F S1x1x256 .f32) (x63 : Vec F S1x1x256 .f32) (x64 : Vec F S1x1x256 .f32) (x65 : Vec F S1x1x256 .f32) (x66 : Vec F S1x1x256 .f32) (x67 : Vec F S1x1x256 .f32) (x68 : Vec F S1x1x256 .f32) (x69 : Vec F S1x1x256 .f32) (x70 : Vec F S1x1x256 .f32) (x71 : Vec F S1x1x256 .f32) (x72 : Vec F S1x1x256 .f32) (x73 : Vec F S1x1x256 .f32) (x74 : Vec F S1x1x256 .f32) (x75 : Vec F S1x1x256 .f32) (x76 : Vec F S1x1x256 .f32) (x77 : Vec F S1x1x256 .f32) (x78 : Vec F S1x1x256 .f32) (x79 : Vec F S1x1x256 .f32) (x80 : Vec F S256x512 .f32) (x81 : Vec F S1x512 .f32) (x82 : Vec F S512x256 .f32) (x83 : Vec F S1x256 .f32) (xt0 : TbBuf0 (F := F) c tbM0_0) :
    { L84 : List (View.Piece (Elt F) S1x16x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ owns (c : Thread nD τ) arg38 fullShare x36 ∗ owns (c : Thread nD τ) arg39 fullShare x37 ∗ owns (c : Thread nD τ) arg40 fullShare x38 ∗ owns (c : Thread nD τ) arg41 fullShare x39 ∗ owns (c : Thread nD τ) arg42 fullShare x40 ∗ owns (c : Thread nD τ) arg43 fullShare x41 ∗ owns (c : Thread nD τ) arg44 fullShare x42 ∗ owns (c : Thread nD τ) arg45 fullShare x43 ∗ owns (c : Thread nD τ) arg46 fullShare x44 ∗ owns (c : Thread nD τ) arg47 fullShare x45 ∗ owns (c : Thread nD τ) arg48 fullShare x46 ∗ owns (c : Thread nD τ) arg49 fullShare x47 ∗ owns (c : Thread nD τ) arg50 fullShare x48 ∗ owns (c : Thread nD τ) arg51 fullShare x49 ∗ owns (c : Thread nD τ) arg52 fullShare x50 ∗ owns (c : Thread nD τ) arg53 fullShare x51 ∗ owns (c : Thread nD τ) arg54 fullShare x52 ∗ owns (c : Thread nD τ) arg55 fullShare x53 ∗ owns (c : Thread nD τ) arg56 fullShare x54 ∗ owns (c : Thread nD τ) arg57 fullShare x55 ∗ owns (c : Thread nD τ) arg58 fullShare x56 ∗ owns (c : Thread nD τ) arg59 fullShare x57 ∗ owns (c : Thread nD τ) arg60 fullShare x58 ∗ owns (c : Thread nD τ) arg61 fullShare x59 ∗ owns (c : Thread nD τ) arg62 fullShare x60 ∗ owns (c : Thread nD τ) arg63 fullShare x61 ∗ owns (c : Thread nD τ) arg64 fullShare x62 ∗ owns (c : Thread nD τ) arg65 fullShare x63 ∗ owns (c : Thread nD τ) arg66 fullShare x64 ∗ owns (c : Thread nD τ) arg67 fullShare x65 ∗ owns (c : Thread nD τ) arg68 fullShare x66 ∗ owns (c : Thread nD τ) arg69 fullShare x67 ∗ owns (c : Thread nD τ) arg70 fullShare x68 ∗ owns (c : Thread nD τ) arg71 fullShare x69 ∗ owns (c : Thread nD τ) arg72 fullShare x70 ∗ owns (c : Thread nD τ) arg73 fullShare x71 ∗ owns (c : Thread nD τ) arg74 fullShare x72 ∗ owns (c : Thread nD τ) arg75 fullShare x73 ∗ owns (c : Thread nD τ) arg76 fullShare x74 ∗ owns (c : Thread nD τ) arg77 fullShare x75 ∗ owns (c : Thread nD τ) arg78 fullShare x76 ∗ owns (c : Thread nD τ) arg79 fullShare x77 ∗ owns (c : Thread nD τ) arg80 fullShare x78 ∗ owns (c : Thread nD τ) arg81 fullShare x79 ∗ owns (c : Thread nD τ) arg82 fullShare x80 ∗ owns (c : Thread nD τ) arg83 fullShare x81 ∗ owns (c : Thread nD τ) arg84 fullShare x82 ∗ owns (c : Thread nD τ) arg85 fullShare x83 ∗ (∃ d, owns (c : Thread nD τ) arg86 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare x33 ∗ owns (c : Thread nD τ) arg36 fullShare x34 ∗ owns (c : Thread nD τ) arg37 fullShare x35 ∗ owns (c : Thread nD τ) arg38 fullShare x36 ∗ owns (c : Thread nD τ) arg39 fullShare x37 ∗ owns (c : Thread nD τ) arg40 fullShare x38 ∗ owns (c : Thread nD τ) arg41 fullShare x39 ∗ owns (c : Thread nD τ) arg42 fullShare x40 ∗ owns (c : Thread nD τ) arg43 fullShare x41 ∗ owns (c : Thread nD τ) arg44 fullShare x42 ∗ owns (c : Thread nD τ) arg45 fullShare x43 ∗ owns (c : Thread nD τ) arg46 fullShare x44 ∗ owns (c : Thread nD τ) arg47 fullShare x45 ∗ owns (c : Thread nD τ) arg48 fullShare x46 ∗ owns (c : Thread nD τ) arg49 fullShare x47 ∗ owns (c : Thread nD τ) arg50 fullShare x48 ∗ owns (c : Thread nD τ) arg51 fullShare x49 ∗ owns (c : Thread nD τ) arg52 fullShare x50 ∗ owns (c : Thread nD τ) arg53 fullShare x51 ∗ owns (c : Thread nD τ) arg54 fullShare x52 ∗ owns (c : Thread nD τ) arg55 fullShare x53 ∗ owns (c : Thread nD τ) arg56 fullShare x54 ∗ owns (c : Thread nD τ) arg57 fullShare x55 ∗ owns (c : Thread nD τ) arg58 fullShare x56 ∗ owns (c : Thread nD τ) arg59 fullShare x57 ∗ owns (c : Thread nD τ) arg60 fullShare x58 ∗ owns (c : Thread nD τ) arg61 fullShare x59 ∗ owns (c : Thread nD τ) arg62 fullShare x60 ∗ owns (c : Thread nD τ) arg63 fullShare x61 ∗ owns (c : Thread nD τ) arg64 fullShare x62 ∗ owns (c : Thread nD τ) arg65 fullShare x63 ∗ owns (c : Thread nD τ) arg66 fullShare x64 ∗ owns (c : Thread nD τ) arg67 fullShare x65 ∗ owns (c : Thread nD τ) arg68 fullShare x66 ∗ owns (c : Thread nD τ) arg69 fullShare x67 ∗ owns (c : Thread nD τ) arg70 fullShare x68 ∗ owns (c : Thread nD τ) arg71 fullShare x69 ∗ owns (c : Thread nD τ) arg72 fullShare x70 ∗ owns (c : Thread nD τ) arg73 fullShare x71 ∗ owns (c : Thread nD τ) arg74 fullShare x72 ∗ owns (c : Thread nD τ) arg75 fullShare x73 ∗ owns (c : Thread nD τ) arg76 fullShare x74 ∗ owns (c : Thread nD τ) arg77 fullShare x75 ∗ owns (c : Thread nD τ) arg78 fullShare x76 ∗ owns (c : Thread nD τ) arg79 fullShare x77 ∗ owns (c : Thread nD τ) arg80 fullShare x78 ∗ owns (c : Thread nD τ) arg81 fullShare x79 ∗ owns (c : Thread nD τ) arg82 fullShare x80 ∗ owns (c : Thread nD τ) arg83 fullShare x81 ∗ owns (c : Thread nD τ) arg84 fullShare x82 ∗ owns (c : Thread nD τ) arg85 fullShare x83 ∗ (∃ f, arg86.view.loc (c : Thread nD τ) ↦[arg86.view.set]{fullShare} arg86.view.writes (Elt F) f L84) ∗ tbPt0 c tbM0_0 xt0) -∗ K ⟨⟩))
          ⊢ wp frame (wpE (defs₀ (F := F)) Variants.none c none) E (cc0__k2 i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76 arg77 harg77 arg78 harg78 arg79 harg79 arg80 harg80 arg81 harg81 arg82 harg82 arg83 harg83 arg84 harg84 arg85 harg85 arg86 harg86) K } := by
  refine ⟨?_, fun E K => ?run⟩
  case run =>
    simp only [cc0__k2_eq_skeleton]; unfold cc0__k2_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩, ⟨%f56, %hf56, H56⟩, ⟨%f57, %hf57, H57⟩, ⟨%f58, %hf58, H58⟩, ⟨%f59, %hf59, H59⟩, ⟨%f60, %hf60, H60⟩, ⟨%f61, %hf61, H61⟩, ⟨%f62, %hf62, H62⟩, ⟨%f63, %hf63, H63⟩, ⟨%f64, %hf64, H64⟩, ⟨%f65, %hf65, H65⟩, ⟨%f66, %hf66, H66⟩, ⟨%f67, %hf67, H67⟩, ⟨%f68, %hf68, H68⟩, ⟨%f69, %hf69, H69⟩, ⟨%f70, %hf70, H70⟩, ⟨%f71, %hf71, H71⟩, ⟨%f72, %hf72, H72⟩, ⟨%f73, %hf73, H73⟩, ⟨%f74, %hf74, H74⟩, ⟨%f75, %hf75, H75⟩, ⟨%f76, %hf76, H76⟩, ⟨%f77, %hf77, H77⟩, ⟨%f78, %hf78, H78⟩, ⟨%f79, %hf79, H79⟩, ⟨%f80, %hf80, H80⟩, ⟨%f81, %hf81, H81⟩, ⟨%f82, %hf82, H82⟩, ⟨%f83, %hf83, H83⟩, ⟨%d84, %f84, -, H84⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29; obtain rfl := harg32.eq_unread hf30; obtain rfl := harg33.eq_unread hf31; obtain rfl := harg34.eq_unread hf32; obtain rfl := harg35.eq_unread hf33; obtain rfl := harg36.eq_unread hf34; obtain rfl := harg37.eq_unread hf35; obtain rfl := harg38.eq_unread hf36; obtain rfl := harg39.eq_unread hf37; obtain rfl := harg40.eq_unread hf38; obtain rfl := harg41.eq_unread hf39; obtain rfl := harg42.eq_unread hf40; obtain rfl := harg43.eq_unread hf41; obtain rfl := harg44.eq_unread hf42; obtain rfl := harg45.eq_unread hf43; obtain rfl := harg46.eq_unread hf44; obtain rfl := harg47.eq_unread hf45; obtain rfl := harg48.eq_unread hf46; obtain rfl := harg49.eq_unread hf47; obtain rfl := harg50.eq_unread hf48; obtain rfl := harg51.eq_unread hf49; obtain rfl := harg52.eq_unread hf50; obtain rfl := harg53.eq_unread hf51; obtain rfl := harg54.eq_unread hf52; obtain rfl := harg55.eq_unread hf53; obtain rfl := harg56.eq_unread hf54; obtain rfl := harg57.eq_unread hf55; obtain rfl := harg58.eq_unread hf56; obtain rfl := harg59.eq_unread hf57; obtain rfl := harg60.eq_unread hf58; obtain rfl := harg61.eq_unread hf59; obtain rfl := harg62.eq_unread hf60; obtain rfl := harg63.eq_unread hf61; obtain rfl := harg64.eq_unread hf62; obtain rfl := harg65.eq_unread hf63; obtain rfl := harg66.eq_unread hf64; obtain rfl := harg67.eq_unread hf65; obtain rfl := harg68.eq_unread hf66; obtain rfl := harg69.eq_unread hf67; obtain rfl := harg70.eq_unread hf68; obtain rfl := harg71.eq_unread hf69; obtain rfl := harg72.eq_unread hf70; obtain rfl := harg73.eq_unread hf71; obtain rfl := harg74.eq_unread hf72; obtain rfl := harg75.eq_unread hf73; obtain rfl := harg76.eq_unread hf74; obtain rfl := harg77.eq_unread hf75; obtain rfl := harg78.eq_unread hf76; obtain rfl := harg79.eq_unread hf77; obtain rfl := harg80.eq_unread hf78; obtain rfl := harg81.eq_unread hf79; obtain rfl := harg82.eq_unread hf80; obtain rfl := harg83.eq_unread hf81; obtain rfl := harg84.eq_unread hf82; obtain rfl := harg85.eq_unread hf83
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _; isplitr; · ipureintro; exact harg32.read_unread _
      iexact H30
    isplitl [H31]
    · iexists _; isplitr; · ipureintro; exact harg33.read_unread _
      iexact H31
    isplitl [H32]
    · iexists _; isplitr; · ipureintro; exact harg34.read_unread _
      iexact H32
    isplitl [H33]
    · iexists _; isplitr; · ipureintro; exact harg35.read_unread _
      iexact H33
    isplitl [H34]
    · iexists _; isplitr; · ipureintro; exact harg36.read_unread _
      iexact H34
    isplitl [H35]
    · iexists _; isplitr; · ipureintro; exact harg37.read_unread _
      iexact H35
    isplitl [H36]
    · iexists _; isplitr; · ipureintro; exact harg38.read_unread _
      iexact H36
    isplitl [H37]
    · iexists _; isplitr; · ipureintro; exact harg39.read_unread _
      iexact H37
    isplitl [H38]
    · iexists _; isplitr; · ipureintro; exact harg40.read_unread _
      iexact H38
    isplitl [H39]
    · iexists _; isplitr; · ipureintro; exact harg41.read_unread _
      iexact H39
    isplitl [H40]
    · iexists _; isplitr; · ipureintro; exact harg42.read_unread _
      iexact H40
    isplitl [H41]
    · iexists _; isplitr; · ipureintro; exact harg43.read_unread _
      iexact H41
    isplitl [H42]
    · iexists _; isplitr; · ipureintro; exact harg44.read_unread _
      iexact H42
    isplitl [H43]
    · iexists _; isplitr; · ipureintro; exact harg45.read_unread _
      iexact H43
    isplitl [H44]
    · iexists _; isplitr; · ipureintro; exact harg46.read_unread _
      iexact H44
    isplitl [H45]
    · iexists _; isplitr; · ipureintro; exact harg47.read_unread _
      iexact H45
    isplitl [H46]
    · iexists _; isplitr; · ipureintro; exact harg48.read_unread _
      iexact H46
    isplitl [H47]
    · iexists _; isplitr; · ipureintro; exact harg49.read_unread _
      iexact H47
    isplitl [H48]
    · iexists _; isplitr; · ipureintro; exact harg50.read_unread _
      iexact H48
    isplitl [H49]
    · iexists _; isplitr; · ipureintro; exact harg51.read_unread _
      iexact H49
    isplitl [H50]
    · iexists _; isplitr; · ipureintro; exact harg52.read_unread _
      iexact H50
    isplitl [H51]
    · iexists _; isplitr; · ipureintro; exact harg53.read_unread _
      iexact H51
    isplitl [H52]
    · iexists _; isplitr; · ipureintro; exact harg54.read_unread _
      iexact H52
    isplitl [H53]
    · iexists _; isplitr; · ipureintro; exact harg55.read_unread _
      iexact H53
    isplitl [H54]
    · iexists _; isplitr; · ipureintro; exact harg56.read_unread _
      iexact H54
    isplitl [H55]
    · iexists _; isplitr; · ipureintro; exact harg57.read_unread _
      iexact H55
    isplitl [H56]
    · iexists _; isplitr; · ipureintro; exact harg58.read_unread _
      iexact H56
    isplitl [H57]
    · iexists _; isplitr; · ipureintro; exact harg59.read_unread _
      iexact H57
    isplitl [H58]
    · iexists _; isplitr; · ipureintro; exact harg60.read_unread _
      iexact H58
    isplitl [H59]
    · iexists _; isplitr; · ipureintro; exact harg61.read_unread _
      iexact H59
    isplitl [H60]
    · iexists _; isplitr; · ipureintro; exact harg62.read_unread _
      iexact H60
    isplitl [H61]
    · iexists _; isplitr; · ipureintro; exact harg63.read_unread _
      iexact H61
    isplitl [H62]
    · iexists _; isplitr; · ipureintro; exact harg64.read_unread _
      iexact H62
    isplitl [H63]
    · iexists _; isplitr; · ipureintro; exact harg65.read_unread _
      iexact H63
    isplitl [H64]
    · iexists _; isplitr; · ipureintro; exact harg66.read_unread _
      iexact H64
    isplitl [H65]
    · iexists _; isplitr; · ipureintro; exact harg67.read_unread _
      iexact H65
    isplitl [H66]
    · iexists _; isplitr; · ipureintro; exact harg68.read_unread _
      iexact H66
    isplitl [H67]
    · iexists _; isplitr; · ipureintro; exact harg69.read_unread _
      iexact H67
    isplitl [H68]
    · iexists _; isplitr; · ipureintro; exact harg70.read_unread _
      iexact H68
    isplitl [H69]
    · iexists _; isplitr; · ipureintro; exact harg71.read_unread _
      iexact H69
    isplitl [H70]
    · iexists _; isplitr; · ipureintro; exact harg72.read_unread _
      iexact H70
    isplitl [H71]
    · iexists _; isplitr; · ipureintro; exact harg73.read_unread _
      iexact H71
    isplitl [H72]
    · iexists _; isplitr; · ipureintro; exact harg74.read_unread _
      iexact H72
    isplitl [H73]
    · iexists _; isplitr; · ipureintro; exact harg75.read_unread _
      iexact H73
    isplitl [H74]
    · iexists _; isplitr; · ipureintro; exact harg76.read_unread _
      iexact H74
    isplitl [H75]
    · iexists _; isplitr; · ipureintro; exact harg77.read_unread _
      iexact H75
    isplitl [H76]
    · iexists _; isplitr; · ipureintro; exact harg78.read_unread _
      iexact H76
    isplitl [H77]
    · iexists _; isplitr; · ipureintro; exact harg79.read_unread _
      iexact H77
    isplitl [H78]
    · iexists _; isplitr; · ipureintro; exact harg80.read_unread _
      iexact H78
    isplitl [H79]
    · iexists _; isplitr; · ipureintro; exact harg81.read_unread _
      iexact H79
    isplitl [H80]
    · iexists _; isplitr; · ipureintro; exact harg82.read_unread _
      iexact H80
    isplitl [H81]
    · iexists _; isplitr; · ipureintro; exact harg83.read_unread _
      iexact H81
    isplitl [H82]
    · iexists _; isplitr; · ipureintro; exact harg84.read_unread _
      iexact H82
    isplitl [H83]
    · iexists _; isplitr; · ipureintro; exact harg85.read_unread _
      iexact H83
    isplitl [H84]; · iexists _; iexact H84
    iexact HT0

end Cert.LocalIdeal.Gen

end
-- ==== Proof.LocalIdealFrame.lean ====
/- The gather kernel's output block by block, its proof data, the launch and the frame. -/
module

public import proofs.«01_k».proof.Proof.LocalIdealRun
public import Idealize.ShloMosaic.Lib.Claim

@[expose] public section

set_option maxRecDepth 16384

noncomputable section

namespace Cert.LocalIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's one store covers the output's block. -/
theorem cover0_A_84 (c : Dev nD) (i : grid0.Coords) (arg2 : Memref sig .tc .vmem S1x1x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x256 .f32) (harg13 : arg13.IsWhole) (arg14 : Memref sig .tc .vmem S1x1x256 .f32) (harg14 : arg14.IsWhole) (arg15 : Memref sig .tc .vmem S1x1x256 .f32) (harg15 : arg15.IsWhole) (arg16 : Memref sig .tc .vmem S1x1x256 .f32) (harg16 : arg16.IsWhole) (arg17 : Memref sig .tc .vmem S1x1x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S1x1x256 .f32) (harg36 : arg36.IsWhole) (arg37 : Memref sig .tc .vmem S1x1x256 .f32) (harg37 : arg37.IsWhole) (arg38 : Memref sig .tc .vmem S1x1x256 .f32) (harg38 : arg38.IsWhole) (arg39 : Memref sig .tc .vmem S1x1x256 .f32) (harg39 : arg39.IsWhole) (arg40 : Memref sig .tc .vmem S1x1x256 .f32) (harg40 : arg40.IsWhole) (arg41 : Memref sig .tc .vmem S1x1x256 .f32) (harg41 : arg41.IsWhole) (arg42 : Memref sig .tc .vmem S1x1x256 .f32) (harg42 : arg42.IsWhole) (arg43 : Memref sig .tc .vmem S1x1x256 .f32) (harg43 : arg43.IsWhole) (arg44 : Memref sig .tc .vmem S1x1x256 .f32) (harg44 : arg44.IsWhole) (arg45 : Memref sig .tc .vmem S1x1x256 .f32) (harg45 : arg45.IsWhole) (arg46 : Memref sig .tc .vmem S1x1x256 .f32) (harg46 : arg46.IsWhole) (arg47 : Memref sig .tc .vmem S1x1x256 .f32) (harg47 : arg47.IsWhole) (arg48 : Memref sig .tc .vmem S1x1x256 .f32) (harg48 : arg48.IsWhole) (arg49 : Memref sig .tc .vmem S1x1x256 .f32) (harg49 : arg49.IsWhole) (arg50 : Memref sig .tc .vmem S1x1x256 .f32) (harg50 : arg50.IsWhole) (arg51 : Memref sig .tc .vmem S1x1x256 .f32) (harg51 : arg51.IsWhole) (arg52 : Memref sig .tc .vmem S1x1x256 .f32) (harg52 : arg52.IsWhole) (arg53 : Memref sig .tc .vmem S1x1x256 .f32) (harg53 : arg53.IsWhole) (arg54 : Memref sig .tc .vmem S1x1x256 .f32) (harg54 : arg54.IsWhole) (arg55 : Memref sig .tc .vmem S1x1x256 .f32) (harg55 : arg55.IsWhole) (arg56 : Memref sig .tc .vmem S1x1x256 .f32) (harg56 : arg56.IsWhole) (arg57 : Memref sig .tc .vmem S1x1x256 .f32) (harg57 : arg57.IsWhole) (arg58 : Memref sig .tc .vmem S1x1x256 .f32) (harg58 : arg58.IsWhole) (arg59 : Memref sig .tc .vmem S1x1x256 .f32) (harg59 : arg59.IsWhole) (arg60 : Memref sig .tc .vmem S1x1x256 .f32) (harg60 : arg60.IsWhole) (arg61 : Memref sig .tc .vmem S1x1x256 .f32) (harg61 : arg61.IsWhole) (arg62 : Memref sig .tc .vmem S1x1x256 .f32) (harg62 : arg62.IsWhole) (arg63 : Memref sig .tc .vmem S1x1x256 .f32) (harg63 : arg63.IsWhole) (arg64 : Memref sig .tc .vmem S1x1x256 .f32) (harg64 : arg64.IsWhole) (arg65 : Memref sig .tc .vmem S1x1x256 .f32) (harg65 : arg65.IsWhole) (arg66 : Memref sig .tc .vmem S1x1x256 .f32) (harg66 : arg66.IsWhole) (arg67 : Memref sig .tc .vmem S1x1x256 .f32) (harg67 : arg67.IsWhole) (arg68 : Memref sig .tc .vmem S1x1x256 .f32) (harg68 : arg68.IsWhole) (arg69 : Memref sig .tc .vmem S1x1x256 .f32) (harg69 : arg69.IsWhole) (arg70 : Memref sig .tc .vmem S1x1x256 .f32) (harg70 : arg70.IsWhole) (arg71 : Memref sig .tc .vmem S1x1x256 .f32) (harg71 : arg71.IsWhole) (arg72 : Memref sig .tc .vmem S1x1x256 .f32) (harg72 : arg72.IsWhole) (arg73 : Memref sig .tc .vmem S1x1x256 .f32) (harg73 : arg73.IsWhole) (arg74 : Memref sig .tc .vmem S1x1x256 .f32) (harg74 : arg74.IsWhole) (arg75 : Memref sig .tc .vmem S1x1x256 .f32) (harg75 : arg75.IsWhole) (arg76 : Memref sig .tc .vmem S1x1x256 .f32) (harg76 : arg76.IsWhole) (arg77 : Memref sig .tc .vmem S1x1x256 .f32) (harg77 : arg77.IsWhole) (arg78 : Memref sig .tc .vmem S1x1x256 .f32) (harg78 : arg78.IsWhole) (arg79 : Memref sig .tc .vmem S1x1x256 .f32) (harg79 : arg79.IsWhole) (arg80 : Memref sig .tc .vmem S1x1x256 .f32) (harg80 : arg80.IsWhole) (arg81 : Memref sig .tc .vmem S1x1x256 .f32) (harg81 : arg81.IsWhole) (arg82 : Memref sig .tc .vmem S256x512 .f32) (harg82 : arg82.IsWhole) (arg83 : Memref sig .tc .vmem S1x512 .f32) (harg83 : arg83.IsWhole) (arg84 : Memref sig .tc .vmem S512x256 .f32) (harg84 : arg84.IsWhole) (arg85 : Memref sig .tc .vmem S1x256 .f32) (harg85 : arg85.IsWhole) (arg86 : Memref sig .tc .vmem S1x16x256 .f32) (harg86 : arg86.IsWhole)
    (x0 : Vec F S1x1x256 .f32) (x1 : Vec F S1x1x256 .f32) (x2 : Vec F S1x1x256 .f32) (x3 : Vec F S1x1x256 .f32) (x4 : Vec F S1x1x256 .f32) (x5 : Vec F S1x1x256 .f32) (x6 : Vec F S1x1x256 .f32) (x7 : Vec F S1x1x256 .f32) (x8 : Vec F S1x1x256 .f32) (x9 : Vec F S1x1x256 .f32) (x10 : Vec F S1x1x256 .f32) (x11 : Vec F S1x1x256 .f32) (x12 : Vec F S1x1x256 .f32) (x13 : Vec F S1x1x256 .f32) (x14 : Vec F S1x1x256 .f32) (x15 : Vec F S1x1x256 .f32) (x16 : Vec F S1x1x256 .f32) (x17 : Vec F S1x1x256 .f32) (x18 : Vec F S1x1x256 .f32) (x19 : Vec F S1x1x256 .f32) (x20 : Vec F S1x1x256 .f32) (x21 : Vec F S1x1x256 .f32) (x22 : Vec F S1x1x256 .f32) (x23 : Vec F S1x1x256 .f32) (x24 : Vec F S1x1x256 .f32) (x25 : Vec F S1x1x256 .f32) (x26 : Vec F S1x1x256 .f32) (x27 : Vec F S1x1x256 .f32) (x28 : Vec F S1x1x256 .f32) (x29 : Vec F S1x1x256 .f32) (x30 : Vec F S1x1x256 .f32) (x31 : Vec F S1x1x256 .f32) (x32 : Vec F S1x1x256 .f32) (x33 : Vec F S1x1x256 .f32) (x34 : Vec F S1x1x256 .f32) (x35 : Vec F S1x1x256 .f32) (x36 : Vec F S1x1x256 .f32) (x37 : Vec F S1x1x256 .f32) (x38 : Vec F S1x1x256 .f32) (x39 : Vec F S1x1x256 .f32) (x40 : Vec F S1x1x256 .f32) (x41 : Vec F S1x1x256 .f32) (x42 : Vec F S1x1x256 .f32) (x43 : Vec F S1x1x256 .f32) (x44 : Vec F S1x1x256 .f32) (x45 : Vec F S1x1x256 .f32) (x46 : Vec F S1x1x256 .f32) (x47 : Vec F S1x1x256 .f32) (x48 : Vec F S1x1x256 .f32) (x49 : Vec F S1x1x256 .f32) (x50 : Vec F S1x1x256 .f32) (x51 : Vec F S1x1x256 .f32) (x52 : Vec F S1x1x256 .f32) (x53 : Vec F S1x1x256 .f32) (x54 : Vec F S1x1x256 .f32) (x55 : Vec F S1x1x256 .f32) (x56 : Vec F S1x1x256 .f32) (x57 : Vec F S1x1x256 .f32) (x58 : Vec F S1x1x256 .f32) (x59 : Vec F S1x1x256 .f32) (x60 : Vec F S1x1x256 .f32) (x61 : Vec F S1x1x256 .f32) (x62 : Vec F S1x1x256 .f32) (x63 : Vec F S1x1x256 .f32) (x64 : Vec F S1x1x256 .f32) (x65 : Vec F S1x1x256 .f32) (x66 : Vec F S1x1x256 .f32) (x67 : Vec F S1x1x256 .f32) (x68 : Vec F S1x1x256 .f32) (x69 : Vec F S1x1x256 .f32) (x70 : Vec F S1x1x256 .f32) (x71 : Vec F S1x1x256 .f32) (x72 : Vec F S1x1x256 .f32) (x73 : Vec F S1x1x256 .f32) (x74 : Vec F S1x1x256 .f32) (x75 : Vec F S1x1x256 .f32) (x76 : Vec F S1x1x256 .f32) (x77 : Vec F S1x1x256 .f32) (x78 : Vec F S1x1x256 .f32) (x79 : Vec F S1x1x256 .f32) (x80 : Vec F S256x512 .f32) (x81 : Vec F S1x512 .f32) (x82 : Vec F S512x256 .f32) (x83 : Vec F S1x256 .f32) (xt0 : TbBuf0 (F := F) c tbM0_0) (y : S1x16x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76 arg77 harg77 arg78 harg78 arg79 harg79 arg80 harg80 arg81 harg81 arg82 harg82 arg83 harg83 arg84 harg84 arg85 harg85 arg86 harg86 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 x68 x69 x70 x71 x72 x73 x74 x75 x76 x77 x78 x79 x80 x81 x82 x83 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76 arg77 harg77 arg78 harg78 arg79 harg79 arg80 harg80 arg81 harg81 arg82 harg82 arg83 harg83 arg84 harg84 arg85 harg85 arg86 harg86 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 x68 x69 x70 x71 x72 x73 x74 x75 x76 x77 x78 x79 x80 x81 x82 x83 xt0).1 S1x16x256.size (by sl_kernel_rfl) y

/-- What the run leaves in output 84's staging buffer: its pieces read back over junk. -/
def out0_A_84 (c : Dev nD) (i : grid0.Coords) (arg2 : Memref sig .tc .vmem S1x1x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x256 .f32) (harg13 : arg13.IsWhole) (arg14 : Memref sig .tc .vmem S1x1x256 .f32) (harg14 : arg14.IsWhole) (arg15 : Memref sig .tc .vmem S1x1x256 .f32) (harg15 : arg15.IsWhole) (arg16 : Memref sig .tc .vmem S1x1x256 .f32) (harg16 : arg16.IsWhole) (arg17 : Memref sig .tc .vmem S1x1x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S1x1x256 .f32) (harg36 : arg36.IsWhole) (arg37 : Memref sig .tc .vmem S1x1x256 .f32) (harg37 : arg37.IsWhole) (arg38 : Memref sig .tc .vmem S1x1x256 .f32) (harg38 : arg38.IsWhole) (arg39 : Memref sig .tc .vmem S1x1x256 .f32) (harg39 : arg39.IsWhole) (arg40 : Memref sig .tc .vmem S1x1x256 .f32) (harg40 : arg40.IsWhole) (arg41 : Memref sig .tc .vmem S1x1x256 .f32) (harg41 : arg41.IsWhole) (arg42 : Memref sig .tc .vmem S1x1x256 .f32) (harg42 : arg42.IsWhole) (arg43 : Memref sig .tc .vmem S1x1x256 .f32) (harg43 : arg43.IsWhole) (arg44 : Memref sig .tc .vmem S1x1x256 .f32) (harg44 : arg44.IsWhole) (arg45 : Memref sig .tc .vmem S1x1x256 .f32) (harg45 : arg45.IsWhole) (arg46 : Memref sig .tc .vmem S1x1x256 .f32) (harg46 : arg46.IsWhole) (arg47 : Memref sig .tc .vmem S1x1x256 .f32) (harg47 : arg47.IsWhole) (arg48 : Memref sig .tc .vmem S1x1x256 .f32) (harg48 : arg48.IsWhole) (arg49 : Memref sig .tc .vmem S1x1x256 .f32) (harg49 : arg49.IsWhole) (arg50 : Memref sig .tc .vmem S1x1x256 .f32) (harg50 : arg50.IsWhole) (arg51 : Memref sig .tc .vmem S1x1x256 .f32) (harg51 : arg51.IsWhole) (arg52 : Memref sig .tc .vmem S1x1x256 .f32) (harg52 : arg52.IsWhole) (arg53 : Memref sig .tc .vmem S1x1x256 .f32) (harg53 : arg53.IsWhole) (arg54 : Memref sig .tc .vmem S1x1x256 .f32) (harg54 : arg54.IsWhole) (arg55 : Memref sig .tc .vmem S1x1x256 .f32) (harg55 : arg55.IsWhole) (arg56 : Memref sig .tc .vmem S1x1x256 .f32) (harg56 : arg56.IsWhole) (arg57 : Memref sig .tc .vmem S1x1x256 .f32) (harg57 : arg57.IsWhole) (arg58 : Memref sig .tc .vmem S1x1x256 .f32) (harg58 : arg58.IsWhole) (arg59 : Memref sig .tc .vmem S1x1x256 .f32) (harg59 : arg59.IsWhole) (arg60 : Memref sig .tc .vmem S1x1x256 .f32) (harg60 : arg60.IsWhole) (arg61 : Memref sig .tc .vmem S1x1x256 .f32) (harg61 : arg61.IsWhole) (arg62 : Memref sig .tc .vmem S1x1x256 .f32) (harg62 : arg62.IsWhole) (arg63 : Memref sig .tc .vmem S1x1x256 .f32) (harg63 : arg63.IsWhole) (arg64 : Memref sig .tc .vmem S1x1x256 .f32) (harg64 : arg64.IsWhole) (arg65 : Memref sig .tc .vmem S1x1x256 .f32) (harg65 : arg65.IsWhole) (arg66 : Memref sig .tc .vmem S1x1x256 .f32) (harg66 : arg66.IsWhole) (arg67 : Memref sig .tc .vmem S1x1x256 .f32) (harg67 : arg67.IsWhole) (arg68 : Memref sig .tc .vmem S1x1x256 .f32) (harg68 : arg68.IsWhole) (arg69 : Memref sig .tc .vmem S1x1x256 .f32) (harg69 : arg69.IsWhole) (arg70 : Memref sig .tc .vmem S1x1x256 .f32) (harg70 : arg70.IsWhole) (arg71 : Memref sig .tc .vmem S1x1x256 .f32) (harg71 : arg71.IsWhole) (arg72 : Memref sig .tc .vmem S1x1x256 .f32) (harg72 : arg72.IsWhole) (arg73 : Memref sig .tc .vmem S1x1x256 .f32) (harg73 : arg73.IsWhole) (arg74 : Memref sig .tc .vmem S1x1x256 .f32) (harg74 : arg74.IsWhole) (arg75 : Memref sig .tc .vmem S1x1x256 .f32) (harg75 : arg75.IsWhole) (arg76 : Memref sig .tc .vmem S1x1x256 .f32) (harg76 : arg76.IsWhole) (arg77 : Memref sig .tc .vmem S1x1x256 .f32) (harg77 : arg77.IsWhole) (arg78 : Memref sig .tc .vmem S1x1x256 .f32) (harg78 : arg78.IsWhole) (arg79 : Memref sig .tc .vmem S1x1x256 .f32) (harg79 : arg79.IsWhole) (arg80 : Memref sig .tc .vmem S1x1x256 .f32) (harg80 : arg80.IsWhole) (arg81 : Memref sig .tc .vmem S1x1x256 .f32) (harg81 : arg81.IsWhole) (arg82 : Memref sig .tc .vmem S256x512 .f32) (harg82 : arg82.IsWhole) (arg83 : Memref sig .tc .vmem S1x512 .f32) (harg83 : arg83.IsWhole) (arg84 : Memref sig .tc .vmem S512x256 .f32) (harg84 : arg84.IsWhole) (arg85 : Memref sig .tc .vmem S1x256 .f32) (harg85 : arg85.IsWhole) (arg86 : Memref sig .tc .vmem S1x16x256 .f32) (harg86 : arg86.IsWhole)
    (x0 : Vec F S1x1x256 .f32) (x1 : Vec F S1x1x256 .f32) (x2 : Vec F S1x1x256 .f32) (x3 : Vec F S1x1x256 .f32) (x4 : Vec F S1x1x256 .f32) (x5 : Vec F S1x1x256 .f32) (x6 : Vec F S1x1x256 .f32) (x7 : Vec F S1x1x256 .f32) (x8 : Vec F S1x1x256 .f32) (x9 : Vec F S1x1x256 .f32) (x10 : Vec F S1x1x256 .f32) (x11 : Vec F S1x1x256 .f32) (x12 : Vec F S1x1x256 .f32) (x13 : Vec F S1x1x256 .f32) (x14 : Vec F S1x1x256 .f32) (x15 : Vec F S1x1x256 .f32) (x16 : Vec F S1x1x256 .f32) (x17 : Vec F S1x1x256 .f32) (x18 : Vec F S1x1x256 .f32) (x19 : Vec F S1x1x256 .f32) (x20 : Vec F S1x1x256 .f32) (x21 : Vec F S1x1x256 .f32) (x22 : Vec F S1x1x256 .f32) (x23 : Vec F S1x1x256 .f32) (x24 : Vec F S1x1x256 .f32) (x25 : Vec F S1x1x256 .f32) (x26 : Vec F S1x1x256 .f32) (x27 : Vec F S1x1x256 .f32) (x28 : Vec F S1x1x256 .f32) (x29 : Vec F S1x1x256 .f32) (x30 : Vec F S1x1x256 .f32) (x31 : Vec F S1x1x256 .f32) (x32 : Vec F S1x1x256 .f32) (x33 : Vec F S1x1x256 .f32) (x34 : Vec F S1x1x256 .f32) (x35 : Vec F S1x1x256 .f32) (x36 : Vec F S1x1x256 .f32) (x37 : Vec F S1x1x256 .f32) (x38 : Vec F S1x1x256 .f32) (x39 : Vec F S1x1x256 .f32) (x40 : Vec F S1x1x256 .f32) (x41 : Vec F S1x1x256 .f32) (x42 : Vec F S1x1x256 .f32) (x43 : Vec F S1x1x256 .f32) (x44 : Vec F S1x1x256 .f32) (x45 : Vec F S1x1x256 .f32) (x46 : Vec F S1x1x256 .f32) (x47 : Vec F S1x1x256 .f32) (x48 : Vec F S1x1x256 .f32) (x49 : Vec F S1x1x256 .f32) (x50 : Vec F S1x1x256 .f32) (x51 : Vec F S1x1x256 .f32) (x52 : Vec F S1x1x256 .f32) (x53 : Vec F S1x1x256 .f32) (x54 : Vec F S1x1x256 .f32) (x55 : Vec F S1x1x256 .f32) (x56 : Vec F S1x1x256 .f32) (x57 : Vec F S1x1x256 .f32) (x58 : Vec F S1x1x256 .f32) (x59 : Vec F S1x1x256 .f32) (x60 : Vec F S1x1x256 .f32) (x61 : Vec F S1x1x256 .f32) (x62 : Vec F S1x1x256 .f32) (x63 : Vec F S1x1x256 .f32) (x64 : Vec F S1x1x256 .f32) (x65 : Vec F S1x1x256 .f32) (x66 : Vec F S1x1x256 .f32) (x67 : Vec F S1x1x256 .f32) (x68 : Vec F S1x1x256 .f32) (x69 : Vec F S1x1x256 .f32) (x70 : Vec F S1x1x256 .f32) (x71 : Vec F S1x1x256 .f32) (x72 : Vec F S1x1x256 .f32) (x73 : Vec F S1x1x256 .f32) (x74 : Vec F S1x1x256 .f32) (x75 : Vec F S1x1x256 .f32) (x76 : Vec F S1x1x256 .f32) (x77 : Vec F S1x1x256 .f32) (x78 : Vec F S1x1x256 .f32) (x79 : Vec F S1x1x256 .f32) (x80 : Vec F S256x512 .f32) (x81 : Vec F S1x512 .f32) (x82 : Vec F S512x256 .f32) (x83 : Vec F S1x256 .f32) (xt0 : TbBuf0 (F := F) c tbM0_0) : Vec F S1x16x256 .f32 :=
  VO0_84.read (Elt F) (VO0_84.writes (Elt F) VO0_84.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76 arg77 harg77 arg78 harg78 arg79 harg79 arg80 harg80 arg81 harg81 arg82 harg82 arg83 harg83 arg84 harg84 arg85 harg85 arg86 harg86 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 x68 x69 x70 x71 x72 x73 x74 x75 x76 x77 x78 x79 x80 x81 x82 x83 xt0).1)

/-! ## What the outputs hold after each point -/

/-- What the outputs' staging buffers hold after the body at point `t`: the run's contents at
    the point's memrefs and input blocks. -/
def outsAt0 (hO : Ok m) (c : Dev nD) (t : Fin (cfgM m hO).N) : Vec F S1x16x256 .f32 :=
  out0_A_84 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) (ms0_37 m hO t) (hs0_37 m hO t) (ms0_38 m hO t) (hs0_38 m hO t) (ms0_39 m hO t) (hs0_39 m hO t) (ms0_40 m hO t) (hs0_40 m hO t) (ms0_41 m hO t) (hs0_41 m hO t) (ms0_42 m hO t) (hs0_42 m hO t) (ms0_43 m hO t) (hs0_43 m hO t) (ms0_44 m hO t) (hs0_44 m hO t) (ms0_45 m hO t) (hs0_45 m hO t) (ms0_46 m hO t) (hs0_46 m hO t) (ms0_47 m hO t) (hs0_47 m hO t) (ms0_48 m hO t) (hs0_48 m hO t) (ms0_49 m hO t) (hs0_49 m hO t) (ms0_50 m hO t) (hs0_50 m hO t) (ms0_51 m hO t) (hs0_51 m hO t) (ms0_52 m hO t) (hs0_52 m hO t) (ms0_53 m hO t) (hs0_53 m hO t) (ms0_54 m hO t) (hs0_54 m hO t) (ms0_55 m hO t) (hs0_55 m hO t) (ms0_56 m hO t) (hs0_56 m hO t) (ms0_57 m hO t) (hs0_57 m hO t) (ms0_58 m hO t) (hs0_58 m hO t) (ms0_59 m hO t) (hs0_59 m hO t) (ms0_60 m hO t) (hs0_60 m hO t) (ms0_61 m hO t) (hs0_61 m hO t) (ms0_62 m hO t) (hs0_62 m hO t) (ms0_63 m hO t) (hs0_63 m hO t) (ms0_64 m hO t) (hs0_64 m hO t) (ms0_65 m hO t) (hs0_65 m hO t) (ms0_66 m hO t) (hs0_66 m hO t) (ms0_67 m hO t) (hs0_67 m hO t) (ms0_68 m hO t) (hs0_68 m hO t) (ms0_69 m hO t) (hs0_69 m hO t) (ms0_70 m hO t) (hs0_70 m hO t) (ms0_71 m hO t) (hs0_71 m hO t) (ms0_72 m hO t) (hs0_72 m hO t) (ms0_73 m hO t) (hs0_73 m hO t) (ms0_74 m hO t) (hs0_74 m hO t) (ms0_75 m hO t) (hs0_75 m hO t) (ms0_76 m hO t) (hs0_76 m hO t) (ms0_77 m hO t) (hs0_77 m hO t) (ms0_78 m hO t) (hs0_78 m hO t) (ms0_79 m hO t) (hs0_79 m hO t) (ms0_80 m hO t) (hs0_80 m hO t) (ms0_81 m hO t) (hs0_81 m hO t) (ms0_82 m hO t) (hs0_82 m hO t) (ms0_83 m hO t) (hs0_83 m hO t) (ms0_84 m hO t) (hs0_84 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (iblk m hO c 38 t) (iblk m hO c 39 t) (iblk m hO c 40 t) (iblk m hO c 41 t) (iblk m hO c 42 t) (iblk m hO c 43 t) (iblk m hO c 44 t) (iblk m hO c 45 t) (iblk m hO c 46 t) (iblk m hO c 47 t) (iblk m hO c 48 t) (iblk m hO c 49 t) (iblk m hO c 50 t) (iblk m hO c 51 t) (iblk m hO c 52 t) (iblk m hO c 53 t) (iblk m hO c 54 t) (iblk m hO c 55 t) (iblk m hO c 56 t) (iblk m hO c 57 t) (iblk m hO c 58 t) (iblk m hO c 59 t) (iblk m hO c 60 t) (iblk m hO c 61 t) (iblk m hO c 62 t) (iblk m hO c 63 t) (iblk m hO c 64 t) (iblk m hO c 65 t) (iblk m hO c 66 t) (iblk m hO c 67 t) (iblk m hO c 68 t) (iblk m hO c 69 t) (iblk m hO c 70 t) (iblk m hO c 71 t) (iblk m hO c 72 t) (iblk m hO c 73 t) (iblk m hO c 74 t) (iblk m hO c 75 t) (iblk m hO c 76 t) (iblk m hO c 77 t) (iblk m hO c 78 t) (iblk m hO c 79 t) (iblk m hO c 80 t) (iblk m hO c 81 t) (iblk m hO c 82 t) (iblk m hO c 83 t) (tbl m 0)

/-! ## The pipeline's proof data -/

/-- The proof data of the one pipeline on core `c`: the arrays as the region finds them (`V`); after the body at
    point `t` each input's buffer at its block and the outputs' at `outsAt0`; the invariant the class's
    (the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => iblk m hO c 37 t
    | ⟨38, _⟩ => iblk m hO c 38 t
    | ⟨39, _⟩ => iblk m hO c 39 t
    | ⟨40, _⟩ => iblk m hO c 40 t
    | ⟨41, _⟩ => iblk m hO c 41 t
    | ⟨42, _⟩ => iblk m hO c 42 t
    | ⟨43, _⟩ => iblk m hO c 43 t
    | ⟨44, _⟩ => iblk m hO c 44 t
    | ⟨45, _⟩ => iblk m hO c 45 t
    | ⟨46, _⟩ => iblk m hO c 46 t
    | ⟨47, _⟩ => iblk m hO c 47 t
    | ⟨48, _⟩ => iblk m hO c 48 t
    | ⟨49, _⟩ => iblk m hO c 49 t
    | ⟨50, _⟩ => iblk m hO c 50 t
    | ⟨51, _⟩ => iblk m hO c 51 t
    | ⟨52, _⟩ => iblk m hO c 52 t
    | ⟨53, _⟩ => iblk m hO c 53 t
    | ⟨54, _⟩ => iblk m hO c 54 t
    | ⟨55, _⟩ => iblk m hO c 55 t
    | ⟨56, _⟩ => iblk m hO c 56 t
    | ⟨57, _⟩ => iblk m hO c 57 t
    | ⟨58, _⟩ => iblk m hO c 58 t
    | ⟨59, _⟩ => iblk m hO c 59 t
    | ⟨60, _⟩ => iblk m hO c 60 t
    | ⟨61, _⟩ => iblk m hO c 61 t
    | ⟨62, _⟩ => iblk m hO c 62 t
    | ⟨63, _⟩ => iblk m hO c 63 t
    | ⟨64, _⟩ => iblk m hO c 64 t
    | ⟨65, _⟩ => iblk m hO c 65 t
    | ⟨66, _⟩ => iblk m hO c 66 t
    | ⟨67, _⟩ => iblk m hO c 67 t
    | ⟨68, _⟩ => iblk m hO c 68 t
    | ⟨69, _⟩ => iblk m hO c 69 t
    | ⟨70, _⟩ => iblk m hO c 70 t
    | ⟨71, _⟩ => iblk m hO c 71 t
    | ⟨72, _⟩ => iblk m hO c 72 t
    | ⟨73, _⟩ => iblk m hO c 73 t
    | ⟨74, _⟩ => iblk m hO c 74 t
    | ⟨75, _⟩ => iblk m hO c 75 t
    | ⟨76, _⟩ => iblk m hO c 76 t
    | ⟨77, _⟩ => iblk m hO c 77 t
    | ⟨78, _⟩ => iblk m hO c 78 t
    | ⟨79, _⟩ => iblk m hO c 79 t
    | ⟨80, _⟩ => iblk m hO c 80 t
    | ⟨81, _⟩ => iblk m hO c 81 t
    | ⟨82, _⟩ => iblk m hO c 82 t
    | ⟨83, _⟩ => iblk m hO c 83 t
    | ⟨84, _⟩ => (outsAt0 m hO c t)
    | ⟨_ + 85, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = iblk m hO c 34 t := by dsimp only [dats]; try rfl
theorem after0_35 (hO : Ok m) (c : Dev nD) (t : Fin (cfgM m hO).N) : (dats m hO 0 c).after 35 t = iblk m hO c 35 t := by dsimp only [dats]; try rfl
theorem after0_36 (hO : Ok m) (c : Dev nD) (t : Fin (cfgM m hO).N) : (dats m hO 0 c).after 36 t = iblk m hO c 36 t := by dsimp only [dats]; try rfl
theorem after0_37 (hO : Ok m) (c : Dev nD) (t : Fin (cfgM m hO).N) : (dats m hO 0 c).after 37 t = iblk m hO c 37 t := by dsimp only [dats]; try rfl
theorem after0_38 (hO : Ok m) (c : Dev nD) (t : Fin (cfgM m hO).N) : (dats m hO 0 c).after 38 t = iblk m hO c 38 t := by dsimp only [dats]; try rfl
theorem after0_39 (hO : Ok m) (c : Dev nD) (t : Fin (cfgM m hO).N) : (dats m hO 0 c).after 39 t = iblk m hO c 39 t := by dsimp only [dats]; try rfl
theorem after0_40 (hO : Ok m) (c : Dev nD) (t : Fin (cfgM m hO).N) : (dats m hO 0 c).after 40 t = iblk m hO c 40 t := by dsimp only [dats]; try rfl
theorem after0_41 (hO : Ok m) (c : Dev nD) (t : Fin (cfgM m hO).N) : (dats m hO 0 c).after 41 t = iblk m hO c 41 t := by dsimp only [dats]; try rfl
theorem after0_42 (hO : Ok m) (c : Dev nD) (t : Fin (cfgM m hO).N) : (dats m hO 0 c).after 42 t = iblk m hO c 42 t := by dsimp only [dats]; try rfl
theorem after0_43 (hO : Ok m) (c : Dev nD) (t : Fin (cfgM m hO).N) : (dats m hO 0 c).after 43 t = iblk m hO c 43 t := by dsimp only [dats]; try rfl
theorem after0_44 (hO : Ok m) (c : Dev nD) (t : Fin (cfgM m hO).N) : (dats m hO 0 c).after 44 t = iblk m hO c 44 t := by dsimp only [dats]; try rfl
theorem after0_45 (hO : Ok m) (c : Dev nD) (t : Fin (cfgM m hO).N) : (dats m hO 0 c).after 45 t = iblk m hO c 45 t := by dsimp only [dats]; try rfl
theorem after0_46 (hO : Ok m) (c : Dev nD) (t : Fin (cfgM m hO).N) : (dats m hO 0 c).after 46 t = iblk m hO c 46 t := by dsimp only [dats]; try rfl
theorem after0_47 (hO : Ok m) (c : Dev nD) (t : Fin (cfgM m hO).N) : (dats m hO 0 c).after 47 t = iblk m hO c 47 t := by dsimp only [dats]; try rfl
theorem after0_48 (hO : Ok m) (c : Dev nD) (t : Fin (cfgM m hO).N) : (dats m hO 0 c).after 48 t = iblk m hO c 48 t := by dsimp only [dats]; try rfl
theorem after0_49 (hO : Ok m) (c : Dev nD) (t : Fin (cfgM m hO).N) : (dats m hO 0 c).after 49 t = iblk m hO c 49 t := by dsimp only [dats]; try rfl
theorem after0_50 (hO : Ok m) (c : Dev nD) (t : Fin (cfgM m hO).N) : (dats m hO 0 c).after 50 t = iblk m hO c 50 t := by dsimp only [dats]; try rfl
theorem after0_51 (hO : Ok m) (c : Dev nD) (t : Fin (cfgM m hO).N) : (dats m hO 0 c).after 51 t = iblk m hO c 51 t := by dsimp only [dats]; try rfl
theorem after0_52 (hO : Ok m) (c : Dev nD) (t : Fin (cfgM m hO).N) : (dats m hO 0 c).after 52 t = iblk m hO c 52 t := by dsimp only [dats]; try rfl
theorem after0_53 (hO : Ok m) (c : Dev nD) (t : Fin (cfgM m hO).N) : (dats m hO 0 c).after 53 t = iblk m hO c 53 t := by dsimp only [dats]; try rfl
theorem after0_54 (hO : Ok m) (c : Dev nD) (t : Fin (cfgM m hO).N) : (dats m hO 0 c).after 54 t = iblk m hO c 54 t := by dsimp only [dats]; try rfl
theorem after0_55 (hO : Ok m) (c : Dev nD) (t : Fin (cfgM m hO).N) : (dats m hO 0 c).after 55 t = iblk m hO c 55 t := by dsimp only [dats]; try rfl
theorem after0_56 (hO : Ok m) (c : Dev nD) (t : Fin (cfgM m hO).N) : (dats m hO 0 c).after 56 t = iblk m hO c 56 t := by dsimp only [dats]; try rfl
theorem after0_57 (hO : Ok m) (c : Dev nD) (t : Fin (cfgM m hO).N) : (dats m hO 0 c).after 57 t = iblk m hO c 57 t := by dsimp only [dats]; try rfl
theorem after0_58 (hO : Ok m) (c : Dev nD) (t : Fin (cfgM m hO).N) : (dats m hO 0 c).after 58 t = iblk m hO c 58 t := by dsimp only [dats]; try rfl
theorem after0_59 (hO : Ok m) (c : Dev nD) (t : Fin (cfgM m hO).N) : (dats m hO 0 c).after 59 t = iblk m hO c 59 t := by dsimp only [dats]; try rfl
theorem after0_60 (hO : Ok m) (c : Dev nD) (t : Fin (cfgM m hO).N) : (dats m hO 0 c).after 60 t = iblk m hO c 60 t := by dsimp only [dats]; try rfl
theorem after0_61 (hO : Ok m) (c : Dev nD) (t : Fin (cfgM m hO).N) : (dats m hO 0 c).after 61 t = iblk m hO c 61 t := by dsimp only [dats]; try rfl
theorem after0_62 (hO : Ok m) (c : Dev nD) (t : Fin (cfgM m hO).N) : (dats m hO 0 c).after 62 t = iblk m hO c 62 t := by dsimp only [dats]; try rfl
theorem after0_63 (hO : Ok m) (c : Dev nD) (t : Fin (cfgM m hO).N) : (dats m hO 0 c).after 63 t = iblk m hO c 63 t := by dsimp only [dats]; try rfl
theorem after0_64 (hO : Ok m) (c : Dev nD) (t : Fin (cfgM m hO).N) : (dats m hO 0 c).after 64 t = iblk m hO c 64 t := by dsimp only [dats]; try rfl
theorem after0_65 (hO : Ok m) (c : Dev nD) (t : Fin (cfgM m hO).N) : (dats m hO 0 c).after 65 t = iblk m hO c 65 t := by dsimp only [dats]; try rfl
theorem after0_66 (hO : Ok m) (c : Dev nD) (t : Fin (cfgM m hO).N) : (dats m hO 0 c).after 66 t = iblk m hO c 66 t := by dsimp only [dats]; try rfl
theorem after0_67 (hO : Ok m) (c : Dev nD) (t : Fin (cfgM m hO).N) : (dats m hO 0 c).after 67 t = iblk m hO c 67 t := by dsimp only [dats]; try rfl
theorem after0_68 (hO : Ok m) (c : Dev nD) (t : Fin (cfgM m hO).N) : (dats m hO 0 c).after 68 t = iblk m hO c 68 t := by dsimp only [dats]; try rfl
theorem after0_69 (hO : Ok m) (c : Dev nD) (t : Fin (cfgM m hO).N) : (dats m hO 0 c).after 69 t = iblk m hO c 69 t := by dsimp only [dats]; try rfl
theorem after0_70 (hO : Ok m) (c : Dev nD) (t : Fin (cfgM m hO).N) : (dats m hO 0 c).after 70 t = iblk m hO c 70 t := by dsimp only [dats]; try rfl
theorem after0_71 (hO : Ok m) (c : Dev nD) (t : Fin (cfgM m hO).N) : (dats m hO 0 c).after 71 t = iblk m hO c 71 t := by dsimp only [dats]; try rfl
theorem after0_72 (hO : Ok m) (c : Dev nD) (t : Fin (cfgM m hO).N) : (dats m hO 0 c).after 72 t = iblk m hO c 72 t := by dsimp only [dats]; try rfl
theorem after0_73 (hO : Ok m) (c : Dev nD) (t : Fin (cfgM m hO).N) : (dats m hO 0 c).after 73 t = iblk m hO c 73 t := by dsimp only [dats]; try rfl
theorem after0_74 (hO : Ok m) (c : Dev nD) (t : Fin (cfgM m hO).N) : (dats m hO 0 c).after 74 t = iblk m hO c 74 t := by dsimp only [dats]; try rfl
theorem after0_75 (hO : Ok m) (c : Dev nD) (t : Fin (cfgM m hO).N) : (dats m hO 0 c).after 75 t = iblk m hO c 75 t := by dsimp only [dats]; try rfl
theorem after0_76 (hO : Ok m) (c : Dev nD) (t : Fin (cfgM m hO).N) : (dats m hO 0 c).after 76 t = iblk m hO c 76 t := by dsimp only [dats]; try rfl
theorem after0_77 (hO : Ok m) (c : Dev nD) (t : Fin (cfgM m hO).N) : (dats m hO 0 c).after 77 t = iblk m hO c 77 t := by dsimp only [dats]; try rfl
theorem after0_78 (hO : Ok m) (c : Dev nD) (t : Fin (cfgM m hO).N) : (dats m hO 0 c).after 78 t = iblk m hO c 78 t := by dsimp only [dats]; try rfl
theorem after0_79 (hO : Ok m) (c : Dev nD) (t : Fin (cfgM m hO).N) : (dats m hO 0 c).after 79 t = iblk m hO c 79 t := by dsimp only [dats]; try rfl
theorem after0_80 (hO : Ok m) (c : Dev nD) (t : Fin (cfgM m hO).N) : (dats m hO 0 c).after 80 t = iblk m hO c 80 t := by dsimp only [dats]; try rfl
theorem after0_81 (hO : Ok m) (c : Dev nD) (t : Fin (cfgM m hO).N) : (dats m hO 0 c).after 81 t = iblk m hO c 81 t := by dsimp only [dats]; try rfl
theorem after0_82 (hO : Ok m) (c : Dev nD) (t : Fin (cfgM m hO).N) : (dats m hO 0 c).after 82 t = iblk m hO c 82 t := by dsimp only [dats]; try rfl
theorem after0_83 (hO : Ok m) (c : Dev nD) (t : Fin (cfgM m hO).N) : (dats m hO 0 c).after 83 t = iblk m hO c 83 t := by dsimp only [dats]; try rfl
theorem after0_84 (hO : Ok m) (c : Dev nD) (t : Fin (cfgM m hO).N) : (dats m hO 0 c).after 84 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d
theorem before0_34 (hO : Ok m) (c : Dev nD) (t : Fin (cfgM m hO).N) (d) : (dats m hO 0 c).before 34 t d = iblk m hO c 34 t :=
  before0_34_of m hO (dats m hO 0 c) (A_eq m hO c 34) (after0_34 m hO c) t d
theorem before0_35 (hO : Ok m) (c : Dev nD) (t : Fin (cfgM m hO).N) (d) : (dats m hO 0 c).before 35 t d = iblk m hO c 35 t :=
  before0_35_of m hO (dats m hO 0 c) (A_eq m hO c 35) (after0_35 m hO c) t d
theorem before0_36 (hO : Ok m) (c : Dev nD) (t : Fin (cfgM m hO).N) (d) : (dats m hO 0 c).before 36 t d = iblk m hO c 36 t :=
  before0_36_of m hO (dats m hO 0 c) (A_eq m hO c 36) (after0_36 m hO c) t d
theorem before0_37 (hO : Ok m) (c : Dev nD) (t : Fin (cfgM m hO).N) (d) : (dats m hO 0 c).before 37 t d = iblk m hO c 37 t :=
  before0_37_of m hO (dats m hO 0 c) (A_eq m hO c 37) (after0_37 m hO c) t d
theorem before0_38 (hO : Ok m) (c : Dev nD) (t : Fin (cfgM m hO).N) (d) : (dats m hO 0 c).before 38 t d = iblk m hO c 38 t :=
  before0_38_of m hO (dats m hO 0 c) (A_eq m hO c 38) (after0_38 m hO c) t d
theorem before0_39 (hO : Ok m) (c : Dev nD) (t : Fin (cfgM m hO).N) (d) : (dats m hO 0 c).before 39 t d = iblk m hO c 39 t :=
  before0_39_of m hO (dats m hO 0 c) (A_eq m hO c 39) (after0_39 m hO c) t d
theorem before0_40 (hO : Ok m) (c : Dev nD) (t : Fin (cfgM m hO).N) (d) : (dats m hO 0 c).before 40 t d = iblk m hO c 40 t :=
  before0_40_of m hO (dats m hO 0 c) (A_eq m hO c 40) (after0_40 m hO c) t d
theorem before0_41 (hO : Ok m) (c : Dev nD) (t : Fin (cfgM m hO).N) (d) : (dats m hO 0 c).before 41 t d = iblk m hO c 41 t :=
  before0_41_of m hO (dats m hO 0 c) (A_eq m hO c 41) (after0_41 m hO c) t d
theorem before0_42 (hO : Ok m) (c : Dev nD) (t : Fin (cfgM m hO).N) (d) : (dats m hO 0 c).before 42 t d = iblk m hO c 42 t :=
  before0_42_of m hO (dats m hO 0 c) (A_eq m hO c 42) (after0_42 m hO c) t d
theorem before0_43 (hO : Ok m) (c : Dev nD) (t : Fin (cfgM m hO).N) (d) : (dats m hO 0 c).before 43 t d = iblk m hO c 43 t :=
  before0_43_of m hO (dats m hO 0 c) (A_eq m hO c 43) (after0_43 m hO c) t d
theorem before0_44 (hO : Ok m) (c : Dev nD) (t : Fin (cfgM m hO).N) (d) : (dats m hO 0 c).before 44 t d = iblk m hO c 44 t :=
  before0_44_of m hO (dats m hO 0 c) (A_eq m hO c 44) (after0_44 m hO c) t d
theorem before0_45 (hO : Ok m) (c : Dev nD) (t : Fin (cfgM m hO).N) (d) : (dats m hO 0 c).before 45 t d = iblk m hO c 45 t :=
  before0_45_of m hO (dats m hO 0 c) (A_eq m hO c 45) (after0_45 m hO c) t d
theorem before0_46 (hO : Ok m) (c : Dev nD) (t : Fin (cfgM m hO).N) (d) : (dats m hO 0 c).before 46 t d = iblk m hO c 46 t :=
  before0_46_of m hO (dats m hO 0 c) (A_eq m hO c 46) (after0_46 m hO c) t d
theorem before0_47 (hO : Ok m) (c : Dev nD) (t : Fin (cfgM m hO).N) (d) : (dats m hO 0 c).before 47 t d = iblk m hO c 47 t :=
  before0_47_of m hO (dats m hO 0 c) (A_eq m hO c 47) (after0_47 m hO c) t d
theorem before0_48 (hO : Ok m) (c : Dev nD) (t : Fin (cfgM m hO).N) (d) : (dats m hO 0 c).before 48 t d = iblk m hO c 48 t :=
  before0_48_of m hO (dats m hO 0 c) (A_eq m hO c 48) (after0_48 m hO c) t d
theorem before0_49 (hO : Ok m) (c : Dev nD) (t : Fin (cfgM m hO).N) (d) : (dats m hO 0 c).before 49 t d = iblk m hO c 49 t :=
  before0_49_of m hO (dats m hO 0 c) (A_eq m hO c 49) (after0_49 m hO c) t d
theorem before0_50 (hO : Ok m) (c : Dev nD) (t : Fin (cfgM m hO).N) (d) : (dats m hO 0 c).before 50 t d = iblk m hO c 50 t :=
  before0_50_of m hO (dats m hO 0 c) (A_eq m hO c 50) (after0_50 m hO c) t d
theorem before0_51 (hO : Ok m) (c : Dev nD) (t : Fin (cfgM m hO).N) (d) : (dats m hO 0 c).before 51 t d = iblk m hO c 51 t :=
  before0_51_of m hO (dats m hO 0 c) (A_eq m hO c 51) (after0_51 m hO c) t d
theorem before0_52 (hO : Ok m) (c : Dev nD) (t : Fin (cfgM m hO).N) (d) : (dats m hO 0 c).before 52 t d = iblk m hO c 52 t :=
  before0_52_of m hO (dats m hO 0 c) (A_eq m hO c 52) (after0_52 m hO c) t d
theorem before0_53 (hO : Ok m) (c : Dev nD) (t : Fin (cfgM m hO).N) (d) : (dats m hO 0 c).before 53 t d = iblk m hO c 53 t :=
  before0_53_of m hO (dats m hO 0 c) (A_eq m hO c 53) (after0_53 m hO c) t d
theorem before0_54 (hO : Ok m) (c : Dev nD) (t : Fin (cfgM m hO).N) (d) : (dats m hO 0 c).before 54 t d = iblk m hO c 54 t :=
  before0_54_of m hO (dats m hO 0 c) (A_eq m hO c 54) (after0_54 m hO c) t d
theorem before0_55 (hO : Ok m) (c : Dev nD) (t : Fin (cfgM m hO).N) (d) : (dats m hO 0 c).before 55 t d = iblk m hO c 55 t :=
  before0_55_of m hO (dats m hO 0 c) (A_eq m hO c 55) (after0_55 m hO c) t d
theorem before0_56 (hO : Ok m) (c : Dev nD) (t : Fin (cfgM m hO).N) (d) : (dats m hO 0 c).before 56 t d = iblk m hO c 56 t :=
  before0_56_of m hO (dats m hO 0 c) (A_eq m hO c 56) (after0_56 m hO c) t d
theorem before0_57 (hO : Ok m) (c : Dev nD) (t : Fin (cfgM m hO).N) (d) : (dats m hO 0 c).before 57 t d = iblk m hO c 57 t :=
  before0_57_of m hO (dats m hO 0 c) (A_eq m hO c 57) (after0_57 m hO c) t d
theorem before0_58 (hO : Ok m) (c : Dev nD) (t : Fin (cfgM m hO).N) (d) : (dats m hO 0 c).before 58 t d = iblk m hO c 58 t :=
  before0_58_of m hO (dats m hO 0 c) (A_eq m hO c 58) (after0_58 m hO c) t d
theorem before0_59 (hO : Ok m) (c : Dev nD) (t : Fin (cfgM m hO).N) (d) : (dats m hO 0 c).before 59 t d = iblk m hO c 59 t :=
  before0_59_of m hO (dats m hO 0 c) (A_eq m hO c 59) (after0_59 m hO c) t d
theorem before0_60 (hO : Ok m) (c : Dev nD) (t : Fin (cfgM m hO).N) (d) : (dats m hO 0 c).before 60 t d = iblk m hO c 60 t :=
  before0_60_of m hO (dats m hO 0 c) (A_eq m hO c 60) (after0_60 m hO c) t d
theorem before0_61 (hO : Ok m) (c : Dev nD) (t : Fin (cfgM m hO).N) (d) : (dats m hO 0 c).before 61 t d = iblk m hO c 61 t :=
  before0_61_of m hO (dats m hO 0 c) (A_eq m hO c 61) (after0_61 m hO c) t d
theorem before0_62 (hO : Ok m) (c : Dev nD) (t : Fin (cfgM m hO).N) (d) : (dats m hO 0 c).before 62 t d = iblk m hO c 62 t :=
  before0_62_of m hO (dats m hO 0 c) (A_eq m hO c 62) (after0_62 m hO c) t d
theorem before0_63 (hO : Ok m) (c : Dev nD) (t : Fin (cfgM m hO).N) (d) : (dats m hO 0 c).before 63 t d = iblk m hO c 63 t :=
  before0_63_of m hO (dats m hO 0 c) (A_eq m hO c 63) (after0_63 m hO c) t d
theorem before0_64 (hO : Ok m) (c : Dev nD) (t : Fin (cfgM m hO).N) (d) : (dats m hO 0 c).before 64 t d = iblk m hO c 64 t :=
  before0_64_of m hO (dats m hO 0 c) (A_eq m hO c 64) (after0_64 m hO c) t d
theorem before0_65 (hO : Ok m) (c : Dev nD) (t : Fin (cfgM m hO).N) (d) : (dats m hO 0 c).before 65 t d = iblk m hO c 65 t :=
  before0_65_of m hO (dats m hO 0 c) (A_eq m hO c 65) (after0_65 m hO c) t d
theorem before0_66 (hO : Ok m) (c : Dev nD) (t : Fin (cfgM m hO).N) (d) : (dats m hO 0 c).before 66 t d = iblk m hO c 66 t :=
  before0_66_of m hO (dats m hO 0 c) (A_eq m hO c 66) (after0_66 m hO c) t d
theorem before0_67 (hO : Ok m) (c : Dev nD) (t : Fin (cfgM m hO).N) (d) : (dats m hO 0 c).before 67 t d = iblk m hO c 67 t :=
  before0_67_of m hO (dats m hO 0 c) (A_eq m hO c 67) (after0_67 m hO c) t d
theorem before0_68 (hO : Ok m) (c : Dev nD) (t : Fin (cfgM m hO).N) (d) : (dats m hO 0 c).before 68 t d = iblk m hO c 68 t :=
  before0_68_of m hO (dats m hO 0 c) (A_eq m hO c 68) (after0_68 m hO c) t d
theorem before0_69 (hO : Ok m) (c : Dev nD) (t : Fin (cfgM m hO).N) (d) : (dats m hO 0 c).before 69 t d = iblk m hO c 69 t :=
  before0_69_of m hO (dats m hO 0 c) (A_eq m hO c 69) (after0_69 m hO c) t d
theorem before0_70 (hO : Ok m) (c : Dev nD) (t : Fin (cfgM m hO).N) (d) : (dats m hO 0 c).before 70 t d = iblk m hO c 70 t :=
  before0_70_of m hO (dats m hO 0 c) (A_eq m hO c 70) (after0_70 m hO c) t d
theorem before0_71 (hO : Ok m) (c : Dev nD) (t : Fin (cfgM m hO).N) (d) : (dats m hO 0 c).before 71 t d = iblk m hO c 71 t :=
  before0_71_of m hO (dats m hO 0 c) (A_eq m hO c 71) (after0_71 m hO c) t d
theorem before0_72 (hO : Ok m) (c : Dev nD) (t : Fin (cfgM m hO).N) (d) : (dats m hO 0 c).before 72 t d = iblk m hO c 72 t :=
  before0_72_of m hO (dats m hO 0 c) (A_eq m hO c 72) (after0_72 m hO c) t d
theorem before0_73 (hO : Ok m) (c : Dev nD) (t : Fin (cfgM m hO).N) (d) : (dats m hO 0 c).before 73 t d = iblk m hO c 73 t :=
  before0_73_of m hO (dats m hO 0 c) (A_eq m hO c 73) (after0_73 m hO c) t d
theorem before0_74 (hO : Ok m) (c : Dev nD) (t : Fin (cfgM m hO).N) (d) : (dats m hO 0 c).before 74 t d = iblk m hO c 74 t :=
  before0_74_of m hO (dats m hO 0 c) (A_eq m hO c 74) (after0_74 m hO c) t d
theorem before0_75 (hO : Ok m) (c : Dev nD) (t : Fin (cfgM m hO).N) (d) : (dats m hO 0 c).before 75 t d = iblk m hO c 75 t :=
  before0_75_of m hO (dats m hO 0 c) (A_eq m hO c 75) (after0_75 m hO c) t d
theorem before0_76 (hO : Ok m) (c : Dev nD) (t : Fin (cfgM m hO).N) (d) : (dats m hO 0 c).before 76 t d = iblk m hO c 76 t :=
  before0_76_of m hO (dats m hO 0 c) (A_eq m hO c 76) (after0_76 m hO c) t d
theorem before0_77 (hO : Ok m) (c : Dev nD) (t : Fin (cfgM m hO).N) (d) : (dats m hO 0 c).before 77 t d = iblk m hO c 77 t :=
  before0_77_of m hO (dats m hO 0 c) (A_eq m hO c 77) (after0_77 m hO c) t d
theorem before0_78 (hO : Ok m) (c : Dev nD) (t : Fin (cfgM m hO).N) (d) : (dats m hO 0 c).before 78 t d = iblk m hO c 78 t :=
  before0_78_of m hO (dats m hO 0 c) (A_eq m hO c 78) (after0_78 m hO c) t d
theorem before0_79 (hO : Ok m) (c : Dev nD) (t : Fin (cfgM m hO).N) (d) : (dats m hO 0 c).before 79 t d = iblk m hO c 79 t :=
  before0_79_of m hO (dats m hO 0 c) (A_eq m hO c 79) (after0_79 m hO c) t d
theorem before0_80 (hO : Ok m) (c : Dev nD) (t : Fin (cfgM m hO).N) (d) : (dats m hO 0 c).before 80 t d = iblk m hO c 80 t :=
  before0_80_of m hO (dats m hO 0 c) (A_eq m hO c 80) (after0_80 m hO c) t d
theorem before0_81 (hO : Ok m) (c : Dev nD) (t : Fin (cfgM m hO).N) (d) : (dats m hO 0 c).before 81 t d = iblk m hO c 81 t :=
  before0_81_of m hO (dats m hO 0 c) (A_eq m hO c 81) (after0_81 m hO c) t d
theorem before0_82 (hO : Ok m) (c : Dev nD) (t : Fin (cfgM m hO).N) (d) : (dats m hO 0 c).before 82 t d = iblk m hO c 82 t :=
  before0_82_of m hO (dats m hO 0 c) (A_eq m hO c 82) (after0_82 m hO c) t d
theorem before0_83 (hO : Ok m) (c : Dev nD) (t : Fin (cfgM m hO).N) (d) : (dats m hO 0 c).before 83 t d = iblk m hO c 83 t :=
  before0_83_of m hO (dats m hO 0 c) (A_eq m hO c 83) (after0_83 m hO c) t d

/-! ## The body obligation, at a generic point -/

/-- What the body is called with at point `t` (the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d))
    ∗ (∃ d, owns (c : Thread nD τ) (ms0_37 m hO t) fullShare ((dats m hO 0 c).before 37 t d))
    ∗ (∃ d, owns (c : Thread nD τ) (ms0_38 m hO t) fullShare ((dats m hO 0 c).before 38 t d))
    ∗ (∃ d, owns (c : Thread nD τ) (ms0_39 m hO t) fullShare ((dats m hO 0 c).before 39 t d))
    ∗ (∃ d, owns (c : Thread nD τ) (ms0_40 m hO t) fullShare ((dats m hO 0 c).before 40 t d))
    ∗ (∃ d, owns (c : Thread nD τ) (ms0_41 m hO t) fullShare ((dats m hO 0 c).before 41 t d))
    ∗ (∃ d, owns (c : Thread nD τ) (ms0_42 m hO t) fullShare ((dats m hO 0 c).before 42 t d))
    ∗ (∃ d, owns (c : Thread nD τ) (ms0_43 m hO t) fullShare ((dats m hO 0 c).before 43 t d))
    ∗ (∃ d, owns (c : Thread nD τ) (ms0_44 m hO t) fullShare ((dats m hO 0 c).before 44 t d))
    ∗ (∃ d, owns (c : Thread nD τ) (ms0_45 m hO t) fullShare ((dats m hO 0 c).before 45 t d))
    ∗ (∃ d, owns (c : Thread nD τ) (ms0_46 m hO t) fullShare ((dats m hO 0 c).before 46 t d))
    ∗ (∃ d, owns (c : Thread nD τ) (ms0_47 m hO t) fullShare ((dats m hO 0 c).before 47 t d))
    ∗ (∃ d, owns (c : Thread nD τ) (ms0_48 m hO t) fullShare ((dats m hO 0 c).before 48 t d))
    ∗ (∃ d, owns (c : Thread nD τ) (ms0_49 m hO t) fullShare ((dats m hO 0 c).before 49 t d))
    ∗ (∃ d, owns (c : Thread nD τ) (ms0_50 m hO t) fullShare ((dats m hO 0 c).before 50 t d))
    ∗ (∃ d, owns (c : Thread nD τ) (ms0_51 m hO t) fullShare ((dats m hO 0 c).before 51 t d))
    ∗ (∃ d, owns (c : Thread nD τ) (ms0_52 m hO t) fullShare ((dats m hO 0 c).before 52 t d))
    ∗ (∃ d, owns (c : Thread nD τ) (ms0_53 m hO t) fullShare ((dats m hO 0 c).before 53 t d))
    ∗ (∃ d, owns (c : Thread nD τ) (ms0_54 m hO t) fullShare ((dats m hO 0 c).before 54 t d))
    ∗ (∃ d, owns (c : Thread nD τ) (ms0_55 m hO t) fullShare ((dats m hO 0 c).before 55 t d))
    ∗ (∃ d, owns (c : Thread nD τ) (ms0_56 m hO t) fullShare ((dats m hO 0 c).before 56 t d))
    ∗ (∃ d, owns (c : Thread nD τ) (ms0_57 m hO t) fullShare ((dats m hO 0 c).before 57 t d))
    ∗ (∃ d, owns (c : Thread nD τ) (ms0_58 m hO t) fullShare ((dats m hO 0 c).before 58 t d))
    ∗ (∃ d, owns (c : Thread nD τ) (ms0_59 m hO t) fullShare ((dats m hO 0 c).before 59 t d))
    ∗ (∃ d, owns (c : Thread nD τ) (ms0_60 m hO t) fullShare ((dats m hO 0 c).before 60 t d))
    ∗ (∃ d, owns (c : Thread nD τ) (ms0_61 m hO t) fullShare ((dats m hO 0 c).before 61 t d))
    ∗ (∃ d, owns (c : Thread nD τ) (ms0_62 m hO t) fullShare ((dats m hO 0 c).before 62 t d))
    ∗ (∃ d, owns (c : Thread nD τ) (ms0_63 m hO t) fullShare ((dats m hO 0 c).before 63 t d))
    ∗ (∃ d, owns (c : Thread nD τ) (ms0_64 m hO t) fullShare ((dats m hO 0 c).before 64 t d))
    ∗ (∃ d, owns (c : Thread nD τ) (ms0_65 m hO t) fullShare ((dats m hO 0 c).before 65 t d))
    ∗ (∃ d, owns (c : Thread nD τ) (ms0_66 m hO t) fullShare ((dats m hO 0 c).before 66 t d))
    ∗ (∃ d, owns (c : Thread nD τ) (ms0_67 m hO t) fullShare ((dats m hO 0 c).before 67 t d))
    ∗ (∃ d, owns (c : Thread nD τ) (ms0_68 m hO t) fullShare ((dats m hO 0 c).before 68 t d))
    ∗ (∃ d, owns (c : Thread nD τ) (ms0_69 m hO t) fullShare ((dats m hO 0 c).before 69 t d))
    ∗ (∃ d, owns (c : Thread nD τ) (ms0_70 m hO t) fullShare ((dats m hO 0 c).before 70 t d))
    ∗ (∃ d, owns (c : Thread nD τ) (ms0_71 m hO t) fullShare ((dats m hO 0 c).before 71 t d))
    ∗ (∃ d, owns (c : Thread nD τ) (ms0_72 m hO t) fullShare ((dats m hO 0 c).before 72 t d))
    ∗ (∃ d, owns (c : Thread nD τ) (ms0_73 m hO t) fullShare ((dats m hO 0 c).before 73 t d))
    ∗ (∃ d, owns (c : Thread nD τ) (ms0_74 m hO t) fullShare ((dats m hO 0 c).before 74 t d))
    ∗ (∃ d, owns (c : Thread nD τ) (ms0_75 m hO t) fullShare ((dats m hO 0 c).before 75 t d))
    ∗ (∃ d, owns (c : Thread nD τ) (ms0_76 m hO t) fullShare ((dats m hO 0 c).before 76 t d))
    ∗ (∃ d, owns (c : Thread nD τ) (ms0_77 m hO t) fullShare ((dats m hO 0 c).before 77 t d))
    ∗ (∃ d, owns (c : Thread nD τ) (ms0_78 m hO t) fullShare ((dats m hO 0 c).before 78 t d))
    ∗ (∃ d, owns (c : Thread nD τ) (ms0_79 m hO t) fullShare ((dats m hO 0 c).before 79 t d))
    ∗ (∃ d, owns (c : Thread nD τ) (ms0_80 m hO t) fullShare ((dats m hO 0 c).before 80 t d))
    ∗ (∃ d, owns (c : Thread nD τ) (ms0_81 m hO t) fullShare ((dats m hO 0 c).before 81 t d))
    ∗ (∃ d, owns (c : Thread nD τ) (ms0_82 m hO t) fullShare ((dats m hO 0 c).before 82 t d))
    ∗ (∃ d, owns (c : Thread nD τ) (ms0_83 m hO t) fullShare ((dats m hO 0 c).before 83 t d))
    ∗ (∃ d, owns (c : Thread nD τ) (ms0_84 m hO t) fullShare ((dats m hO 0 c).before 84 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t)
    ∗ owns (c : Thread nD τ) (ms0_34 m hO t) fullShare ((dats m hO 0 c).after 34 t)
    ∗ owns (c : Thread nD τ) (ms0_35 m hO t) fullShare ((dats m hO 0 c).after 35 t)
    ∗ owns (c : Thread nD τ) (ms0_36 m hO t) fullShare ((dats m hO 0 c).after 36 t)
    ∗ owns (c : Thread nD τ) (ms0_37 m hO t) fullShare ((dats m hO 0 c).after 37 t)
    ∗ owns (c : Thread nD τ) (ms0_38 m hO t) fullShare ((dats m hO 0 c).after 38 t)
    ∗ owns (c : Thread nD τ) (ms0_39 m hO t) fullShare ((dats m hO 0 c).after 39 t)
    ∗ owns (c : Thread nD τ) (ms0_40 m hO t) fullShare ((dats m hO 0 c).after 40 t)
    ∗ owns (c : Thread nD τ) (ms0_41 m hO t) fullShare ((dats m hO 0 c).after 41 t)
    ∗ owns (c : Thread nD τ) (ms0_42 m hO t) fullShare ((dats m hO 0 c).after 42 t)
    ∗ owns (c : Thread nD τ) (ms0_43 m hO t) fullShare ((dats m hO 0 c).after 43 t)
    ∗ owns (c : Thread nD τ) (ms0_44 m hO t) fullShare ((dats m hO 0 c).after 44 t)
    ∗ owns (c : Thread nD τ) (ms0_45 m hO t) fullShare ((dats m hO 0 c).after 45 t)
    ∗ owns (c : Thread nD τ) (ms0_46 m hO t) fullShare ((dats m hO 0 c).after 46 t)
    ∗ owns (c : Thread nD τ) (ms0_47 m hO t) fullShare ((dats m hO 0 c).after 47 t)
    ∗ owns (c : Thread nD τ) (ms0_48 m hO t) fullShare ((dats m hO 0 c).after 48 t)
    ∗ owns (c : Thread nD τ) (ms0_49 m hO t) fullShare ((dats m hO 0 c).after 49 t)
    ∗ owns (c : Thread nD τ) (ms0_50 m hO t) fullShare ((dats m hO 0 c).after 50 t)
    ∗ owns (c : Thread nD τ) (ms0_51 m hO t) fullShare ((dats m hO 0 c).after 51 t)
    ∗ owns (c : Thread nD τ) (ms0_52 m hO t) fullShare ((dats m hO 0 c).after 52 t)
    ∗ owns (c : Thread nD τ) (ms0_53 m hO t) fullShare ((dats m hO 0 c).after 53 t)
    ∗ owns (c : Thread nD τ) (ms0_54 m hO t) fullShare ((dats m hO 0 c).after 54 t)
    ∗ owns (c : Thread nD τ) (ms0_55 m hO t) fullShare ((dats m hO 0 c).after 55 t)
    ∗ owns (c : Thread nD τ) (ms0_56 m hO t) fullShare ((dats m hO 0 c).after 56 t)
    ∗ owns (c : Thread nD τ) (ms0_57 m hO t) fullShare ((dats m hO 0 c).after 57 t)
    ∗ owns (c : Thread nD τ) (ms0_58 m hO t) fullShare ((dats m hO 0 c).after 58 t)
    ∗ owns (c : Thread nD τ) (ms0_59 m hO t) fullShare ((dats m hO 0 c).after 59 t)
    ∗ owns (c : Thread nD τ) (ms0_60 m hO t) fullShare ((dats m hO 0 c).after 60 t)
    ∗ owns (c : Thread nD τ) (ms0_61 m hO t) fullShare ((dats m hO 0 c).after 61 t)
    ∗ owns (c : Thread nD τ) (ms0_62 m hO t) fullShare ((dats m hO 0 c).after 62 t)
    ∗ owns (c : Thread nD τ) (ms0_63 m hO t) fullShare ((dats m hO 0 c).after 63 t)
    ∗ owns (c : Thread nD τ) (ms0_64 m hO t) fullShare ((dats m hO 0 c).after 64 t)
    ∗ owns (c : Thread nD τ) (ms0_65 m hO t) fullShare ((dats m hO 0 c).after 65 t)
    ∗ owns (c : Thread nD τ) (ms0_66 m hO t) fullShare ((dats m hO 0 c).after 66 t)
    ∗ owns (c : Thread nD τ) (ms0_67 m hO t) fullShare ((dats m hO 0 c).after 67 t)
    ∗ owns (c : Thread nD τ) (ms0_68 m hO t) fullShare ((dats m hO 0 c).after 68 t)
    ∗ owns (c : Thread nD τ) (ms0_69 m hO t) fullShare ((dats m hO 0 c).after 69 t)
    ∗ owns (c : Thread nD τ) (ms0_70 m hO t) fullShare ((dats m hO 0 c).after 70 t)
    ∗ owns (c : Thread nD τ) (ms0_71 m hO t) fullShare ((dats m hO 0 c).after 71 t)
    ∗ owns (c : Thread nD τ) (ms0_72 m hO t) fullShare ((dats m hO 0 c).after 72 t)
    ∗ owns (c : Thread nD τ) (ms0_73 m hO t) fullShare ((dats m hO 0 c).after 73 t)
    ∗ owns (c : Thread nD τ) (ms0_74 m hO t) fullShare ((dats m hO 0 c).after 74 t)
    ∗ owns (c : Thread nD τ) (ms0_75 m hO t) fullShare ((dats m hO 0 c).after 75 t)
    ∗ owns (c : Thread nD τ) (ms0_76 m hO t) fullShare ((dats m hO 0 c).after 76 t)
    ∗ owns (c : Thread nD τ) (ms0_77 m hO t) fullShare ((dats m hO 0 c).after 77 t)
    ∗ owns (c : Thread nD τ) (ms0_78 m hO t) fullShare ((dats m hO 0 c).after 78 t)
    ∗ owns (c : Thread nD τ) (ms0_79 m hO t) fullShare ((dats m hO 0 c).after 79 t)
    ∗ owns (c : Thread nD τ) (ms0_80 m hO t) fullShare ((dats m hO 0 c).after 80 t)
    ∗ owns (c : Thread nD τ) (ms0_81 m hO t) fullShare ((dats m hO 0 c).after 81 t)
    ∗ owns (c : Thread nD τ) (ms0_82 m hO t) fullShare ((dats m hO 0 c).after 82 t)
    ∗ owns (c : Thread nD τ) (ms0_83 m hO t) fullShare ((dats m hO 0 c).after 83 t)
    ∗ owns (c : Thread nD τ) (ms0_84 m hO t) fullShare ((dats m hO 0 c).after 84 t))

set_option maxHeartbeats 8400000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_39, before0_40, before0_41, before0_42, before0_43, before0_44, before0_45, before0_46, before0_47, before0_48, before0_49, before0_50, before0_51, before0_52, before0_53, before0_54, before0_55, before0_56, before0_57, before0_58, before0_59, before0_60, before0_61, before0_62, before0_63, before0_64, before0_65, before0_66, before0_67, before0_68, before0_69, before0_70, before0_71, before0_72, before0_73, before0_74, before0_75, before0_76, before0_77, before0_78, before0_79, before0_80, before0_81, before0_82, before0_83]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47, after0_48, after0_49, after0_50, after0_51, after0_52, after0_53, after0_54, after0_55, after0_56, after0_57, after0_58, after0_59, after0_60, after0_61, after0_62, after0_63, after0_64, after0_65, after0_66, after0_67, after0_68, after0_69, after0_70, after0_71, after0_72, after0_73, after0_74, after0_75, after0_76, after0_77, after0_78, after0_79, after0_80, after0_81, after0_82, after0_83, after0_84]
  rw [show (dats m hO 0 c).Φ t.castSucc = iprop(Pipeline.ΦA spec0 c ∗ Pipeline.ΦT pre0 (tbl m) c) from rfl, PhiT0_eq]
  unfold outsAt0
  unfold out0_A_84
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩, ⟨%d70, H70⟩, ⟨%d71, H71⟩, ⟨%d72, H72⟩, ⟨%d73, H73⟩, ⟨%d74, H74⟩, ⟨%d75, H75⟩, ⟨%d76, H76⟩, ⟨%d77, H77⟩, ⟨%d78, H78⟩, ⟨%d79, H79⟩, ⟨%d80, H80⟩, ⟨%d81, H81⟩, ⟨%d82, H82⟩, ⟨%d83, H83⟩, ⟨%d84, H84⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (iblk m hO c 36 t) (iblk m hO c 37 t) (iblk m hO c 38 t) (iblk m hO c 39 t) (iblk m hO c 40 t) (iblk m hO c 41 t) (iblk m hO c 42 t) (iblk m hO c 43 t) (iblk m hO c 44 t) (iblk m hO c 45 t) (iblk m hO c 46 t) (iblk m hO c 47 t) (iblk m hO c 48 t) (iblk m hO c 49 t) (iblk m hO c 50 t) (iblk m hO c 51 t) (iblk m hO c 52 t) (iblk m hO c 53 t) (iblk m hO c 54 t) (iblk m hO c 55 t) (iblk m hO c 56 t) (iblk m hO c 57 t) (iblk m hO c 58 t) (iblk m hO c 59 t) (iblk m hO c 60 t) (iblk m hO c 61 t) (iblk m hO c 62 t) (iblk m hO c 63 t) (iblk m hO c 64 t) (iblk m hO c 65 t) (iblk m hO c 66 t) (iblk m hO c 67 t) (iblk m hO c 68 t) (iblk m hO c 69 t) (iblk m hO c 70 t) (iblk m hO c 71 t) (iblk m hO c 72 t) (iblk m hO c 73 t) (iblk m hO c 74 t) (iblk m hO c 75 t) (iblk m hO c 76 t) (iblk m hO c 77 t) (iblk m hO c 78 t) (iblk m hO c 79 t) (iblk m hO c 80 t) (iblk m hO c 81 t) (iblk m hO c 82 t) (iblk m hO c 83 t) (tbl m 0)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  isplitl [H78]; · iexact H78
  isplitl [H79]; · iexact H79
  isplitl [H80]; · iexact H80
  isplitl [H81]; · iexact H81
  isplitl [H82]; · iexact H82
  isplitl [H83]; · iexact H83
  isplitl [H84]; · iexists _; iexact H84
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83, ⟨%e84, H84⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  isplitl [H78]; · iexact H78
  isplitl [H79]; · iexact H79
  isplitl [H80]; · iexact H80
  isplitl [H81]; · iexact H81
  isplitl [H82]; · iexact H82
  isplitl [H83]; · iexact H83
  unfold owns; iexists _; isplitr
  swap; · iexact H84
  ipureintro; exact View.read_writes_of_cover _ _ _ _ _ (cover0_A_84 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 40000000 in
/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option maxHeartbeats 40000000 in
set_option backward.isDefEq.respectTransparency.types false in
/-- The launch runs to its end, with every semaphore counter at zero there. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The arguments end unchanged and every counter at zero, whatever the table holds as long as its rows lie in the bank. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.LocalIdeal.Gen

end
-- ==== Proof.LocalIdealOk.lean ====
module

public import proofs.«01_k».proof.Proof.Gen.LocalIdeal.Frame.Runs
public import Idealize.ShloMosaic.Lib.Pointwise

@[expose] public section

set_option maxRecDepth 16384

noncomputable section

namespace Cert.LocalIdealOk

open Cert.LocalIdeal Cert.LocalIdeal.Gen Idealize.ShloMosaic Idealize.ShloMosaic.TcCoe

variable {F : FTy → Type} [FloatOps F]

/-- The word of the table that the window of row `j` reads at a point. -/
def word (pf : pre0.Contents (Elt F)) (i : grid0.Coords) (j : Fin 80) : BitVec 32 :=
  pf.at 0 (Rect.unit (s := S1120) (k0_off1 i (BitVec.ofNat 32 j.val)) S1.size (k0_off1_inb i j)) numel1_S1

theorem off_eq (i : grid0.Coords) (j : Fin 80) : k0_off1 i (BitVec.ofNat 32 j.val) 0 = (i 0).val * 80 + j.val := by
  have hi : (i 0).val < 14 := (i 0).isLt
  have hj := j.isLt
  show (BitVec.ofNat 32 (i 0).val * 80#32 + BitVec.ofNat 32 j.val).toNat = _
  rw [BitVec.toNat_add, BitVec.toNat_mul, BitVec.toNat_ofNat, BitVec.toNat_ofNat, BitVec.toNat_ofNat]
  omega

theorem ix1_of {n : ℕ} {h : n < 1120} (i : S1120.Idx) (e : (i 0).val = n) : i = ix1 ⟨n, h⟩ := by
  funext a
  obtain rfl : a = 0 := Subsingleton.elim (α := Fin 1) _ _
  exact Fin.ext e

theorem word_eq (pf : pre0.Contents (Elt F)) (i : grid0.Coords) (j : Fin 80) :
    word pf i j = (pf 0 : IVec S1120 32) (ix1 ⟨(i 0).val * 80 + j.val, by have h : (i 0).val < 14 := (i 0).isLt; omega⟩) := by
  refine congrArg (pf 0 : IVec S1120 32) (ix1_of _ ?_)
  show k0_off1 i (BitVec.ofNat 32 j.val) 0 + 1 * 0 = _
  rw [off_eq]
  omega

theorem row_ok (pf : pre0.Contents (Elt F)) (h : ∀ w, ((pf 0 : IVec S1120 32) w).toNat < 100000) (i : grid0.Coords) (j : Fin 80) :
    ∀ a, ((![(word pf i j).toNat, 0, 0] : Fin 3 → ℕ) a + 1) * S1x1x256.size a ≤ S100000x1x256.size a := by
  have hw : (word pf i j).toNat < 100000 := by rw [word_eq]; exact h _
  intro a
  match a with
  | ⟨0, _⟩ => show ((word pf i j).toNat + 1) * 1 ≤ 100000; omega
  | ⟨1, _⟩ => show (0 + 1) * 1 ≤ 1; omega
  | ⟨2, _⟩ => show (0 + 1) * 256 ≤ 256; omega

theorem row (pf : pre0.Contents (Elt F)) (h : ∀ w, ((pf 0 : IVec S1120 32) w).toNat < 100000) (i : grid0.Coords) (j : Fin 80) :
    ∃ hb : (∀ a, ((![(word pf i j).toNat, 0, 0] : Fin 3 → ℕ) a + 1) * S1x1x256.size a ≤ S100000x1x256.size a),
      EltTy.bits .f32 = 32 ∨ (Rect.block (s := S100000x1x256) S1x1x256.size ![(word pf i j).toNat, 0, 0] hb).WholeWords (EltTy.packing .f32) :=
  ⟨row_ok pf h i j, .inl rfl⟩

/-- The launch's side condition of the table, from the bound on its words. -/
theorem ok_of (pf : pre0.Contents (Elt F)) (h : ∀ w, ((pf 0 : IVec S1120 32) w).toNat < 100000) : ok0 pf :=
  have r := row pf h
  ⟨fun i => r i 0, fun i => r i 1, fun i => r i 2, fun i => r i 3, fun i => r i 4, fun i => r i 5, fun i => r i 6, fun i => r i 7, fun i => r i 8, fun i => r i 9, fun i => r i 10, fun i => r i 11, fun i => r i 12, fun i => r i 13, fun i => r i 14, fun i => r i 15, fun i => r i 16, fun i => r i 17, fun i => r i 18, fun i => r i 19, fun i => r i 20, fun i => r i 21, fun i => r i 22, fun i => r i 23, fun i => r i 24, fun i => r i 25, fun i => r i 26, fun i => r i 27, fun i => r i 28, fun i => r i 29, fun i => r i 30, fun i => r i 31, fun i => r i 32, fun i => r i 33, fun i => r i 34, fun i => r i 35, fun i => r i 36, fun i => r i 37, fun i => r i 38, fun i => r i 39, fun i => r i 40, fun i => r i 41, fun i => r i 42, fun i => r i 43, fun i => r i 44, fun i => r i 45, fun i => r i 46, fun i => r i 47, fun i => r i 48, fun i => r i 49, fun i => r i 50, fun i => r i 51, fun i => r i 52, fun i => r i 53, fun i => r i 54, fun i => r i 55, fun i => r i 56, fun i => r i 57, fun i => r i 58, fun i => r i 59, fun i => r i 60, fun i => r i 61, fun i => r i 62, fun i => r i 63, fun i => r i 64, fun i => r i 65, fun i => r i 66, fun i => r i 67, fun i => r i 68, fun i => r i 69, fun i => r i 70, fun i => r i 71, fun i => r i 72, fun i => r i 73, fun i => r i 74, fun i => r i 75, fun i => r i 76, fun i => r i 77, fun i => r i 78, fun i => r i 79⟩

variable (m : (ℓ : Loc nD τ sig) → Buf (Elt F) ℓ)

theorem tbl_eq : (tbl m 0 : IVec S1120 32) = m (((0 : Dev nD) : Thread nD τ).loc main_arg0) := V_main_arg0 m 0

theorem ok (h : ∀ w, ((m (((0 : Dev nD) : Thread nD τ).loc main_arg0) : IVec S1120 32) w).toNat < 100000) : Ok m :=
  ok_of (tbl m) fun w => by rw [tbl_eq]; exact h w

end Cert.LocalIdealOk

end
-- ==== Proof.LocalBlock.lean ====
module

public import proofs.«01_k».proof.Proof.Gen.LocalIdeal.Skeleton
public import proofs.«01_k».proof.Proof.HeadBlock
public import Idealize.ShloMosaic.Lib.Pointwise
public import Idealize.ShloMosaic.Lib.ValueIdx

@[expose] public section

set_option maxRecDepth 16384

noncomputable section

namespace Cert.LocalBlock

open Cert.LocalIdeal Cert.LocalIdeal.Gen Idealize.ShloMosaic
open Cert.HeadBlock (gel)

/-- One entry of the local branch: the mean over five gathered rows of what the two layers make of each. -/
def loc (x : Fin 5 → Fin 256 → EReal) (W : Fin 256 → Fin 512 → EReal) (b : Fin 512 → EReal) (V : Fin 512 → Fin 256 → EReal) (c : Fin 256 → EReal) (d : Fin 256) : EReal :=
  Ideal.div (∑ k : Fin 5, ((∑ e : Fin 512, gel ((∑ a : Fin 256, x k a * W a e) + b e) * V e d) + c d)) (Ideal.ofBits .f32 0x40A00000#32)

/-- Eighty values as a list. -/
def lst {α : Type} (f : Fin 80 → α) : List α :=
  [f 0, f 1, f 2, f 3, f 4, f 5, f 6, f 7, f 8, f 9, f 10, f 11, f 12, f 13, f 14, f 15, f 16, f 17, f 18, f 19, f 20, f 21, f 22, f 23, f 24, f 25, f 26, f 27, f 28, f 29, f 30, f 31, f 32, f 33, f 34, f 35, f 36, f 37, f 38, f 39, f 40, f 41, f 42, f 43, f 44, f 45, f 46, f 47, f 48, f 49, f 50, f 51, f 52, f 53, f 54, f 55, f 56, f 57, f 58, f 59, f 60, f 61, f 62, f 63, f 64, f 65, f 66, f 67, f 68, f 69, f 70, f 71, f 72, f 73, f 74, f 75, f 76, f 77, f 78, f 79]

theorem lst_eq {α : Type} (f : Fin 80 → α) : lst f = List.ofFn f := by
  refine List.ext_getElem (by rw [List.length_ofFn]; rfl) fun i h _ => ?_
  rw [List.getElem_ofFn]
  exact (by intro i; fin_cases i <;> rfl : ∀ i : Fin 80, (lst f)[i.val]'i.isLt = f i) ⟨i, h⟩

theorem concatenate_of {xs ys : List ((s : Shape) × (s.Idx → EReal))} (e : xs = ys) {t : Shape} (a : Fin t.rank) (h : Shape.Concatenates (xs.map (·.1)) t a) (h' : Shape.Concatenates (ys.map (·.1)) t a) :
    concatenate t a xs h = concatenate t a ys h' := by
  subst e
  rfl

theorem cat_ok (rows : Fin 80 → Vec Ideal S1x1x256 .f32) : Shape.Concatenates ((lst fun j : Fin 80 => (⟨S1x256, shapeCast S1x256 (rows j) shapeCasts_S1x1x256_S1x256⟩ : (s : Shape) × (s.Idx → EReal))).map (·.1)) S80x256 0 := by
  simp only [lst, List.map]
  exact concatenates_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S1x256_S80x256_d0

/-- The eighty gathered rows under one another. -/
def cat (rows : Fin 80 → Vec Ideal S1x1x256 .f32) : FVec Ideal S80x256 .f32 :=
  concatenate S80x256 0 (lst fun j : Fin 80 => (⟨S1x256, shapeCast S1x256 (rows j) shapeCasts_S1x1x256_S1x256⟩ : (s : Shape) × (s.Idx → EReal))) (cat_ok rows)

theorem cat_apply (rows : Fin 80 → Vec Ideal S1x1x256 .f32) (r : Fin 80) (d : Fin 256) : cat rows (ix2 r d) = rows r (ix3 0 0 d) := by
  rw [cat, concatenate_of (lst_eq _) 0 _ (by rw [← lst_eq]; exact cat_ok rows)]
  refine (concatenate_ofFn_unit_apply (t := S80x256) (s₁ := S1x256) 0 (fun j => shapeCast S1x256 (rows j) shapeCasts_S1x1x256_S1x256) _ rfl rfl (ix2 r d) r rfl (ix2 0 d) ?_).trans ?_
  · intro b hb
    match b with
    | ⟨0, _⟩ => exact absurd rfl hb
    | ⟨1, _⟩ => rfl
  · pointwise

/-- The first layer before the GELU. -/
def lin (x : FVec Ideal S80x256 .f32) (W : FVec Ideal S256x512 .f32) (b : Vec Ideal S1x512 .f32) : FVec Ideal S80x512 .f32 :=
  addf (matmul (φ₂ := .f32) dot_S80x256_S256x512_S80x512_1_0_0_1_n_n none x W (constant S80x512 .f32 0x00000000#32)) (broadcastTo S80x512 (shapeCast S1x512 b shapeCasts_S1x512_S1x512) broadcasts_S1x512_S80x512)

theorem lin_apply (x : FVec Ideal S80x256 .f32) (W : Vec Ideal S256x512 .f32) (b : Vec Ideal S1x512 .f32) (r : Fin 80) (e : Fin 512) :
    lin x W b (ix2 r e) = (∑ a : Fin 256, x (ix2 r a) * W (ix2 a e)) + b (ix2 0 e) := by
  pointwise [lin]

theorem pay1_apply (x y : FVec Ideal S80x512 .f32) (V : Vec Ideal S512x256 .f32) (c : Vec Ideal S1x256 .f32) (q : Fin 16) (d : Fin 256) :
    k0_pay1 x y V c (ix3 0 q d)
      = Ideal.div (∑ k : Fin 5, ((∑ e : Fin 512, (x (ix2 ⟨q.val * 5 + k.val, by omega⟩ e) * (1 + y (ix2 ⟨q.val * 5 + k.val, by omega⟩ e))) * V (ix2 e d)) + c (ix2 0 d))) (Ideal.ofBits .f32 0x40A00000#32) := by
  pointwise [k0_pay1]

/-- What the body stores. -/
def out (rows : Fin 80 → Vec Ideal S1x1x256 .f32) (W : Vec Ideal S256x512 .f32) (b : Vec Ideal S1x512 .f32) (V : Vec Ideal S512x256 .f32) (c : Vec Ideal S1x256 .f32) : FVec Ideal S1x16x256 .f32 :=
  k0_pay1
    (k0_pay74 (k0_pay2 (rows 0)) (k0_pay3 (rows 1)) (k0_pay4 (rows 2)) (k0_pay5 (rows 3)) (k0_pay6 (rows 4)) (k0_pay7 (rows 5)) (k0_pay8 (rows 6)) (k0_pay9 (rows 7)) (k0_pay10 (rows 8)) (k0_pay11 (rows 9)) (k0_pay12 (rows 10)) (k0_pay13 (rows 11)) (k0_pay14 (rows 12)) (k0_pay15 (rows 13)) (k0_pay16 (rows 14)) (k0_pay17 (rows 15)) (k0_pay18 (rows 16)) (k0_pay19 (rows 17)) (k0_pay20 (rows 18)) (k0_pay21 (rows 19)) (k0_pay22 (rows 20)) (k0_pay23 (rows 21)) (k0_pay24 (rows 22)) (k0_pay25 (rows 23)) (k0_pay26 (rows 24)) (k0_pay27 (rows 25)) (k0_pay28 (rows 26)) (k0_pay29 (rows 27)) (k0_pay30 (rows 28)) (k0_pay31 (rows 29)) (k0_pay32 (rows 30)) (k0_pay33 (rows 31)) (k0_pay34 (rows 32)) (k0_pay35 (rows 33)) (k0_pay36 (rows 34)) (k0_pay37 (rows 35)) (k0_pay38 (rows 36)) (k0_pay39 (rows 37)) (k0_pay40 (rows 38)) (k0_pay41 (rows 39)) (k0_pay42 (rows 40)) (k0_pay43 (rows 41)) (k0_pay44 (rows 42)) (k0_pay45 (rows 43)) (k0_pay46 (rows 44)) (k0_pay47 (rows 45)) (k0_pay48 (rows 46)) (k0_pay49 (rows 47)) (k0_pay50 (rows 48)) (k0_pay51 (rows 49)) (k0_pay52 (rows 50)) (k0_pay53 (rows 51)) (k0_pay54 (rows 52)) (k0_pay55 (rows 53)) (k0_pay56 (rows 54)) (k0_pay57 (rows 55)) (k0_pay58 (rows 56)) (k0_pay59 (rows 57)) (k0_pay60 (rows 58)) (k0_pay61 (rows 59)) (k0_pay62 (rows 60)) (k0_pay63 (rows 61)) (k0_pay64 (rows 62)) (k0_pay65 (rows 63)) (k0_pay66 (rows 64)) (k0_pay67 (rows 65)) (k0_pay68 (rows 66)) (k0_pay69 (rows 67)) (k0_pay70 (rows 68)) (k0_pay71 (rows 69)) (k0_pay72 (rows 70)) (rows 71) (rows 72) (rows 73) (rows 74) (rows 75) (rows 76) (rows 77) (rows 78) (rows 79) W b)
    (k0_pay75 (k0_pay2 (rows 0)) (k0_pay3 (rows 1)) (k0_pay4 (rows 2)) (k0_pay5 (rows 3)) (k0_pay6 (rows 4)) (k0_pay7 (rows 5)) (k0_pay8 (rows 6)) (k0_pay9 (rows 7)) (k0_pay10 (rows 8)) (k0_pay11 (rows 9)) (k0_pay12 (rows 10)) (k0_pay13 (rows 11)) (k0_pay14 (rows 12)) (k0_pay15 (rows 13)) (k0_pay16 (rows 14)) (k0_pay17 (rows 15)) (k0_pay18 (rows 16)) (k0_pay19 (rows 17)) (k0_pay20 (rows 18)) (k0_pay21 (rows 19)) (k0_pay22 (rows 20)) (k0_pay23 (rows 21)) (k0_pay24 (rows 22)) (k0_pay25 (rows 23)) (k0_pay26 (rows 24)) (k0_pay27 (rows 25)) (k0_pay28 (rows 26)) (k0_pay29 (rows 27)) (k0_pay30 (rows 28)) (k0_pay31 (rows 29)) (k0_pay32 (rows 30)) (k0_pay33 (rows 31)) (k0_pay34 (rows 32)) (k0_pay35 (rows 33)) (k0_pay36 (rows 34)) (k0_pay37 (rows 35)) (k0_pay38 (rows 36)) (k0_pay39 (rows 37)) (k0_pay40 (rows 38)) (k0_pay41 (rows 39)) (k0_pay42 (rows 40)) (k0_pay43 (rows 41)) (k0_pay44 (rows 42)) (k0_pay45 (rows 43)) (k0_pay46 (rows 44)) (k0_pay47 (rows 45)) (k0_pay48 (rows 46)) (k0_pay49 (rows 47)) (k0_pay50 (rows 48)) (k0_pay51 (rows 49)) (k0_pay52 (rows 50)) (k0_pay53 (rows 51)) (k0_pay54 (rows 52)) (k0_pay55 (rows 53)) (k0_pay56 (rows 54)) (k0_pay57 (rows 55)) (k0_pay58 (rows 56)) (k0_pay59 (rows 57)) (k0_pay60 (rows 58)) (k0_pay61 (rows 59)) (k0_pay62 (rows 60)) (k0_pay63 (rows 61)) (k0_pay64 (rows 62)) (k0_pay65 (rows 63)) (k0_pay66 (rows 64)) (k0_pay67 (rows 65)) (k0_pay68 (rows 66)) (k0_pay69 (rows 67)) (k0_pay70 (rows 68)) (k0_pay71 (rows 69)) (k0_pay72 (rows 70)) (rows 71) (rows 72) (rows 73) (rows 74) (rows 75) (rows 76) (rows 77) (rows 78) (rows 79) W b) V c

theorem pre_eq (rows : Fin 80 → Vec Ideal S1x1x256 .f32) (W : Vec Ideal S256x512 .f32) (b : Vec Ideal S1x512 .f32) :
    k0_pay73 (k0_pay2 (rows 0)) (k0_pay3 (rows 1)) (k0_pay4 (rows 2)) (k0_pay5 (rows 3)) (k0_pay6 (rows 4)) (k0_pay7 (rows 5)) (k0_pay8 (rows 6)) (k0_pay9 (rows 7)) (k0_pay10 (rows 8)) (k0_pay11 (rows 9)) (k0_pay12 (rows 10)) (k0_pay13 (rows 11)) (k0_pay14 (rows 12)) (k0_pay15 (rows 13)) (k0_pay16 (rows 14)) (k0_pay17 (rows 15)) (k0_pay18 (rows 16)) (k0_pay19 (rows 17)) (k0_pay20 (rows 18)) (k0_pay21 (rows 19)) (k0_pay22 (rows 20)) (k0_pay23 (rows 21)) (k0_pay24 (rows 22)) (k0_pay25 (rows 23)) (k0_pay26 (rows 24)) (k0_pay27 (rows 25)) (k0_pay28 (rows 26)) (k0_pay29 (rows 27)) (k0_pay30 (rows 28)) (k0_pay31 (rows 29)) (k0_pay32 (rows 30)) (k0_pay33 (rows 31)) (k0_pay34 (rows 32)) (k0_pay35 (rows 33)) (k0_pay36 (rows 34)) (k0_pay37 (rows 35)) (k0_pay38 (rows 36)) (k0_pay39 (rows 37)) (k0_pay40 (rows 38)) (k0_pay41 (rows 39)) (k0_pay42 (rows 40)) (k0_pay43 (rows 41)) (k0_pay44 (rows 42)) (k0_pay45 (rows 43)) (k0_pay46 (rows 44)) (k0_pay47 (rows 45)) (k0_pay48 (rows 46)) (k0_pay49 (rows 47)) (k0_pay50 (rows 48)) (k0_pay51 (rows 49)) (k0_pay52 (rows 50)) (k0_pay53 (rows 51)) (k0_pay54 (rows 52)) (k0_pay55 (rows 53)) (k0_pay56 (rows 54)) (k0_pay57 (rows 55)) (k0_pay58 (rows 56)) (k0_pay59 (rows 57)) (k0_pay60 (rows 58)) (k0_pay61 (rows 59)) (k0_pay62 (rows 60)) (k0_pay63 (rows 61)) (k0_pay64 (rows 62)) (k0_pay65 (rows 63)) (k0_pay66 (rows 64)) (k0_pay67 (rows 65)) (k0_pay68 (rows 66)) (k0_pay69 (rows 67)) (k0_pay70 (rows 68)) (k0_pay71 (rows 69)) (k0_pay72 (rows 70)) (rows 71) (rows 72) (rows 73) (rows 74) (rows 75) (rows 76) (rows 77) (rows 78) (rows 79) W b
      = lin (cat rows) W b := rfl

theorem half_eq (rows : Fin 80 → Vec Ideal S1x1x256 .f32) (W : Vec Ideal S256x512 .f32) (b : Vec Ideal S1x512 .f32) (i : S80x512.Idx) :
    k0_pay74 (k0_pay2 (rows 0)) (k0_pay3 (rows 1)) (k0_pay4 (rows 2)) (k0_pay5 (rows 3)) (k0_pay6 (rows 4)) (k0_pay7 (rows 5)) (k0_pay8 (rows 6)) (k0_pay9 (rows 7)) (k0_pay10 (rows 8)) (k0_pay11 (rows 9)) (k0_pay12 (rows 10)) (k0_pay13 (rows 11)) (k0_pay14 (rows 12)) (k0_pay15 (rows 13)) (k0_pay16 (rows 14)) (k0_pay17 (rows 15)) (k0_pay18 (rows 16)) (k0_pay19 (rows 17)) (k0_pay20 (rows 18)) (k0_pay21 (rows 19)) (k0_pay22 (rows 20)) (k0_pay23 (rows 21)) (k0_pay24 (rows 22)) (k0_pay25 (rows 23)) (k0_pay26 (rows 24)) (k0_pay27 (rows 25)) (k0_pay28 (rows 26)) (k0_pay29 (rows 27)) (k0_pay30 (rows 28)) (k0_pay31 (rows 29)) (k0_pay32 (rows 30)) (k0_pay33 (rows 31)) (k0_pay34 (rows 32)) (k0_pay35 (rows 33)) (k0_pay36 (rows 34)) (k0_pay37 (rows 35)) (k0_pay38 (rows 36)) (k0_pay39 (rows 37)) (k0_pay40 (rows 38)) (k0_pay41 (rows 39)) (k0_pay42 (rows 40)) (k0_pay43 (rows 41)) (k0_pay44 (rows 42)) (k0_pay45 (rows 43)) (k0_pay46 (rows 44)) (k0_pay47 (rows 45)) (k0_pay48 (rows 46)) (k0_pay49 (rows 47)) (k0_pay50 (rows 48)) (k0_pay51 (rows 49)) (k0_pay52 (rows 50)) (k0_pay53 (rows 51)) (k0_pay54 (rows 52)) (k0_pay55 (rows 53)) (k0_pay56 (rows 54)) (k0_pay57 (rows 55)) (k0_pay58 (rows 56)) (k0_pay59 (rows 57)) (k0_pay60 (rows 58)) (k0_pay61 (rows 59)) (k0_pay62 (rows 60)) (k0_pay63 (rows 61)) (k0_pay64 (rows 62)) (k0_pay65 (rows 63)) (k0_pay66 (rows 64)) (k0_pay67 (rows 65)) (k0_pay68 (rows 66)) (k0_pay69 (rows 67)) (k0_pay70 (rows 68)) (k0_pay71 (rows 69)) (k0_pay72 (rows 70)) (rows 71) (rows 72) (rows 73) (rows 74) (rows 75) (rows 76) (rows 77) (rows 78) (rows 79) W b i
      = Ideal.ofBits .f32 0x3F000000#32 * lin (cat rows) W b i := by
  simp only [k0_pay74, pre_eq]
  first | rfl | pointwise []

theorem erf_eq (rows : Fin 80 → Vec Ideal S1x1x256 .f32) (W : Vec Ideal S256x512 .f32) (b : Vec Ideal S1x512 .f32) (i : S80x512.Idx) :
    k0_pay75 (k0_pay2 (rows 0)) (k0_pay3 (rows 1)) (k0_pay4 (rows 2)) (k0_pay5 (rows 3)) (k0_pay6 (rows 4)) (k0_pay7 (rows 5)) (k0_pay8 (rows 6)) (k0_pay9 (rows 7)) (k0_pay10 (rows 8)) (k0_pay11 (rows 9)) (k0_pay12 (rows 10)) (k0_pay13 (rows 11)) (k0_pay14 (rows 12)) (k0_pay15 (rows 13)) (k0_pay16 (rows 14)) (k0_pay17 (rows 15)) (k0_pay18 (rows 16)) (k0_pay19 (rows 17)) (k0_pay20 (rows 18)) (k0_pay21 (rows 19)) (k0_pay22 (rows 20)) (k0_pay23 (rows 21)) (k0_pay24 (rows 22)) (k0_pay25 (rows 23)) (k0_pay26 (rows 24)) (k0_pay27 (rows 25)) (k0_pay28 (rows 26)) (k0_pay29 (rows 27)) (k0_pay30 (rows 28)) (k0_pay31 (rows 29)) (k0_pay32 (rows 30)) (k0_pay33 (rows 31)) (k0_pay34 (rows 32)) (k0_pay35 (rows 33)) (k0_pay36 (rows 34)) (k0_pay37 (rows 35)) (k0_pay38 (rows 36)) (k0_pay39 (rows 37)) (k0_pay40 (rows 38)) (k0_pay41 (rows 39)) (k0_pay42 (rows 40)) (k0_pay43 (rows 41)) (k0_pay44 (rows 42)) (k0_pay45 (rows 43)) (k0_pay46 (rows 44)) (k0_pay47 (rows 45)) (k0_pay48 (rows 46)) (k0_pay49 (rows 47)) (k0_pay50 (rows 48)) (k0_pay51 (rows 49)) (k0_pay52 (rows 50)) (k0_pay53 (rows 51)) (k0_pay54 (rows 52)) (k0_pay55 (rows 53)) (k0_pay56 (rows 54)) (k0_pay57 (rows 55)) (k0_pay58 (rows 56)) (k0_pay59 (rows 57)) (k0_pay60 (rows 58)) (k0_pay61 (rows 59)) (k0_pay62 (rows 60)) (k0_pay63 (rows 61)) (k0_pay64 (rows 62)) (k0_pay65 (rows 63)) (k0_pay66 (rows 64)) (k0_pay67 (rows 65)) (k0_pay68 (rows 66)) (k0_pay69 (rows 67)) (k0_pay70 (rows 68)) (k0_pay71 (rows 69)) (k0_pay72 (rows 70)) (rows 71) (rows 72) (rows 73) (rows 74) (rows 75) (rows 76) (rows 77) (rows 78) (rows 79) W b i
      = Ideal.erf (lin (cat rows) W b i * Ideal.ofBits .f32 0x3F3504F3#32) := by
  simp only [k0_pay75, pre_eq]
  first | rfl | pointwise []

theorem out_apply (rows : Fin 80 → Vec Ideal S1x1x256 .f32) (W : Vec Ideal S256x512 .f32) (b : Vec Ideal S1x512 .f32) (V : Vec Ideal S512x256 .f32) (c : Vec Ideal S1x256 .f32) (q : Fin 16) (d : Fin 256) :
    out rows W b V c (ix3 0 q d)
      = loc (fun k a => rows ⟨q.val * 5 + k.val, by omega⟩ (ix3 0 0 a)) (fun a e => W (ix2 a e)) (fun e => b (ix2 0 e)) (fun e d => V (ix2 e d)) (fun d => c (ix2 0 d)) d := by
  rw [out, pay1_apply, loc]
  simp only [half_eq, erf_eq, lin_apply, cat_apply, gel]

end Cert.LocalBlock

end
-- ==== Proof.LocalRef.lean ====
module

public import proofs.«01_k».proof.Proof.Gen.LocalRefIdeal.Run
public import proofs.«01_k».proof.Proof.LocalBlock
public import proofs.«01_k».proof.Proof.HeadRef
public import Idealize.ShloMosaic.Lib.Pointwise
public import Idealize.ShloMosaic.Lib.ValueIdx

@[expose] public section

set_option maxRecDepth 16384

noncomputable section

namespace Cert.LocalRef

open Cert.LocalRefIdeal Cert.LocalRefIdeal.Gen Idealize.ShloMosaic
open Cert.HeadBlock (gel)
open Cert.HeadRef (rgel rgel_apply)
open Cert.LocalBlock (loc)

/-- The indices, five to a query. -/
def ridx (idx : IVec S1120 32) : IVec S224x5 32 := shapeCast _ idx shapeCasts_S1120_S224x5

/-- The row numbers, a negative one counted from the end. -/
def rstart (x : IVec S224x5 32) : IVec S224x5x1 32 :=
  broadcastInDim S224x5x1 ![0, 1] bcast_S224x5_S224x5x1_0_1 (select (cmpi .slt x (broadcastInDim S224x5 ![] bcast_S_S224x5 (constantI S_ 32 0#32))) (addi x (broadcastInDim S224x5 ![] bcast_S_S224x5 (constantI S_ 32 100000#32))) x)

/-- The gathered rows. -/
def rgath (idx : IVec S1120 32) (bank : FVec Ideal S100000x256 .f32) : FVec Ideal S224x5x256 .f32 :=
  Host.gather gather_S100000x256_S224x5x1_S224x5x256_2_0_n_n_0_2_1256 bank (rstart (ridx idx))

/-- The first layer. -/
def rone (x : FVec Ideal S224x5x256 .f32) (W : FVec Ideal S256x512 .f32) (b : FVec Ideal S512 .f32) : FVec Ideal S224x5x512 .f32 :=
  addf (Host.dotGeneral dot_S224x5x256_S256x512_S224x5x512_2_0_01_1_n_n none x W) (broadcastInDim S224x5x512 ![0, 1, 2] bcast_S1x1x512_S224x5x512_0_1_2 (broadcastInDim S1x1x512 ![2] bcast_S512_S1x1x512_2 b))

/-- The second. -/
def rtwo (x : FVec Ideal S224x5x512 .f32) (V : FVec Ideal S512x256 .f32) (c : FVec Ideal S256 .f32) : FVec Ideal S224x5x256 .f32 :=
  addf (Host.dotGeneral dot_S224x5x512_S512x256_S224x5x256_2_0_01_1_n_n none x V) (broadcastInDim S224x5x256 ![0, 1, 2] bcast_S1x1x256_S224x5x256_0_1_2 (broadcastInDim S1x1x256 ![2] bcast_S256_S1x1x256_2 c))

/-- The mean of a query's five rows. -/
def rmean (x : FVec Ideal S224x5x256 .f32) : FVec Ideal S14x16x256 .f32 :=
  shapeCast _ (Host.divf (Host.reduceAdd x (constant S_ .f32 0x00000000#32) reducesTo_S224x5x256_S224x256_d1 h_S_) (broadcastInDim S224x256 ![] bcast_S_S224x256 (constant S_ .f32 0x40A00000#32))) shapeCasts_S224x256_S14x16x256

/-- The reference of its arguments. -/
def rlocal (idx : IVec S1120 32) (bank : FVec Ideal S100000x256 .f32) (W : FVec Ideal S256x512 .f32) (b : FVec Ideal S512 .f32) (V : FVec Ideal S512x256 .f32) (c : FVec Ideal S256 .f32) : FVec Ideal S14x16x256 .f32 :=
  rmean (rtwo (rgel S224x5x512 bcast_S_S224x5x512 (rone (rgath idx bank) W b)) V c)

theorem rone_apply (x : FVec Ideal S224x5x256 .f32) (W : FVec Ideal S256x512 .f32) (b : FVec Ideal S512 .f32) (r : Fin 224) (k : Fin 5) (e : Fin 512) :
    rone x W b (ix3 r k e) = (∑ a : Fin 256, x (ix3 r k a) * W (ix2 a e)) + b (ix1 e) := by
  pointwise [rone]

theorem rtwo_apply (x : FVec Ideal S224x5x512 .f32) (V : FVec Ideal S512x256 .f32) (c : FVec Ideal S256 .f32) (r : Fin 224) (k : Fin 5) (d : Fin 256) :
    rtwo x V c (ix3 r k d) = (∑ e : Fin 512, x (ix3 r k e) * V (ix2 e d)) + c (ix1 d) := by
  pointwise [rtwo]

theorem rmean_apply (x : FVec Ideal S224x5x256 .f32) (t : Fin 14) (q : Fin 16) (d : Fin 256) :
    rmean x (ix3 t q d) = Ideal.div (∑ k : Fin 5, x (ix3 ⟨t.val * 16 + q.val, by omega⟩ k d)) (Ideal.ofBits .f32 0x40A00000#32) := by
  pointwise [rmean]

theorem ridx_apply (idx : IVec S1120 32) (r : Fin 224) (k : Fin 5) : ridx idx (ix2 r k) = idx (ix1 ⟨r.val * 5 + k.val, by omega⟩) := by
  pointwise [ridx]

theorem not_neg (x : BitVec 32) (h : x.toNat < 100000) (y : BitVec 32) : Scalar.select (IntOp.cmpi .slt x 0#32) y x = x := by
  have e (b : Bool) : BitVec.ofBool b = 1#1 ↔ b = true := by revert b; decide
  refine if_neg fun hn => ?_
  have hn' : BitVec.ofBool (x.slt 0#32) = 1#1 := hn
  rw [e, BitVec.slt, decide_eq_true_eq, BitVec.toInt_eq_toNat_cond] at hn'
  simp only [BitVec.toInt_zero] at hn'
  split_ifs at hn' <;> omega

theorem rstart_apply (x : IVec S224x5 32) (r : Fin 224) (k : Fin 5) (h : (x (ix2 r k)).toNat < 100000) : rstart x (ix3 r k 0) = x (ix2 r k) := by
  refine Eq.trans ?_ (not_neg _ h (IntOp.addi (x (ix2 r k)) 100000#32))
  have e : rstart x (ix3 r k 0) = (select (cmpi .slt x (broadcastInDim S224x5 ![] bcast_S_S224x5 (constantI S_ 32 0#32))) (addi x (broadcastInDim S224x5 ![] bcast_S_S224x5 (constantI S_ 32 100000#32))) x) (ix2 r k) := by
    refine congrArg (select _ _ _) (funext fun a => ?_)
    match a with
    | ⟨0, _⟩ => rfl
    | ⟨1, _⟩ => rfl
  rw [e]
  rfl

/-- A gather of whole rows read at an entry: the row the start index names, clamped to the bank. -/
theorem gather_apply (bank : FVec Ideal S100000x256 .f32) (s : IVec S224x5x1 32) (r : Fin 224) (k : Fin 5) (d : Fin 256) (n : Fin 100000) (hn : (s (ix3 r k 0)).toNat = n.val) :
    Host.gather gather_S100000x256_S224x5x1_S224x5x256_2_0_n_n_0_2_1256 bank s (ix3 r k d) = bank (ix2 n d) := by
  have hs : min (s (ix3 r k 0)).toInt.toNat (100000 - 1) = n.val := by
    have hlt := n.isLt
    rw [BitVec.toInt_eq_toNat_cond, if_pos (by omega)]
    omega
  refine congrArg bank (funext fun a => Fin.ext ?_)
  match a with
  | ⟨0, _⟩ =>
    show GatherDims.start _ (ix3 r k d) s 0 + GatherDims.batchCoord _ (ix3 r k d) 0 + GatherDims.offCoord _ (ix3 r k d) 0 = n.val
    rw [GatherDims.batchCoord_eq_zero _ _ _ List.not_mem_nil, GatherDims.offCoord_eq_zero _ _ _ (fun h => ((GatherDims.mem_sKept _ _).mp h).1 (List.mem_singleton.mpr rfl))]
    simp only [Nat.add_zero]
    refine Eq.trans ?_ hs
    unfold GatherDims.start
    refine (dif_pos (show (0 : Fin 2) ∈ gather_S100000x256_S224x5x1_S224x5x256_2_0_n_n_0_2_1256.startIndexMap from List.mem_singleton.mpr rfl)).trans ?_
    have hi : GatherDims.siIdx gather_S100000x256_S224x5x1_S224x5x256_2_0_n_n_0_2_1256 (ix3 r k d) ⟨List.idxOf (0 : Fin 2) [(0 : Fin 2)], List.idxOf_lt_length_iff.2 (List.mem_singleton.mpr rfl)⟩ = ix3 r k 0 := by
      funext b
      refine Fin.ext ?_
      match b with
      | ⟨0, _⟩ => rfl
      | ⟨1, _⟩ => rfl
      | ⟨2, _⟩ => rfl
    exact congrArg (fun z => min (s z).toInt.toNat (100000 - 1)) hi
  | ⟨1, _⟩ =>
    show GatherDims.start _ (ix3 r k d) s 1 + GatherDims.batchCoord _ (ix3 r k d) 1 + GatherDims.offCoord _ (ix3 r k d) 1 = d.val
    rw [GatherDims.batchCoord_eq_zero _ _ _ List.not_mem_nil]
    unfold GatherDims.start
    have e : ∀ x : (1 : Fin 2) ∈ gather_S100000x256_S224x5x1_S224x5x256_2_0_n_n_0_2_1256.startIndexMap → ℕ, (if ha : (1 : Fin 2) ∈ gather_S100000x256_S224x5x1_S224x5x256_2_0_n_n_0_2_1256.startIndexMap then x ha else 0) = 0 := fun x => dif_neg (show (1 : Fin 2) ∉ [(0 : Fin 2)] by decide)
    refine (congrArg (fun z => z + 0 + GatherDims.offCoord gather_S100000x256_S224x5x1_S224x5x256_2_0_n_n_0_2_1256 (ix3 r k d) 1) (e _)).trans ?_
    simp only [Nat.zero_add, Nat.add_zero]
    rfl

/-- The bank's row at a place of the indices. -/
def rowNo (idx : IVec S1120 32) (n : Fin 1120) : Fin 100000 := ⟨min (idx (ix1 n)).toNat 99999, by omega⟩

/-- One entry of the local branch of the arguments. -/
def at3 (idx : IVec S1120 32) (bank : FVec Ideal S100000x256 .f32) (W : FVec Ideal S256x512 .f32) (b : FVec Ideal S512 .f32) (V : FVec Ideal S512x256 .f32) (c : FVec Ideal S256 .f32) (t : Fin 14) (q : Fin 16) (d : Fin 256) : EReal :=
  loc (fun k a => bank (ix2 (rowNo idx ⟨(t.val * 16 + q.val) * 5 + k.val, by omega⟩) a)) (fun a e => W (ix2 a e)) (fun e => b (ix1 e)) (fun e d => V (ix2 e d)) (fun d => c (ix1 d)) d

theorem rgath_apply (idx : IVec S1120 32) (bank : FVec Ideal S100000x256 .f32) (h : ∀ w, (idx w).toNat < 100000) (r : Fin 224) (k : Fin 5) (d : Fin 256) :
    rgath idx bank (ix3 r k d) = bank (ix2 (rowNo idx ⟨r.val * 5 + k.val, by omega⟩) d) := by
  refine gather_apply bank _ r k d _ ?_
  have hl := h (ix1 ⟨r.val * 5 + k.val, by omega⟩)
  rw [rstart_apply _ _ _ (by rw [ridx_apply]; exact hl), ridx_apply]
  show _ = min _ 99999
  omega

theorem rlocal_apply (idx : IVec S1120 32) (bank : FVec Ideal S100000x256 .f32) (W : FVec Ideal S256x512 .f32) (b : FVec Ideal S512 .f32) (V : FVec Ideal S512x256 .f32) (c : FVec Ideal S256 .f32)
    (h : ∀ w, (idx w).toNat < 100000) (t : Fin 14) (q : Fin 16) (d : Fin 256) : rlocal idx bank W b V c (ix3 t q d) = at3 idx bank W b V c t q d := by
  rw [rlocal, rmean_apply, at3, loc]
  simp only [rtwo_apply, rgel_apply, rone_apply, rgath_apply idx bank h]

end Cert.LocalRef

end
-- ==== Proof.LocalValue.lean ====
module

public import proofs.«01_k».proof.Proof.LocalIdealFrame
public import proofs.«01_k».proof.Proof.LocalIdealOk
public import proofs.«01_k».proof.Proof.LocalBlock
public import proofs.«01_k».proof.Proof.LocalRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LocalValue

open Cert.LocalIdeal Cert.LocalIdeal.Gen Cert.LocalIdealOk Cert.LocalBlock Idealize.ShloMosaic Idealize.ShloMosaic.TcCoe Idealize.SL.Sem
open Cert.LocalRef (rowNo at3)

/-- A block that is the whole of a two-axis array. -/
theorem whole2 {n0 n1 : ℕ} (h : ∀ a, ((![0, 0] : Fin 2 → ℕ) a + 1) * (![n0, n1] : Fin 2 → ℕ) a ≤ (⟨2, ![n0, n1]⟩ : Shape).size a) (y0 : Fin n0) (y1 : Fin n1) :
    (Rect.block (s := ⟨2, ![n0, n1]⟩) ![n0, n1] ![0, 0] h).idx (ix2 y0 y1) = ix2 y0 y1 := by
  funext a
  refine Fin.ext ?_
  match a with
  | ⟨0, _⟩ => show 0 * n0 + 1 * y0.val = y0.val; omega
  | ⟨1, _⟩ => show 0 * n1 + 1 * y1.val = y1.val; omega

/-- A block that is one row of the bank. -/
theorem row3 (n : ℕ) (hn : n < 100000) (h : ∀ a, ((![n, 0, 0] : Fin 3 → ℕ) a + 1) * S1x1x256.size a ≤ S100000x1x256.size a) (d : Fin 256) :
    (Rect.block (s := S100000x1x256) S1x1x256.size ![n, 0, 0] h).idx (ix3 0 0 d) = ix3 ⟨n, hn⟩ 0 d := by
  funext a
  refine Fin.ext ?_
  match a with
  | ⟨0, _⟩ => show n * 1 + 1 * 0 = n; omega
  | ⟨1, _⟩ => rfl
  | ⟨2, _⟩ => show 0 * 256 + 1 * d.val = d.val; omega

/-- A block of the result: the sixteen queries of a point. -/
theorem slab3 (n : ℕ) (hn : n < 14) (h : ∀ a, ((![n, 0, 0] : Fin 3 → ℕ) a + 1) * S1x16x256.size a ≤ S14x16x256.size a) (y0 : Fin 1) (q : Fin 16) (d : Fin 256) :
    (Rect.block (s := S14x16x256) S1x16x256.size ![n, 0, 0] h).idx (ix3 y0 q d) = ix3 ⟨n, hn⟩ q d := by
  funext a
  refine Fin.ext ?_
  match a with
  | ⟨0, _⟩ => show n * 1 + 1 * y0.val = n; omega
  | ⟨1, _⟩ => show 0 * 16 + 1 * q.val = q.val; omega
  | ⟨2, _⟩ => show 0 * 256 + 1 * d.val = d.val; omega

set_option maxHeartbeats 4000000 in
/-- What the body stores, whatever buffers it runs over. -/
theorem out_run (c : Dev nD) (i : grid0.Coords) (arg2 : Memref sig .tc .vmem S1x1x256 .f32) (harg2 : arg2.IsWhole) (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x256 .f32) (harg13 : arg13.IsWhole) (arg14 : Memref sig .tc .vmem S1x1x256 .f32) (harg14 : arg14.IsWhole) (arg15 : Memref sig .tc .vmem S1x1x256 .f32) (harg15 : arg15.IsWhole) (arg16 : Memref sig .tc .vmem S1x1x256 .f32) (harg16 : arg16.IsWhole) (arg17 : Memref sig .tc .vmem S1x1x256 .f32) (harg17 : arg17.IsWhole) (arg18 : Memref sig .tc .vmem S1x1x256 .f32) (harg18 : arg18.IsWhole) (arg19 : Memref sig .tc .vmem S1x1x256 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S1x1x256 .f32) (harg36 : arg36.IsWhole) (arg37 : Memref sig .tc .vmem S1x1x256 .f32) (harg37 : arg37.IsWhole) (arg38 : Memref sig .tc .vmem S1x1x256 .f32) (harg38 : arg38.IsWhole) (arg39 : Memref sig .tc .vmem S1x1x256 .f32) (harg39 : arg39.IsWhole) (arg40 : Memref sig .tc .vmem S1x1x256 .f32) (harg40 : arg40.IsWhole) (arg41 : Memref sig .tc .vmem S1x1x256 .f32) (harg41 : arg41.IsWhole) (arg42 : Memref sig .tc .vmem S1x1x256 .f32) (harg42 : arg42.IsWhole) (arg43 : Memref sig .tc .vmem S1x1x256 .f32) (harg43 : arg43.IsWhole) (arg44 : Memref sig .tc .vmem S1x1x256 .f32) (harg44 : arg44.IsWhole) (arg45 : Memref sig .tc .vmem S1x1x256 .f32) (harg45 : arg45.IsWhole) (arg46 : Memref sig .tc .vmem S1x1x256 .f32) (harg46 : arg46.IsWhole) (arg47 : Memref sig .tc .vmem S1x1x256 .f32) (harg47 : arg47.IsWhole) (arg48 : Memref sig .tc .vmem S1x1x256 .f32) (harg48 : arg48.IsWhole) (arg49 : Memref sig .tc .vmem S1x1x256 .f32) (harg49 : arg49.IsWhole) (arg50 : Memref sig .tc .vmem S1x1x256 .f32) (harg50 : arg50.IsWhole) (arg51 : Memref sig .tc .vmem S1x1x256 .f32) (harg51 : arg51.IsWhole) (arg52 : Memref sig .tc .vmem S1x1x256 .f32) (harg52 : arg52.IsWhole) (arg53 : Memref sig .tc .vmem S1x1x256 .f32) (harg53 : arg53.IsWhole) (arg54 : Memref sig .tc .vmem S1x1x256 .f32) (harg54 : arg54.IsWhole) (arg55 : Memref sig .tc .vmem S1x1x256 .f32) (harg55 : arg55.IsWhole) (arg56 : Memref sig .tc .vmem S1x1x256 .f32) (harg56 : arg56.IsWhole) (arg57 : Memref sig .tc .vmem S1x1x256 .f32) (harg57 : arg57.IsWhole) (arg58 : Memref sig .tc .vmem S1x1x256 .f32) (harg58 : arg58.IsWhole) (arg59 : Memref sig .tc .vmem S1x1x256 .f32) (harg59 : arg59.IsWhole) (arg60 : Memref sig .tc .vmem S1x1x256 .f32) (harg60 : arg60.IsWhole) (arg61 : Memref sig .tc .vmem S1x1x256 .f32) (harg61 : arg61.IsWhole) (arg62 : Memref sig .tc .vmem S1x1x256 .f32) (harg62 : arg62.IsWhole) (arg63 : Memref sig .tc .vmem S1x1x256 .f32) (harg63 : arg63.IsWhole) (arg64 : Memref sig .tc .vmem S1x1x256 .f32) (harg64 : arg64.IsWhole) (arg65 : Memref sig .tc .vmem S1x1x256 .f32) (harg65 : arg65.IsWhole) (arg66 : Memref sig .tc .vmem S1x1x256 .f32) (harg66 : arg66.IsWhole) (arg67 : Memref sig .tc .vmem S1x1x256 .f32) (harg67 : arg67.IsWhole) (arg68 : Memref sig .tc .vmem S1x1x256 .f32) (harg68 : arg68.IsWhole) (arg69 : Memref sig .tc .vmem S1x1x256 .f32) (harg69 : arg69.IsWhole) (arg70 : Memref sig .tc .vmem S1x1x256 .f32) (harg70 : arg70.IsWhole) (arg71 : Memref sig .tc .vmem S1x1x256 .f32) (harg71 : arg71.IsWhole) (arg72 : Memref sig .tc .vmem S1x1x256 .f32) (harg72 : arg72.IsWhole) (arg73 : Memref sig .tc .vmem S1x1x256 .f32) (harg73 : arg73.IsWhole) (arg74 : Memref sig .tc .vmem S1x1x256 .f32) (harg74 : arg74.IsWhole) (arg75 : Memref sig .tc .vmem S1x1x256 .f32) (harg75 : arg75.IsWhole) (arg76 : Memref sig .tc .vmem S1x1x256 .f32) (harg76 : arg76.IsWhole) (arg77 : Memref sig .tc .vmem S1x1x256 .f32) (harg77 : arg77.IsWhole) (arg78 : Memref sig .tc .vmem S1x1x256 .f32) (harg78 : arg78.IsWhole) (arg79 : Memref sig .tc .vmem S1x1x256 .f32) (harg79 : arg79.IsWhole) (arg80 : Memref sig .tc .vmem S1x1x256 .f32) (harg80 : arg80.IsWhole) (arg81 : Memref sig .tc .vmem S1x1x256 .f32) (harg81 : arg81.IsWhole) (arg82 : Memref sig .tc .vmem S256x512 .f32) (harg82 : arg82.IsWhole) (arg83 : Memref sig .tc .vmem S1x512 .f32) (harg83 : arg83.IsWhole) (arg84 : Memref sig .tc .vmem S512x256 .f32) (harg84 : arg84.IsWhole) (arg85 : Memref sig .tc .vmem S1x256 .f32) (harg85 : arg85.IsWhole) (arg86 : Memref sig .tc .vmem S1x16x256 .f32) (harg86 : arg86.IsWhole)
    (x : Fin 80 → Vec Ideal S1x1x256 .f32) (W : Vec Ideal S256x512 .f32) (b : Vec Ideal S1x512 .f32) (V : Vec Ideal S512x256 .f32) (d : Vec Ideal S1x256 .f32) (u : TbBuf0 (F := Ideal) c tbM0_0) :
    out0_A_84 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76 arg77 harg77 arg78 harg78 arg79 harg79 arg80 harg80 arg81 harg81 arg82 harg82 arg83 harg83 arg84 harg84 arg85 harg85 arg86 harg86 (x 0) (x 1) (x 2) (x 3) (x 4) (x 5) (x 6) (x 7) (x 8) (x 9) (x 10) (x 11) (x 12) (x 13) (x 14) (x 15) (x 16) (x 17) (x 18) (x 19) (x 20) (x 21) (x 22) (x 23) (x 24) (x 25) (x 26) (x 27) (x 28) (x 29) (x 30) (x 31) (x 32) (x 33) (x 34) (x 35) (x 36) (x 37) (x 38) (x 39) (x 40) (x 41) (x 42) (x 43) (x 44) (x 45) (x 46) (x 47) (x 48) (x 49) (x 50) (x 51) (x 52) (x 53) (x 54) (x 55) (x 56) (x 57) (x 58) (x 59) (x 60) (x 61) (x 62) (x 63) (x 64) (x 65) (x 66) (x 67) (x 68) (x 69) (x 70) (x 71) (x 72) (x 73) (x 74) (x 75) (x 76) (x 77) (x 78) (x 79) W b V d u = out x W b V d := by
  unfold out0_A_84
  frame_out
  rfl

theorem loc_of {x x' : Fin 5 → Fin 256 → EReal} {W W' : Fin 256 → Fin 512 → EReal} {b b' : Fin 512 → EReal} {V V' : Fin 512 → Fin 256 → EReal} {c c' : Fin 256 → EReal}
    (h1 : x = x') (h2 : W = W') (h3 : b = b') (h4 : V = V') (h5 : c = c') (d : Fin 256) : loc x W b V c d = loc x' W' b' V' c' d := by
  subst h1 h2 h3 h4 h5
  rfl

variable (m : (ℓ : Loc nD τ sig) → Buf (Elt Ideal) ℓ) (hO : Ok m) (hw : ∀ w, ((tbl m 0 : IVec S1120 32) w).toNat < 100000) (c : Dev nD)

theorem bank_eq (r : Fin 100000) (d : Fin 256) :
    (V m c main_v0 : Vec Ideal S100000x1x256 .f32) (ix3 r 0 d) = (m ((c : Thread nD τ).loc main_arg1) : Vec Ideal S100000x256 .f32) (ix2 r d) := by
  refine (show (V m c main_v0 : Vec Ideal S100000x1x256 .f32) (ix3 r 0 d) = (shapeCast S100000x1x256 (m ((c : Thread nD τ).loc main_arg1) : Vec Ideal S100000x256 .f32) shapeCasts_S100000x256_S100000x1x256) (ix3 r 0 d) from ?_).trans ?_
  · simp only [V, hostOps0]
    after_results_simp
    rfl
  · pointwise

theorem b1_eq (e : Fin 512) :
    (V m c main_v1 : Vec Ideal S1x512 .f32) (ix2 0 e) = (m ((c : Thread nD τ).loc main_arg3) : Vec Ideal S512 .f32) (ix1 e) := by
  refine (show (V m c main_v1 : Vec Ideal S1x512 .f32) (ix2 0 e) = (shapeCast S1x512 (m ((c : Thread nD τ).loc main_arg3) : Vec Ideal S512 .f32) shapeCasts_S512_S1x512) (ix2 0 e) from ?_).trans ?_
  · simp only [V, hostOps0]
    after_results_simp
    rfl
  · pointwise

theorem b2_eq (e : Fin 256) :
    (V m c main_v2 : Vec Ideal S1x256 .f32) (ix2 0 e) = (m ((c : Thread nD τ).loc main_arg5) : Vec Ideal S256 .f32) (ix1 e) := by
  refine (show (V m c main_v2 : Vec Ideal S1x256 .f32) (ix2 0 e) = (shapeCast S1x256 (m ((c : Thread nD τ).loc main_arg5) : Vec Ideal S256 .f32) shapeCasts_S256_S1x256) (ix2 0 e) from ?_).trans ?_
  · simp only [V, hostOps0]
    after_results_simp
    rfl
  · pointwise

theorem blk_w1 (t : Fin (cfgM m hO).N) (a : Fin 256) (e : Fin 512) :
    (iblk m hO c 80 t : Vec Ideal S256x512 .f32) (ix2 a e) = (m ((c : Thread nD τ).loc main_arg2) : Vec Ideal S256x512 .f32) (ix2 a e) := by
  refine (show (iblk m hO c 80 t : Vec Ideal S256x512 .f32) (ix2 a e) = (V m c main_arg2 : Vec Ideal S256x512 .f32) ((Rect.block (s := S256x512) ![256, 512] ![0, 0] (by decide)).idx (ix2 a e)) from rfl).trans ?_
  rw [whole2, V_main_arg2]

theorem blk_b1 (t : Fin (cfgM m hO).N) (e : Fin 512) :
    (iblk m hO c 81 t : Vec Ideal S1x512 .f32) (ix2 0 e) = (m ((c : Thread nD τ).loc main_arg3) : Vec Ideal S512 .f32) (ix1 e) := by
  refine (show (iblk m hO c 81 t : Vec Ideal S1x512 .f32) (ix2 0 e) = (V m c main_v1 : Vec Ideal S1x512 .f32) ((Rect.block (s := S1x512) ![1, 512] ![0, 0] (by decide)).idx (ix2 0 e)) from rfl).trans ?_
  rw [whole2, b1_eq]

theorem blk_w2 (t : Fin (cfgM m hO).N) (e : Fin 512) (d : Fin 256) :
    (iblk m hO c 82 t : Vec Ideal S512x256 .f32) (ix2 e d) = (m ((c : Thread nD τ).loc main_arg4) : Vec Ideal S512x256 .f32) (ix2 e d) := by
  refine (show (iblk m hO c 82 t : Vec Ideal S512x256 .f32) (ix2 e d) = (V m c main_arg4 : Vec Ideal S512x256 .f32) ((Rect.block (s := S512x256) ![512, 256] ![0, 0] (by decide)).idx (ix2 e d)) from rfl).trans ?_
  rw [whole2, V_main_arg4]

theorem blk_b2 (t : Fin (cfgM m hO).N) (d : Fin 256) :
    (iblk m hO c 83 t : Vec Ideal S1x256 .f32) (ix2 0 d) = (m ((c : Thread nD τ).loc main_arg5) : Vec Ideal S256 .f32) (ix1 d) := by
  refine (show (iblk m hO c 83 t : Vec Ideal S1x256 .f32) (ix2 0 d) = (V m c main_v2 : Vec Ideal S1x256 .f32) ((Rect.block (s := S1x256) ![1, 256] ![0, 0] (by decide)).idx (ix2 0 d)) from rfl).trans ?_
  rw [whole2, b2_eq]

/-- The eighty rows that the windows bring at a point. -/
def rows (i : grid0.Coords) (j : Fin 80) : Vec Ideal S1x1x256 .f32 :=
  ((View.whole main_v0).slice (Rect.block (s := S100000x1x256) S1x1x256.size ![(word (tbl m) i j).toNat, 0, 0] (row_ok (tbl m) hw i j))).read (Elt Ideal) (V m c main_v0)

theorem rows_apply (i : grid0.Coords) (j : Fin 80) (d : Fin 256) :
    rows m hw c i j (ix3 0 0 d)
      = (m ((c : Thread nD τ).loc main_arg1) : Vec Ideal S100000x256 .f32)
          (ix2 (rowNo (tbl m 0) ⟨(i 0).val * 80 + j.val, by have h : (i 0).val < 14 := (i 0).isLt; omega⟩) d) := by
  have hl : (word (tbl m) i j).toNat < 100000 := by rw [word_eq]; exact hw _
  refine (show rows m hw c i j (ix3 0 0 d) = (V m c main_v0 : Vec Ideal S100000x1x256 .f32) ((Rect.block (s := S100000x1x256) S1x1x256.size ![(word (tbl m) i j).toNat, 0, 0] (row_ok (tbl m) hw i j)).idx (ix3 0 0 d)) from rfl).trans ?_
  rw [row3 _ hl, bank_eq]
  refine congrArg (fun r => (m ((c : Thread nD τ).loc main_arg1) : Vec Ideal S100000x256 .f32) (ix2 r d)) (Fin.ext ?_)
  show (word (tbl m) i j).toNat = min _ 99999
  rw [word_eq] at hl ⊢
  omega

set_option maxHeartbeats 4000000 in
/-- What the body leaves at a point. -/
theorem outs (t : Fin (cfgM m hO).N) : outsAt0 m hO c t = out (rows m hw c (grid0.coords t)) (iblk m hO c 80 t) (iblk m hO c 81 t) (iblk m hO c 82 t) (iblk m hO c 83 t) :=
  out_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (rows m hw c (grid0.coords t)) (iblk m hO c 80 t) (iblk m hO c 81 t) (iblk m hO c 82 t) (iblk m hO c 83 t) _

/-- One entry of the launch's result. -/
def res (t : Fin 14) (q : Fin 16) (d : Fin 256) : EReal :=
  at3 (tbl m 0) (m ((c : Thread nD τ).loc main_arg1)) (m ((c : Thread nD τ).loc main_arg2)) (m ((c : Thread nD τ).loc main_arg3)) (m ((c : Thread nD τ).loc main_arg4)) (m ((c : Thread nD τ).loc main_arg5)) t q d

theorem point (n : Fin 14) : (grid0.coords (n : Fin grid0.N) 0).val = n.val := (by decide +kernel : ∀ n : Fin grid0.N, (grid0.coords n 0).val = n.val) n

include hw in
theorem outs_apply (t : Fin (cfgM m hO).N) (q : Fin 16) (d : Fin 256) : outsAt0 m hO c t (ix3 0 q d) = res m c ⟨t.val, t.isLt⟩ q d := by
  refine (congrFun (outs m hO hw c t) _).trans ((out_apply _ _ _ _ _ q d).trans ?_)
  have hN : t.val < 14 := t.isLt
  have hp : (grid0.coords t 0).val = t.val := point ⟨t.val, t.isLt⟩
  have hn : ∀ k : Fin 5, (⟨(grid0.coords t 0).val * 80 + (q.val * 5 + k.val), by omega⟩ : Fin 1120) = ⟨(t.val * 16 + q.val) * 5 + k.val, by omega⟩ := fun k => Fin.ext (by show (grid0.coords t 0).val * 80 + (q.val * 5 + k.val) = (t.val * 16 + q.val) * 5 + k.val; omega)
  have e1 : (fun (k : Fin 5) (a : Fin 256) => rows m hw c (grid0.coords t) ⟨q.val * 5 + k.val, by omega⟩ (ix3 0 0 a)) = fun k a => (m ((c : Thread nD τ).loc main_arg1) : Vec Ideal S100000x256 .f32) (ix2 (rowNo (tbl m 0) ⟨(t.val * 16 + q.val) * 5 + k.val, by omega⟩) a) :=
    funext fun k => funext fun a => by rw [rows_apply, hn]
  have e2 := funext fun a : Fin 256 => funext fun e : Fin 512 => blk_w1 m hO c t a e
  have e3 := funext fun e : Fin 512 => blk_b1 m hO c t e
  have e4 := funext fun e : Fin 512 => funext fun d : Fin 256 => blk_w2 m hO c t e d
  have e5 := funext fun d : Fin 256 => blk_b2 m hO c t d
  exact loc_of e1 e2 e3 e4 e5 d

theorem emb_out (t : Fin (cfgM m hO).N) (y0 : Fin 1) (q : Fin 16) (d : Fin 256) :
    (((cfgM m hO).win 84).blk t).view.emb (ix3 y0 q d) = (ix3 (⟨t.val, t.isLt⟩ : Fin 14) q d : S14x16x256.Idx) := by
  have hN : t.val < 14 := t.isLt
  have hp : (BitVec.ofNat 32 (grid0.coords t 0).val).toNat = t.val := by
    rw [show (grid0.coords t 0).val = t.val from point ⟨t.val, t.isLt⟩, BitVec.toNat_ofNat]
    omega
  have hb : ∀ a, ((![(BitVec.ofNat 32 (grid0.coords t 0).val).toNat, 0, 0] : Fin 3 → ℕ) a + 1) * S1x16x256.size a ≤ S14x16x256.size a := by
    rw [hp]
    intro a
    match a with
    | ⟨0, _⟩ => show (t.val + 1) * 1 ≤ 14; omega
    | ⟨1, _⟩ => show (0 + 1) * 16 ≤ 16; omega
    | ⟨2, _⟩ => show (0 + 1) * 256 ≤ 256; omega
  refine (show _ = (Rect.block (s := S14x16x256) S1x16x256.size ![(BitVec.ofNat 32 (grid0.coords t 0).val).toNat, 0, 0] hb).idx (ix3 y0 q d) from rfl).trans ?_
  rw [slab3 _ (by rw [hp]; exact hN)]
  exact congrArg (fun n : Fin 14 => (ix3 n q d : S14x16x256.Idx)) (Fin.ext hp)

include hw in
/-- The launch's result array. -/
theorem final : (dats m hO 0 c).arrAt 84 (cfgM m hO).N = fun i : S14x16x256.Idx => res m c (i 0) (i 1) (i 2) := by
  refine (dats m hO 0 c).arrAt_eq_of_emb 84 _ (fun t hf (y : S1x16x256.Idx) => ?_) fun (i : S14x16x256.Idx) => ?_
  · blk_simp
    rw [after0_84]
    idx_vars y
    have h0 : y0 = 0 := Subsingleton.elim (α := Fin 1) _ _
    subst h0
    refine (outs_apply m hO hw c t y1 y2).trans ?_
    rw [emb_out]
    rfl
  · have e : (((cfgM m hO).win 84).blk (⟨(i 0).val, (i 0).isLt⟩ : Fin 14)).view.emb (ix3 0 (i 1) (i 2) : S1x16x256.Idx) = i := (emb_out m hO (⟨(i 0).val, (i 0).isLt⟩ : Fin 14) 0 (i 1) (i 2)).trans (eq_ix3 i).symm
    refine ⟨(⟨(i 0).val, (i 0).isLt⟩ : Fin 14), flush0_84 (adm m hO) _, ?_⟩
    have k := View.emb_mem_set (((cfgM m hO).win 84).blk (⟨(i 0).val, (i 0).isLt⟩ : Fin 14)).view (ix3 0 (i 1) (i 2) : S1x16x256.Idx)
    rw [e] at k
    exact k

/-- The launch's result is the reference's. -/
theorem whole (h : ∀ w, ((m ((c : Thread nD τ).loc main_arg0) : IVec S1120 32) w).toNat < 100000) :
    (fun i : S14x16x256.Idx => res m c (i 0) (i 1) (i 2)) = Cert.LocalRef.rlocal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain rfl : c = 0 := Subsingleton.elim _ _
  funext i
  idx_vars i
  refine Eq.trans ?_ (Cert.LocalRef.rlocal_apply _ _ _ _ _ _ h i0 i1 i2).symm
  unfold res
  rw [tbl_eq]

end Cert.LocalValue

end
-- ==== Proof.EmbedBlock.lean ====
module

public import proofs.«01_k».proof.Proof.Gen.EmbedIdeal.Skeleton
public import Idealize.ShloMosaic.Lib.Pointwise

@[expose] public section

set_option maxRecDepth 16384

noncomputable section

namespace Cert.EmbedBlock

open Cert.EmbedIdeal Cert.EmbedIdeal.Gen Idealize.ShloMosaic

theorem pay1_apply (x : Vec Ideal S896x16 .f32) (W : Vec Ideal S16x256 .f32) (b : Vec Ideal S1x256 .f32) (r : Fin 896) (d : Fin 256) :
    k0_pay1 x W b (ix2 r d) = (∑ k : Fin 16, x (ix2 r k) * W (ix2 k d)) + b (ix2 0 d) := by
  pointwise [k0_pay1]

theorem pay2_apply (x : Vec Ideal S896x16 .f32) (W : Vec Ideal S16x256 .f32) (b : Vec Ideal S1x256 .f32) (q : Fin 14) (d : Fin 256) :
    k0_pay2 x W b (ix3 0 q d) = Ideal.div (∑ p : Fin 64, k0_pay1 x W b (ix2 ⟨q.val * 64 + p.val, by omega⟩ d)) (Ideal.ofBits .f32 0x42800000#32) := by
  unfold k0_pay2
  generalize k0_pay1 x W b = e
  pointwise

end Cert.EmbedBlock

end
-- ==== Proof.EmbedRef.lean ====
module

public import proofs.«01_k».proof.Proof.Gen.EmbedRefIdeal.Run
public import Idealize.ShloMosaic.Lib.IdealHost
public import Idealize.ShloMosaic.Lib.Pointwise

@[expose] public section

set_option maxRecDepth 16384

noncomputable section

namespace Cert.EmbedRef

open Cert.EmbedRefIdeal Cert.EmbedRefIdeal.Gen Idealize.ShloMosaic

/-- The mean of every series. -/
def rmean (x : FVec Ideal S32x512x7 .f32) : FVec Ideal S32x1x7 .f32 :=
  Host.divf (broadcastInDim S32x1x7 ![0, 2] bcast_S32x7_S32x1x7_0_2 (Host.reduceAdd x (constant S_ .f32 0x00000000#32) reducesTo_S32x512x7_S32x7_d1 h_S_)) (broadcastInDim S32x1x7 ![] bcast_S_S32x1x7 (constant S_ .f32 0x44000000#32))

/-- A series less its mean. -/
def rcent (x : FVec Ideal S32x512x7 .f32) : FVec Ideal S32x512x7 .f32 :=
  subf x (broadcastInDim S32x512x7 ![0, 1, 2] bcast_S32x1x7_S32x512x7_0_1_2 (rmean x))

/-- The number of samples the variance divides by. -/
def rnum : FVec Ideal S_ .f32 := subf (constant S_ .f32 0x44000000#32) (sitofp .f32 (constantI S_ 32 0#32))

/-- The variance of every series. -/
def rvar (x : FVec Ideal S32x512x7 .f32) : FVec Ideal S32x1x7 .f32 :=
  select (broadcastInDim S32x1x7 ![] bcast_S_S32x1x7 (cmpf .ogt rnum (constant S_ .f32 0x00000000#32)))
    (Host.divf (broadcastInDim S32x1x7 ![0, 2] bcast_S32x7_S32x1x7_0_2 (Host.reduceAdd (mulf (rcent x) (rcent x)) (constant S_ .f32 0x00000000#32) reducesTo_S32x512x7_S32x7_d1 h_S_)) (broadcastInDim S32x1x7 ![] bcast_S_S32x1x7 rnum))
    (broadcastInDim S32x1x7 ![] bcast_S_S32x1x7 (id (constant S_ .f32 0x7FC00000#32)))

/-- The spread of every series. -/
def rdev (x : FVec Ideal S32x512x7 .f32) : FVec Ideal S32x1x7 .f32 :=
  Host.sqrt (addf (rvar (rcent x)) (broadcastInDim S32x1x7 ![] bcast_S_S32x1x7 (constant S_ .f32 0x3727C5AC#32)))

/-- The spread over the norm constant, one. -/
def rone (s : FVec Ideal S32x1x7 .f32) : FVec Ideal S32x1x7 .f32 :=
  Host.divf s (broadcastInDim S32x1x7 ![] bcast_S_S32x1x7 (constant S_ .f32 0x3F800000#32))

/-- The normalised series, time last. -/
def rnorm (x : FVec Ideal S32x512x7 .f32) (s : FVec Ideal S32x1x7 .f32) : FVec Ideal S32x7x512 .f32 :=
  transpose S32x7x512 [0, 2, 1] (Host.divf (rcent x) (broadcastInDim S32x512x7 ![0, 1, 2] bcast_S32x1x7_S32x512x7_0_1_2 s)) transposes_S32x512x7_S32x7x512_0_2_1

/-- The first sample of a patch plus the place in the patch. -/
def rat : IVec S64x16 32 :=
  addi (broadcastInDim S64x16 ![0, 1] bcast_S64x1_S64x16_0_1 (muli (broadcastInDim S64x1 ![0] bcast_S64_S64x1_0 (iotaInDim S64 32 0)) (broadcastInDim S64x1 ![] bcast_S_S64x1 (constantI S_ 32 8#32))))
    (broadcastInDim S64x16 ![0, 1] bcast_S1x16_S64x16_0_1 (broadcastInDim S1x16 ![1] bcast_S16_S1x16_1 (iotaInDim S16 32 0)))

/-- The patches of the padded series. -/
def rpatch (y : FVec Ideal S32x7x512 .f32) : FVec Ideal S224x64x16 .f32 :=
  shapeCast _ (Host.gather gather_S32x7x520_S64x16x1_S32x7x64x16_01_2_n_n_2_2_3271
    (concatenate S32x7x520 2 [⟨S32x7x512, y⟩, ⟨S32x7x8, (shapeCast _ (broadcastInDim S32x7x1x8 ![0, 1, 2] bcast_S32x7x1_S32x7x1x8_0_1_2 (extractStridedSlice S32x7x1 ![0, 0, 511] y slices_S32x7x512_S32x7x1_0_0_511)) shapeCasts_S32x7x1x8_S32x7x8)⟩] concatenates_S32x7x512_S32x7x8_S32x7x520_d2)
    (broadcastInDim S64x16x1 ![0, 1] bcast_S64x16_S64x16x1_0_1 (select (cmpi .slt rat (broadcastInDim S64x16 ![] bcast_S_S64x16 (constantI S_ 32 0#32))) (addi rat (broadcastInDim S64x16 ![] bcast_S_S64x16 (constantI S_ 32 520#32))) rat)))
    shapeCasts_S32x7x64x16_S224x64x16

/-- The embedding of the patches. -/
def remb (p : FVec Ideal S224x64x16 .f32) (W : FVec Ideal S16x256 .f32) (b : FVec Ideal S256 .f32) : FVec Ideal S224x64x256 .f32 :=
  addf (Host.dotGeneral dot_S224x64x16_S16x256_S224x64x256_2_0_01_1_n_n none p W) (broadcastInDim S224x64x256 ![0, 1, 2] bcast_S1x1x256_S224x64x256_0_1_2 (broadcastInDim S1x1x256 ![2] bcast_S256_S1x1x256_2 b))

/-- The mean over the patches. -/
def rquery (e : FVec Ideal S224x64x256 .f32) : FVec Ideal S224x256 .f32 :=
  Host.divf (Host.reduceAdd e (constant S_ .f32 0x00000000#32) reducesTo_S224x64x256_S224x256_d1 h_S_) (broadcastInDim S224x256 ![] bcast_S_S224x256 (constant S_ .f32 0x42800000#32))

variable (m : (ℓ : Loc nD τ sig) → Buf (Elt Ideal) ℓ) (c : Dev nD)

theorem res_emb : Value.res_main_v39 m c = remb (rpatch (rnorm (m ((c.tc : Thread nD τ).loc main_arg0)) (rone (rdev (m ((c.tc : Thread nD τ).loc main_arg0)))))) (m ((c.tc : Thread nD τ).loc main_arg1)) (m ((c.tc : Thread nD τ).loc main_arg2)) := by
  unfold Value.res_main_v39
  rfl

theorem res_query : Value.res_main_v42 m c = rquery (Value.res_main_v39 m c) := by
  unfold Value.res_main_v42 Value.res_main_v39
  rfl

theorem rone_eq (s : FVec Ideal S32x1x7 .f32) : rone s = s := by
  funext i
  have h : rone s i = Ideal.div (s i) (Ideal.ofBits .f32 0x3F800000#32) := rfl
  rw [h, Ideal.ofBits_one_f32]
  unfold Ideal.div
  rw [if_neg one_ne_zero]
  simp

/-- The reference's embedding, the norm constant gone. -/
theorem res_emb_eq : Value.res_main_v39 m c = remb (rpatch (rnorm (m ((c.tc : Thread nD τ).loc main_arg0)) (rdev (m ((c.tc : Thread nD τ).loc main_arg0))))) (m ((c.tc : Thread nD τ).loc main_arg1)) (m ((c.tc : Thread nD τ).loc main_arg2)) := by
  rw [res_emb, rone_eq]

theorem remb_apply (p : FVec Ideal S224x64x16 .f32) (W : FVec Ideal S16x256 .f32) (b : FVec Ideal S256 .f32) (r : Fin 224) (j : Fin 64) (d : Fin 256) :
    remb p W b (ix3 r j d) = (∑ k : Fin 16, p (ix3 r j k) * W (ix2 k d)) + b (ix1 d) := by
  pointwise [remb]

theorem rquery_apply (e : FVec Ideal S224x64x256 .f32) (r : Fin 224) (d : Fin 256) :
    rquery e (ix2 r d) = Ideal.div (∑ p : Fin 64, e (ix3 r p d)) (Ideal.ofBits .f32 0x42800000#32) := by
  pointwise [rquery]

end Cert.EmbedRef

end
-- ==== Proof.EmbedValue.lean ====
module

public import proofs.«01_k».proof.Proof.Gen.EmbedIdeal.Frame
public import proofs.«01_k».proof.Proof.EmbedBlock
public import proofs.«01_k».proof.Proof.EmbedRef
public import Idealize.ShloMosaic.Lib.Pipeline.ValueKit
public import Idealize.ShloMosaic.Lib.Pipeline.ReadBack
public import Idealize.ShloMosaic.Lib.Pointwise

@[expose] public section

set_option maxRecDepth 16384

noncomputable section

namespace Cert.EmbedValue

open Cert.EmbedIdeal Cert.EmbedIdeal.Gen Cert.EmbedBlock Idealize.ShloMosaic Idealize.ShloMosaic.TcCoe Idealize.SL.Sem
open Cert.EmbedRef (rmean rdev rnorm rpatch remb rquery)

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] ∧ win0_4.index t = ![t.val, 0, 0] :=
  (by decide +kernel : ∀ t : Fin grid0.N, _)

/-- The launch's patches. -/
def pat : FVec Ideal S224x64x16 .f32 := rpatch (rnorm (m ((c : Thread nD τ).loc main_arg0)) (rdev (m ((c : Thread nD τ).loc main_arg0))))

set_option maxHeartbeats 4000000 in
theorem V_patches : V m c main_v34 = shapeCast S14336x16 (pat m c) shapeCasts_S224x64x16_S14336x16 := by
  simp only [V, V0, hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

set_option maxHeartbeats 4000000 in
theorem V_dev : V m c main_v9 = rdev (m ((c : Thread nD τ).loc main_arg0)) := by
  simp only [V, V0, hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

set_option maxHeartbeats 4000000 in
theorem V_mean : V m c main_v3 = rmean (m ((c : Thread nD τ).loc main_arg0)) := by
  simp only [V, V0, hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

set_option maxHeartbeats 4000000 in
theorem V_bias : V m c main_v35 = shapeCast S1x256 (m ((c : Thread nD τ).loc main_arg2) : Vec Ideal S256 .f32) shapeCasts_S256_S1x256 := by
  simp only [V, V0, hostOps0, hostOps0_1, hostOps0_2, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

theorem flat_apply (v : FVec Ideal S224x64x16 .f32) (n : Fin 14336) (k : Fin 16) :
    (shapeCast S14336x16 v shapeCasts_S224x64x16_S14336x16) (ix2 n k) = v (ix3 ⟨n.val / 64, by omega⟩ ⟨n.val % 64, by omega⟩ k) := by
  pointwise

theorem bias_apply (v : FVec Ideal S256 .f32) (d : Fin 256) : (shapeCast S1x256 v shapeCasts_S256_S1x256) (ix2 0 d) = v (ix1 d) := by
  pointwise

theorem x_eq (t : Fin cfg0.N) (r : Fin 896) (k : Fin 16) :
    (iblk m c 0 t : Vec Ideal S896x16 .f32) (ix2 r k) = pat m c (ix3 ⟨(t.val * 896 + r.val) / 64, by have : t.val < 16 := t.isLt; omega⟩ ⟨(t.val * 896 + r.val) % 64, by omega⟩ k) := by
  have he : (win0_0.blk t).view.emb (ix2 r k) = ix2 ⟨t.val * 896 + r.val, by have : t.val < 16 := t.isLt; omega⟩ k := by blk_ext [idx t]
  refine (show (iblk m c 0 t) (ix2 r k) = (V m c main_v34) ((win0_0.blk t).view.emb (ix2 r k)) from rfl).trans ?_
  rw [he, V_patches]
  exact flat_apply _ _ k

theorem w_eq (t : Fin cfg0.N) (k : Fin 16) (d : Fin 256) :
    (iblk m c 1 t : Vec Ideal S16x256 .f32) (ix2 k d) = (m ((c : Thread nD τ).loc main_arg1) : Vec Ideal S16x256 .f32) (ix2 k d) := by
  have he : (win0_1.blk t).view.emb (ix2 k d) = ix2 k d := by blk_ext [idx t]
  refine (show (iblk m c 1 t) (ix2 k d) = (V m c main_arg1) ((win0_1.blk t).view.emb (ix2 k d)) from rfl).trans ?_
  rw [he, V_main_arg1]

theorem b_eq (t : Fin cfg0.N) (d : Fin 256) :
    (iblk m c 2 t : Vec Ideal S1x256 .f32) (ix2 0 d) = (m ((c : Thread nD τ).loc main_arg2) : Vec Ideal S256 .f32) (ix1 d) := by
  have he : (win0_2.blk t).view.emb (ix2 0 d) = ix2 0 d := by blk_ext [idx t]
  refine (show (iblk m c 2 t) (ix2 0 d) = (V m c main_v35) ((win0_2.blk t).view.emb (ix2 0 d)) from rfl).trans ?_
  rw [he, V_bias]
  exact bias_apply _ d

/-- The reference's embedding, of the launch's arguments. -/
def emb : FVec Ideal S224x64x256 .f32 := remb (pat m c) (m ((c : Thread nD τ).loc main_arg1)) (m ((c : Thread nD τ).loc main_arg2))

/-- A row of it, the rows numbered through. -/
def embAt (n : Fin 14336) (d : Fin 256) : EReal := emb m c (ix3 ⟨n.val / 64, by omega⟩ ⟨n.val % 64, by omega⟩ d)

/-- A row of its mean over the patches, by block and place in the block. -/
def queryAt (i : Fin 16) (q : Fin 14) (d : Fin 256) : EReal := rquery (emb m c) (ix2 ⟨i.val * 14 + q.val, by omega⟩ d)

theorem embAt_apply (n : Fin 14336) (d : Fin 256) : embAt m c n d
    = (∑ k : Fin 16, pat m c (ix3 ⟨n.val / 64, by omega⟩ ⟨n.val % 64, by omega⟩ k) * (m ((c : Thread nD τ).loc main_arg1) : Vec Ideal S16x256 .f32) (ix2 k d)) + (m ((c : Thread nD τ).loc main_arg2) : Vec Ideal S256 .f32) (ix1 d) := by
  unfold embAt emb
  rw [Cert.EmbedRef.remb_apply]

theorem queryAt_apply (i : Fin 16) (q : Fin 14) (d : Fin 256) : queryAt m c i q d
    = Ideal.div (∑ p : Fin 64, embAt m c ⟨i.val * 896 + (q.val * 64 + p.val), by omega⟩ d) (Ideal.ofBits .f32 0x42800000#32) := by
  unfold queryAt embAt
  generalize emb m c = e
  rw [Cert.EmbedRef.rquery_apply]
  refine congrArg (Ideal.div · _) (Finset.sum_congr rfl fun p _ => ?_)
  refine congrArg e (congrArg₂ (fun a b => ix3 a b d) (Fin.ext ?_) (Fin.ext ?_))
  · show i.val * 14 + q.val = (i.val * 896 + (q.val * 64 + p.val)) / 64
    omega
  · show p.val = (i.val * 896 + (q.val * 64 + p.val)) % 64
    omega

theorem emb_of (x : Vec Ideal S896x16 .f32) (W : Vec Ideal S16x256 .f32) (b : Vec Ideal S1x256 .f32) (n : Fin 14336) (r : Fin 896) (d : Fin 256)
    (hx : ∀ k, x (ix2 r k) = pat m c (ix3 ⟨n.val / 64, by omega⟩ ⟨n.val % 64, by omega⟩ k)) (hW : ∀ k, W (ix2 k d) = (m ((c : Thread nD τ).loc main_arg1) : Vec Ideal S16x256 .f32) (ix2 k d))
    (hb : b (ix2 0 d) = (m ((c : Thread nD τ).loc main_arg2) : Vec Ideal S256 .f32) (ix1 d)) : k0_pay1 x W b (ix2 r d) = embAt m c n d := by
  rw [pay1_apply, embAt_apply, hb]
  refine congrArg (· + _) (Finset.sum_congr rfl fun k _ => ?_)
  rw [hx, hW]

theorem emb_eq (t : Fin cfg0.N) (r : Fin 896) (d : Fin 256) :
    k0_pay1 (iblk m c 0 t) (iblk m c 1 t) (iblk m c 2 t) (ix2 r d) = embAt m c ⟨t.val * 896 + r.val, by have : t.val < 16 := t.isLt; omega⟩ d :=
  emb_of m c _ _ _ _ r d (fun k => x_eq m c t r k) (fun k => w_eq m c t k d) (b_eq m c t d)

theorem query_of (x : Vec Ideal S896x16 .f32) (W : Vec Ideal S16x256 .f32) (b : Vec Ideal S1x256 .f32) (i : Fin 16) (q : Fin 14) (d : Fin 256)
    (h : ∀ r : Fin 896, k0_pay1 x W b (ix2 r d) = embAt m c ⟨i.val * 896 + r.val, by omega⟩ d) : k0_pay2 x W b (ix3 0 q d) = queryAt m c i q d := by
  rw [pay2_apply, queryAt_apply]
  exact congrArg (Ideal.div · _) (Finset.sum_congr rfl fun p _ => h _)

/-- The launch's embedding. -/
theorem final3 : (dats m 0 c).arrAt 3 cfg0.N = fun i => embAt m c (i 0) (i 1) := by
  refine (dats m 0 c).arrAt_eq_of_covers 3 _ (by decide +kernel) fun t hf y => ?_
  blk_simp
  rw [after0_3]
  frame_out
  idx_vars y
  have he : ((View.whole main_v36_0).slice (win0_3.rect t)).emb (ix2 y0 y1) = ix2 ⟨t.val * 896 + y0.val, by have : t.val < 16 := t.isLt; omega⟩ y1 := by blk_ext [idx t]
  rw [he]
  exact emb_eq m c t y0 y1

/-- The launch's mean of the patches. -/
theorem final4 : (dats m 0 c).arrAt 4 cfg0.N = fun i => queryAt m c (i 0) (i 1) (i 2) := by
  refine (dats m 0 c).arrAt_eq_of_covers 4 _ (by decide +kernel) fun t hf y => ?_
  blk_simp
  rw [after0_4]
  frame_out
  idx_vars y
  have he : ((View.whole main_v36_1).slice (win0_4.rect t)).emb (ix3 y0 y1 y2) = ix3 ⟨t.val, t.isLt⟩ y1 y2 := by blk_ext [idx t]
  rw [he]
  have h0 : y0 = 0 := Subsingleton.elim (α := Fin 1) _ _
  subst h0
  exact query_of m c _ _ _ ⟨t.val, t.isLt⟩ y1 y2 fun r => emb_eq m c t r y2

theorem rows_apply (v : FVec Ideal S14336x256 .f32) (r : Fin 224) (p : Fin 64) (d : Fin 256) :
    (shapeCast S224x64x256 v shapeCasts_S14336x256_S224x64x256) (ix3 r p d) = v (ix2 ⟨r.val * 64 + p.val, by omega⟩ d) := by
  pointwise

theorem query_apply (v : FVec Ideal S16x14x256 .f32) (r : Fin 224) (d : Fin 256) :
    (shapeCast S224x256 v shapeCasts_S16x14x256_S224x256) (ix2 r d) = v (ix3 ⟨r.val / 14, by omega⟩ ⟨r.val % 14, by omega⟩ d) := by
  pointwise

theorem rows_eq : shapeCast S224x64x256 ((dats m 0 c).arrAt 3 cfg0.N : FVec Ideal S14336x256 .f32) shapeCasts_S14336x256_S224x64x256 = emb m c := by
  funext i
  idx_vars i
  rw [rows_apply, final3]
  show embAt m c _ _ = _
  unfold embAt
  refine congrArg (emb m c) (congrArg₂ (fun a b => ix3 a b i2) (Fin.ext ?_) (Fin.ext ?_))
  · show (i0.val * 64 + i1.val) / 64 = i0.val
    omega
  · show (i0.val * 64 + i1.val) % 64 = i1.val
    omega

theorem query_eq : shapeCast S224x256 ((dats m 0 c).arrAt 4 cfg0.N : FVec Ideal S16x14x256 .f32) shapeCasts_S16x14x256_S224x256 = rquery (emb m c) := by
  funext i
  idx_vars i
  rw [query_apply, final4]
  show queryAt m c _ _ _ = _
  unfold queryAt
  refine congrArg (rquery (emb m c)) (congrArg (fun a => ix2 a i1) (Fin.ext ?_))
  show i0.val / 14 * 14 + i0.val % 14 = i0.val
  omega

theorem out_emb : Pipeline.afterTail₀ cfgs (dats m) 0 (V0 m) [hostOps1] c main_v37 = emb m c := by
  unfold Pipeline.afterTail₀
  rw [List.flatten_singleton]
  after_results_simp
  have e := Pipeline.withArrays_arr spec0 (by decide) c (V0 m c) (fun w => (dats m 0 c).arrAt w cfg0.N) 3
  rw [show Pipeline.withArrays (cfgs 0).spec c (V0 m c) (fun w => (dats m 0 c).arrAt w (cfgs 0).N) (Proc.tc.devRef main_v36_0) = _ from e]
  exact rows_eq m c

theorem out_query : Pipeline.afterTail₀ cfgs (dats m) 0 (V0 m) [hostOps1] c main_v38 = rquery (emb m c) := by
  unfold Pipeline.afterTail₀
  rw [List.flatten_singleton]
  after_results_simp
  have e := Pipeline.withArrays_arr spec0 (by decide) c (V0 m c) (fun w => (dats m 0 c).arrAt w cfg0.N) 4
  rw [show Pipeline.withArrays (cfgs 0).spec c (V0 m c) (fun w => (dats m 0 c).arrAt w (cfgs 0).N) (Proc.tc.devRef main_v36_1) = _ from e]
  exact query_eq m c

theorem out_dev : Pipeline.afterTail₀ cfgs (dats m) 0 (V0 m) [hostOps1] c main_v9 = rdev (m ((c : Thread nD τ).loc main_arg0)) := by
  unfold Pipeline.afterTail₀
  rw [List.flatten_singleton]
  after_results_simp
  exact (Pipeline.withArrays_of_ne spec0 c (V0 m c) (fun w => (dats m 0 c).arrAt w cfg0.N) main_v9 (by exact (by decide : ∀ w, Pipeline.arrRef spec0 w ≠ main_v9))).trans (V_dev m c)

theorem out_mean : Pipeline.afterTail₀ cfgs (dats m) 0 (V0 m) [hostOps1] c main_v3 = rmean (m ((c : Thread nD τ).loc main_arg0)) := by
  unfold Pipeline.afterTail₀
  rw [List.flatten_singleton]
  after_results_simp
  exact (Pipeline.withArrays_of_ne spec0 c (V0 m c) (fun w => (dats m 0 c).arrAt w cfg0.N) main_v3 (by exact (by decide : ∀ w, Pipeline.arrRef spec0 w ≠ main_v3))).trans (V_mean m c)

end Cert.EmbedValue

end
-- ==== Proof.lean ====
module

public import proofs.«01_k».proof.Defs
public import proofs.«01_k».proof.Proof.Gen.Topk
public import proofs.«01_k».proof.Proof.Gen.Topk.Skeleton
public import proofs.«01_k».proof.Proof.Gen.Topk.Launch
public import proofs.«01_k».proof.Proof.Gen.Topk.Points
public import proofs.«01_k».proof.Proof.Gen.Topk.Frame
public import proofs.«01_k».proof.Proof.Gen.TopkIdeal
public import proofs.«01_k».proof.Proof.Gen.TopkIdeal.Skeleton
public import proofs.«01_k».proof.Proof.Gen.TopkIdeal.Launch
public import proofs.«01_k».proof.Proof.Gen.TopkIdeal.Points
public import proofs.«01_k».proof.Proof.Gen.TopkIdeal.Frame
public import proofs.«01_k».proof.Proof.Gen.TopkRefIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_apart
public import proofs.«01_k».proof.Proof.Gen.TopkIdeal.Value
public import proofs.«01_k».proof.Proof.Gen.TopkRefIdeal.Run
public import proofs.«01_k».proof.Proof.Gen.AttnIdeal.Value
public import proofs.«01_k».proof.Proof.Gen.AttnRefIdeal.Run
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadRefIdeal
public import proofs.«01_k».proof.Proof.Gen.Pre_finite_gate
public import proofs.«01_k».proof.Proof.Gen.HeadRefIdeal.Run
public import proofs.«01_k».proof.Proof.Gen.Embed
public import proofs.«01_k».proof.Proof.Gen.Embed.Skeleton
public import proofs.«01_k».proof.Proof.Gen.Embed.Launch
public import proofs.«01_k».proof.Proof.Gen.Embed.Points
public import proofs.«01_k».proof.Proof.Gen.Embed.Frame
public import proofs.«01_k».proof.Proof.Gen.EmbedIdeal
public import proofs.«01_k».proof.Proof.Gen.EmbedIdeal.Skeleton
public import proofs.«01_k».proof.Proof.Gen.EmbedIdeal.Launch
public import proofs.«01_k».proof.Proof.Gen.EmbedIdeal.Points
public import proofs.«01_k».proof.Proof.Gen.EmbedIdeal.Frame
public import proofs.«01_k».proof.Proof.Gen.EmbedRefIdeal
public import proofs.«01_k».proof.Proof.Gen.EmbedRefIdeal.Run
public import proofs.«01_k».proof.Proof.Gen.Local
public import proofs.«01_k».proof.Proof.Gen.Local.Skeleton
public import proofs.«01_k».proof.Proof.Gen.Local.Launch
public import proofs.«01_k».proof.Proof.Gen.Local.Points
public import proofs.«01_k».proof.Proof.Gen.Local.Frame.Runs
public import proofs.«01_k».proof.Proof.Gen.LocalIdeal
public import proofs.«01_k».proof.Proof.Gen.LocalIdeal.Skeleton
public import proofs.«01_k».proof.Proof.Gen.LocalIdeal.Launch
public import proofs.«01_k».proof.Proof.Gen.LocalIdeal.Points
public import proofs.«01_k».proof.Proof.Gen.LocalIdeal.Frame.Runs
public import proofs.«01_k».proof.Proof.Gen.LocalRefIdeal
public import proofs.«01_k».proof.Proof.Gen.LocalRefIdeal.Run
public import proofs.«01_k».proof.Proof.Gen.Pre_in_bank
public import proofs.«01_k».proof.Proof.AttnValue
public import proofs.«01_k».proof.Proof.TopkValue
public import proofs.«01_k».proof.Proof.HeadValue
public import proofs.«01_k».proof.Proof.LocalFrame
public import proofs.«01_k».proof.Proof.LocalOk
public import proofs.«01_k».proof.Proof.LocalPre
public import proofs.«01_k».proof.Proof.LocalValue
public import proofs.«01_k».proof.Proof.EmbedValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Attn

theorem attn_frame : Cert.quiescent_Attn := fun m g _ => Cert.Attn.Gen.frame m g

theorem attnIdeal_frame : Cert.quiescent_AttnIdeal := fun m g _ => Cert.AttnIdeal.Gen.frame m g

theorem attnRefIdeal_frame : Cert.quiescent_AttnRefIdeal := fun m g _ =>
  (θ_run Cert.AttnRefIdeal.defs _ _).mono
    (fun r h => ⟨fun c => (h c).2, sem_eq_zero_of_no_sems (by decide) r.2⟩)
    (Cert.AttnRefIdeal.Value.run m g)

theorem attn_algebraic : Cert.algebraic_AttnIdeal_AttnRefIdeal := by
  pair_intro
  · run_from Cert.AttnIdeal.Value.run_blocks m g
  · run_from Cert.AttnRefIdeal.Value.run m' g'
    rw [Cert.AttnRefTerm.res_eq]
    rw [Cert.AttnValue.final]
    simp only [hagree c]

theorem topk_frame : Cert.quiescent_Topk := fun m g _ => Cert.Topk.Gen.frame m g

theorem topkIdeal_frame : Cert.quiescent_TopkIdeal := fun m g _ => Cert.TopkIdeal.Gen.frame m g

theorem topkRefIdeal_frame : Cert.quiescent_TopkRefIdeal := fun m g _ =>
  (θ_run Cert.TopkRefIdeal.defs _ _).mono
    (fun r h => ⟨fun c => (h c).2, sem_eq_zero_of_no_sems (by decide) r.2⟩)
    (Cert.TopkRefIdeal.Value.run m g)

theorem topk_algebraic : Cert.algebraic_TopkIdeal_TopkRefIdeal_pre_apart := by
  intro m g m' g' hpre hagree
  refine ⟨_, (θ_run Cert.TopkIdeal.defs _ _).mono (fun r h => h) (Cert.TopkIdeal.Value.run m g),
    (θ_run Cert.TopkRefIdeal.defs _ _).mono (fun r h c => ⟨(h c).1.trans ?_, (h c).2⟩) (Cert.TopkRefIdeal.Value.run m' g')⟩
  rw [(hagree c).1, (hagree c).2]
  rw [← Cert.TopkIdeal.Value.final2 m c]
  exact (Cert.TopkValue.final m c (hpre c) _ (fun r j => Cert.TopkRef.ref_apply _ _ r j)).symm

theorem head_frame : Cert.quiescent_Head := fun m g _ => Cert.Head.Gen.frame m g

theorem headIdeal_frame : Cert.quiescent_HeadIdeal := fun m g _ => Cert.HeadIdeal.Gen.frame m g

theorem headRefIdeal_frame : Cert.quiescent_HeadRefIdeal := fun m g _ =>
  (θ_run Cert.HeadRefIdeal.defs _ _).mono
    (fun r h => ⟨fun c => (h c).2, sem_eq_zero_of_no_sems (by decide) r.2⟩)
    (Cert.HeadRefIdeal.Value.run m g)

theorem head_algebraic : Cert.algebraic_HeadIdeal_HeadRefIdeal_pre_finite_gate := by
  intro m g m' g' hpre hagree
  refine ⟨_, (θ_run Cert.HeadIdeal.defs _ _).mono (fun r h c => ⟨((h.1 c).2 Cert.HeadIdeal.main_v16 (Pipeline.mem_restRefs_of Cert.HeadIdeal.main_v16 (by decide) (by decide))).trans (Cert.HeadValue.out_eq m c), h.2.1 c⟩)
      (θ_run_and (Cert.HeadIdeal.Gen.run_main m g) (Cert.HeadIdeal.Gen.frame m g)),
    (θ_run Cert.HeadRefIdeal.defs _ _).mono (fun r h c => ⟨(h c).1.trans ?_, (h c).2⟩) (Cert.HeadRefIdeal.Value.run m' g')⟩
  obtain ⟨h0, h1, h2, h3, h4, h5, h6, h7, h8, h9, h10, h11, h12, h13, h14⟩ := hagree c
  rw [Cert.HeadRef.res_eq, h0, h1, h2, h3, h4, h5, h6, h7, h8, h9, h10, h11, h12, h13, h14]
  exact Cert.HeadValue.whole m c (Cert.HeadRef.pre_apply _ _ _ _ _ _ _ _ _ _ _ _ _ _ _ (hpre c))

theorem embed_frame : Cert.quiescent_Embed := fun m g _ => Cert.Embed.Gen.frame m g

theorem embedIdeal_frame : Cert.quiescent_EmbedIdeal := fun m g _ => Cert.EmbedIdeal.Gen.frame m g

theorem embedRefIdeal_frame : Cert.quiescent_EmbedRefIdeal := fun m g _ =>
  (θ_run Cert.EmbedRefIdeal.defs _ _).mono
    (fun r h => ⟨fun c => (h c).2.2.2.2, sem_eq_zero_of_no_sems (by decide) r.2⟩)
    (Cert.EmbedRefIdeal.Value.run m g)

theorem embed_algebraic : Cert.algebraic_EmbedIdeal_EmbedRefIdeal := by
  intro m g m' g' hpre hagree
  refine ⟨_, _, _, _, (θ_run Cert.EmbedIdeal.defs _ _).mono (fun r h c =>
      ⟨((h.1 c).2 Cert.EmbedIdeal.main_v37 (Pipeline.mem_restRefs_of Cert.EmbedIdeal.main_v37 (by decide) (by decide))).trans (Cert.EmbedValue.out_emb m c),
        ((h.1 c).2 Cert.EmbedIdeal.main_v38 (Pipeline.mem_restRefs_of Cert.EmbedIdeal.main_v38 (by decide) (by decide))).trans (Cert.EmbedValue.out_query m c),
        ((h.1 c).2 Cert.EmbedIdeal.main_v9 (Pipeline.mem_restRefs_of Cert.EmbedIdeal.main_v9 (by decide) (by decide))).trans (Cert.EmbedValue.out_dev m c),
        ((h.1 c).2 Cert.EmbedIdeal.main_v3 (Pipeline.mem_restRefs_of Cert.EmbedIdeal.main_v3 (by decide) (by decide))).trans (Cert.EmbedValue.out_mean m c), h.2.1 c⟩)
      (θ_run_and (Cert.EmbedIdeal.Gen.run_main m g) (Cert.EmbedIdeal.Gen.frame m g)),
    (θ_run Cert.EmbedRefIdeal.defs _ _).mono (fun r h c => ⟨(h c).1.trans ?_, (h c).2.1.trans ?_, (h c).2.2.1.trans ?_, (h c).2.2.2.1.trans ?_, (h c).2.2.2.2⟩) (Cert.EmbedRefIdeal.Value.run m' g')⟩
  all_goals obtain ⟨h0, h1, h2⟩ := hagree c
  · rw [Cert.EmbedRef.res_emb_eq, h0, h1, h2]
    rfl
  · rw [Cert.EmbedRef.res_query, Cert.EmbedRef.res_emb_eq, h0, h1, h2]
    rfl
  · rw [h0]
    exact Cert.EmbedRef.rone_eq (Cert.EmbedRef.rdev _)
  · rw [h0]
    rfl

theorem local_frame : Cert.quiescent_Local := fun m g h =>
  Cert.Local.Gen.frame m g (Cert.LocalOk.ok m (Cert.LocalPre.word_lt _ _ _ _ _ _ (h 0)))

theorem localIdeal_frame : Cert.quiescent_LocalIdeal := fun m g h =>
  Cert.LocalIdeal.Gen.frame m g (Cert.LocalIdealOk.ok m (Cert.LocalPre.word_lt _ _ _ _ _ _ (h 0)))

theorem localRefIdeal_frame : Cert.quiescent_LocalRefIdeal := fun m g _ =>
  (θ_run Cert.LocalRefIdeal.defs _ _).mono
    (fun r h => ⟨fun c => (h c).2, sem_eq_zero_of_no_sems (by decide) r.2⟩)
    (Cert.LocalRefIdeal.Value.run m g)

theorem local_algebraic : Cert.algebraic_LocalIdeal_LocalRefIdeal := by
  intro m g m' g' hpre hagree
  have hw : ∀ w, ((m (((0 : Dev Cert.LocalIdeal.nD).tc : Thread Cert.LocalIdeal.nD Cert.LocalIdeal.τ).loc Cert.LocalIdeal.main_arg0) : IVec Cert.LocalIdeal.S1120 32) w).toNat < 100000 :=
    Cert.LocalPre.word_lt _ _ _ _ _ _ (hpre 0)
  have hO := Cert.LocalIdealOk.ok m hw
  refine ⟨fun c => (Cert.LocalIdeal.Gen.dats m hO 0 c).arrAt 84 (Cert.LocalIdeal.Gen.cfgM m hO).N,
    (θ_run Cert.LocalIdeal.defs _ _).mono (fun r h c => ⟨(h.1 c).1 84, h.2.1 c⟩)
      (θ_run_and (Cert.LocalIdeal.Gen.run_main m g hO) (Cert.LocalIdeal.Gen.frame m g hO)),
    (θ_run Cert.LocalRefIdeal.defs _ _).mono (fun r h c => ⟨(h c).1.trans ?_, (h c).2⟩) (Cert.LocalRefIdeal.Value.run m' g')⟩
  obtain ⟨h0, h1, h2, h3, h4, h5⟩ := hagree c
  rw [h0, h1, h2, h3, h4, h5]
  obtain rfl : c = 0 := Subsingleton.elim _ _
  refine Eq.trans ?_ ((Cert.LocalValue.final m hO (fun w => by rw [Cert.LocalIdealOk.tbl_eq]; exact hw w) 0).trans (Cert.LocalValue.whole m 0 hw)).symm
  rfl

theorem claim : Cert.Claim := ⟨Cert.Topk.Gen.facts, Cert.TopkIdeal.Gen.facts, Cert.TopkRefIdeal.Gen.facts, Cert.Attn.Gen.facts, Cert.AttnIdeal.Gen.facts, Cert.AttnRefIdeal.Gen.facts,
  Cert.Head.Gen.facts, Cert.HeadIdeal.Gen.facts, Cert.HeadRefIdeal.Gen.facts, Cert.Embed.Gen.facts, Cert.EmbedIdeal.Gen.facts, Cert.EmbedRefIdeal.Gen.facts, Cert.Local.Gen.facts, Cert.LocalIdeal.Gen.facts, Cert.LocalRefIdeal.Gen.facts, Cert.Pre_apart.Gen.facts, Cert.Pre_finite_gate.Gen.facts, Cert.Pre_in_bank.Gen.facts,
  topk_frame, topkIdeal_frame, fun m g _ => topkIdeal_frame m g trivial, topkRefIdeal_frame, fun m g _ => topkRefIdeal_frame m g trivial,
  attn_frame, attnIdeal_frame, attnRefIdeal_frame,
  head_frame, headIdeal_frame, fun m g _ => headIdeal_frame m g trivial, headRefIdeal_frame, fun m g _ => headRefIdeal_frame m g trivial,
  embed_frame, embedIdeal_frame, embedRefIdeal_frame,
  local_frame, localIdeal_frame, localRefIdeal_frame, fun m g _ => localRefIdeal_frame m g trivial,
  IdealRules.named_const.statement _ _ _ _ _ rfl, topk_algebraic, trivial, attn_algebraic, trivial, head_algebraic, trivial, embed_algebraic, trivial, local_algebraic⟩

end Cert.Proof

end
